-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Expert (m : (ℓ : Loc Cert.Expert.nD Cert.Expert.τ Cert.Expert.sig) → Buf (Elt Bits) ℓ) : Prop :=
  True

def Pre_ExpertIdeal (m : (ℓ : Loc Cert.ExpertIdeal.nD Cert.ExpertIdeal.τ Cert.ExpertIdeal.sig) → Buf (Elt Ideal) ℓ) : Prop :=
  True

def Pre_ExpertIdeal_routed [hPre_routed : Cert.Pre_routed.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_routed.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6)) (m ((c.tc : Thread Cert.ExpertIdeal.nD Cert.ExpertIdeal.τ).loc Cert.ExpertIdeal.main_arg7)) (m ((c.tc : Thread Cert.ExpertIdeal.nD Cert.ExpertIdeal.τ).loc Cert.ExpertIdeal.main_arg8)) (m ((c.tc : Thread Cert.ExpertIdeal.nD Cert.ExpertIdeal.τ).loc Cert.ExpertIdeal.main_arg9))).1 = (fun _ => 1#1)
    ∧ (Cert.Pre_routed.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6)) (m ((c.tc : Thread Cert.ExpertIdeal.nD Cert.ExpertIdeal.τ).loc Cert.ExpertIdeal.main_arg7)) (m ((c.tc : Thread Cert.ExpertIdeal.nD Cert.ExpertIdeal.τ).loc Cert.ExpertIdeal.main_arg8)) (m ((c.tc : Thread Cert.ExpertIdeal.nD Cert.ExpertIdeal.τ).loc Cert.ExpertIdeal.main_arg9))).2.1 = (fun _ => 1#1)
    ∧ (Cert.Pre_routed.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6)) (m ((c.tc : Thread Cert.ExpertIdeal.nD Cert.ExpertIdeal.τ).loc Cert.ExpertIdeal.main_arg7)) (m ((c.tc : Thread Cert.ExpertIdeal.nD Cert.ExpertIdeal.τ).loc Cert.ExpertIdeal.main_arg8)) (m ((c.tc : Thread Cert.ExpertIdeal.nD Cert.ExpertIdeal.τ).loc Cert.ExpertIdeal.main_arg9))).2.2 = (fun _ => 1#1)

def Pre_ExpertRefIdeal (m : (ℓ : Loc Cert.ExpertRefIdeal.nD Cert.ExpertRefIdeal.τ Cert.ExpertRefIdeal.sig) → Buf (Elt Ideal) ℓ) : Prop :=
  True

def Pre_ExpertRefIdeal_routed [hPre_routed : Cert.Pre_routed.Facts] (m : (ℓ : Loc Cert.ExpertRefIdeal.nD Cert.ExpertRefIdeal.τ Cert.ExpertRefIdeal.sig) → Buf (Elt Ideal) ℓ) : Prop :=
  ∀ c : Dev Cert.ExpertRefIdeal.nD,
    (Cert.Pre_routed.fn (F := Ideal) (m ((c.tc : Thread Cert.ExpertRefIdeal.nD Cert.ExpertRefIdeal.τ).loc Cert.ExpertRefIdeal.main_arg0)) (m ((c.tc : Thread Cert.ExpertRefIdeal.nD Cert.ExpertRefIdeal.τ).loc Cert.ExpertRefIdeal.main_arg1)) (m ((c.tc : Thread Cert.ExpertRefIdeal.nD Cert.ExpertRefIdeal.τ).loc Cert.ExpertRefIdeal.main_arg2)) (m ((c.tc : Thread Cert.ExpertRefIdeal.nD Cert.ExpertRefIdeal.τ).loc Cert.ExpertRefIdeal.main_arg3)) (m ((c.tc : Thread Cert.ExpertRefIdeal.nD Cert.ExpertRefIdeal.τ).loc Cert.ExpertRefIdeal.main_arg4)) (m ((c.tc : Thread Cert.ExpertRefIdeal.nD Cert.ExpertRefIdeal.τ).loc Cert.ExpertRefIdeal.main_arg5)) (m ((c.tc : Thread Cert.ExpertRefIdeal.nD Cert.ExpertRefIdeal.τ).loc Cert.ExpertRefIdeal.main_arg6)) (m ((c.tc : Thread Cert.ExpertRefIdeal.nD Cert.ExpertRefIdeal.τ).loc Cert.ExpertRefIdeal.main_arg7)) (m ((c.tc : Thread Cert.ExpertRefIdeal.nD Cert.ExpertRefIdeal.τ).loc Cert.ExpertRefIdeal.main_arg8)) (m ((c.tc : Thread Cert.ExpertRefIdeal.nD Cert.ExpertRefIdeal.τ).loc Cert.ExpertRefIdeal.main_arg9))).1 = (fun _ => 1#1)
    ∧ (Cert.Pre_routed.fn (F := Ideal) (m ((c.tc : Thread Cert.ExpertRefIdeal.nD Cert.ExpertRefIdeal.τ).loc Cert.ExpertRefIdeal.main_arg0)) (m ((c.tc : Thread Cert.ExpertRefIdeal.nD Cert.ExpertRefIdeal.τ).loc Cert.ExpertRefIdeal.main_arg1)) (m ((c.tc : Thread Cert.ExpertRefIdeal.nD Cert.ExpertRefIdeal.τ).loc Cert.ExpertRefIdeal.main_arg2)) (m ((c.tc : Thread Cert.ExpertRefIdeal.nD Cert.ExpertRefIdeal.τ).loc Cert.ExpertRefIdeal.main_arg3)) (m ((c.tc : Thread Cert.ExpertRefIdeal.nD Cert.ExpertRefIdeal.τ).loc Cert.ExpertRefIdeal.main_arg4)) (m ((c.tc : Thread Cert.ExpertRefIdeal.nD Cert.ExpertRefIdeal.τ).loc Cert.ExpertRefIdeal.main_arg5)) (m ((c.tc : Thread Cert.ExpertRefIdeal.nD Cert.ExpertRefIdeal.τ).loc Cert.ExpertRefIdeal.main_arg6)) (m ((c.tc : Thread Cert.ExpertRefIdeal.nD Cert.ExpertRefIdeal.τ).loc Cert.ExpertRefIdeal.main_arg7)) (m ((c.tc : Thread Cert.ExpertRefIdeal.nD Cert.ExpertRefIdeal.τ).loc Cert.ExpertRefIdeal.main_arg8)) (m ((c.tc : Thread Cert.ExpertRefIdeal.nD Cert.ExpertRefIdeal.τ).loc Cert.ExpertRefIdeal.main_arg9))).2.1 = (fun _ => 1#1)
    ∧ (Cert.Pre_routed.fn (F := Ideal) (m ((c.tc : Thread Cert.ExpertRefIdeal.nD Cert.ExpertRefIdeal.τ).loc Cert.ExpertRefIdeal.main_arg0)) (m ((c.tc : Thread Cert.ExpertRefIdeal.nD Cert.ExpertRefIdeal.τ).loc Cert.ExpertRefIdeal.main_arg1)) (m ((c.tc : Thread Cert.ExpertRefIdeal.nD Cert.ExpertRefIdeal.τ).loc Cert.ExpertRefIdeal.main_arg2)) (m ((c.tc : Thread Cert.ExpertRefIdeal.nD Cert.ExpertRefIdeal.τ).loc Cert.ExpertRefIdeal.main_arg3)) (m ((c.tc : Thread Cert.ExpertRefIdeal.nD Cert.ExpertRefIdeal.τ).loc Cert.ExpertRefIdeal.main_arg4)) (m ((c.tc : Thread Cert.ExpertRefIdeal.nD Cert.ExpertRefIdeal.τ).loc Cert.ExpertRefIdeal.main_arg5)) (m ((c.tc : Thread Cert.ExpertRefIdeal.nD Cert.ExpertRefIdeal.τ).loc Cert.ExpertRefIdeal.main_arg6)) (m ((c.tc : Thread Cert.ExpertRefIdeal.nD Cert.ExpertRefIdeal.τ).loc Cert.ExpertRefIdeal.main_arg7)) (m ((c.tc : Thread Cert.ExpertRefIdeal.nD Cert.ExpertRefIdeal.τ).loc Cert.ExpertRefIdeal.main_arg8)) (m ((c.tc : Thread Cert.ExpertRefIdeal.nD Cert.ExpertRefIdeal.τ).loc Cert.ExpertRefIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4)
      ∧ r.2.mem ((c.tc : Thread Cert.Query.nD Cert.Query.τ).loc Cert.Query.main_arg5) = m ((c.tc : Thread Cert.Query.nD Cert.Query.τ).loc Cert.Query.main_arg5))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
      ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4)
      ∧ r.2.mem ((c.tc : Thread Cert.QueryRefIdeal.nD Cert.QueryRefIdeal.τ).loc Cert.QueryRefIdeal.main_arg5) = m ((c.tc : Thread Cert.QueryRefIdeal.nD Cert.QueryRefIdeal.τ).loc Cert.QueryRefIdeal.main_arg5))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5))
      ∧ r.2.sem = fun _ => 0)

def quiescent_Expert [hExpert : Cert.Expert.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4)
      ∧ r.2.mem ((c.tc : Thread Cert.Expert.nD Cert.Expert.τ).loc Cert.Expert.main_arg5) = m ((c.tc : Thread Cert.Expert.nD Cert.Expert.τ).loc Cert.Expert.main_arg5)
      ∧ r.2.mem ((c.tc : Thread Cert.Expert.nD Cert.Expert.τ).loc Cert.Expert.main_arg6) = m ((c.tc : Thread Cert.Expert.nD Cert.Expert.τ).loc Cert.Expert.main_arg6)
      ∧ r.2.mem ((c.tc : Thread Cert.Expert.nD Cert.Expert.τ).loc Cert.Expert.main_arg7) = m ((c.tc : Thread Cert.Expert.nD Cert.Expert.τ).loc Cert.Expert.main_arg7)
      ∧ r.2.mem ((c.tc : Thread Cert.Expert.nD Cert.Expert.τ).loc Cert.Expert.main_arg8) = m ((c.tc : Thread Cert.Expert.nD Cert.Expert.τ).loc Cert.Expert.main_arg8)
      ∧ r.2.mem ((c.tc : Thread Cert.Expert.nD Cert.Expert.τ).loc Cert.Expert.main_arg9) = m ((c.tc : Thread Cert.Expert.nD Cert.Expert.τ).loc Cert.Expert.main_arg9))
      ∧ r.2.sem = fun _ => 0)

def quiescent_ExpertIdeal [hExpertIdeal : Cert.ExpertIdeal.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
      ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6)
      ∧ r.2.mem ((c.tc : Thread Cert.ExpertIdeal.nD Cert.ExpertIdeal.τ).loc Cert.ExpertIdeal.main_arg7) = m ((c.tc : Thread Cert.ExpertIdeal.nD Cert.ExpertIdeal.τ).loc Cert.ExpertIdeal.main_arg7)
      ∧ r.2.mem ((c.tc : Thread Cert.ExpertIdeal.nD Cert.ExpertIdeal.τ).loc Cert.ExpertIdeal.main_arg8) = m ((c.tc : Thread Cert.ExpertIdeal.nD Cert.ExpertIdeal.τ).loc Cert.ExpertIdeal.main_arg8)
      ∧ r.2.mem ((c.tc : Thread Cert.ExpertIdeal.nD Cert.ExpertIdeal.τ).loc Cert.ExpertIdeal.main_arg9) = m ((c.tc : Thread Cert.ExpertIdeal.nD Cert.ExpertIdeal.τ).loc Cert.ExpertIdeal.main_arg9))
      ∧ r.2.sem = fun _ => 0)

def quiescent_ExpertIdeal_pre_routed [hExpertIdeal : Cert.ExpertIdeal.Facts] [hPre_routed : Cert.Pre_routed.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal_routed m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
      ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6)
      ∧ r.2.mem ((c.tc : Thread Cert.ExpertIdeal.nD Cert.ExpertIdeal.τ).loc Cert.ExpertIdeal.main_arg7) = m ((c.tc : Thread Cert.ExpertIdeal.nD Cert.ExpertIdeal.τ).loc Cert.ExpertIdeal.main_arg7)
      ∧ r.2.mem ((c.tc : Thread Cert.ExpertIdeal.nD Cert.ExpertIdeal.τ).loc Cert.ExpertIdeal.main_arg8) = m ((c.tc : Thread Cert.ExpertIdeal.nD Cert.ExpertIdeal.τ).loc Cert.ExpertIdeal.main_arg8)
      ∧ r.2.mem ((c.tc : Thread Cert.ExpertIdeal.nD Cert.ExpertIdeal.τ).loc Cert.ExpertIdeal.main_arg9) = m ((c.tc : Thread Cert.ExpertIdeal.nD Cert.ExpertIdeal.τ).loc Cert.ExpertIdeal.main_arg9))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5)
      ∧ r.2.mem ((c.tc : Thread Cert.ExpertRefIdeal.nD Cert.ExpertRefIdeal.τ).loc Cert.ExpertRefIdeal.main_arg6) = m ((c.tc : Thread Cert.ExpertRefIdeal.nD Cert.ExpertRefIdeal.τ).loc Cert.ExpertRefIdeal.main_arg6)
      ∧ r.2.mem ((c.tc : Thread Cert.ExpertRefIdeal.nD Cert.ExpertRefIdeal.τ).loc Cert.ExpertRefIdeal.main_arg7) = m ((c.tc : Thread Cert.ExpertRefIdeal.nD Cert.ExpertRefIdeal.τ).loc Cert.ExpertRefIdeal.main_arg7)
      ∧ r.2.mem ((c.tc : Thread Cert.ExpertRefIdeal.nD Cert.ExpertRefIdeal.τ).loc Cert.ExpertRefIdeal.main_arg8) = m ((c.tc : Thread Cert.ExpertRefIdeal.nD Cert.ExpertRefIdeal.τ).loc Cert.ExpertRefIdeal.main_arg8)
      ∧ r.2.mem ((c.tc : Thread Cert.ExpertRefIdeal.nD Cert.ExpertRefIdeal.τ).loc Cert.ExpertRefIdeal.main_arg9) = m ((c.tc : Thread Cert.ExpertRefIdeal.nD Cert.ExpertRefIdeal.τ).loc Cert.ExpertRefIdeal.main_arg9))
      ∧ r.2.sem = fun _ => 0)

def quiescent_ExpertRefIdeal_pre_routed [hExpertRefIdeal : Cert.ExpertRefIdeal.Facts] [hPre_routed : Cert.Pre_routed.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal_routed m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5)
      ∧ r.2.mem ((c.tc : Thread Cert.ExpertRefIdeal.nD Cert.ExpertRefIdeal.τ).loc Cert.ExpertRefIdeal.main_arg6) = m ((c.tc : Thread Cert.ExpertRefIdeal.nD Cert.ExpertRefIdeal.τ).loc Cert.ExpertRefIdeal.main_arg6)
      ∧ r.2.mem ((c.tc : Thread Cert.ExpertRefIdeal.nD Cert.ExpertRefIdeal.τ).loc Cert.ExpertRefIdeal.main_arg7) = m ((c.tc : Thread Cert.ExpertRefIdeal.nD Cert.ExpertRefIdeal.τ).loc Cert.ExpertRefIdeal.main_arg7)
      ∧ r.2.mem ((c.tc : Thread Cert.ExpertRefIdeal.nD Cert.ExpertRefIdeal.τ).loc Cert.ExpertRefIdeal.main_arg8) = m ((c.tc : Thread Cert.ExpertRefIdeal.nD Cert.ExpertRefIdeal.τ).loc Cert.ExpertRefIdeal.main_arg8)
      ∧ r.2.mem ((c.tc : Thread Cert.ExpertRefIdeal.nD Cert.ExpertRefIdeal.τ).loc Cert.ExpertRefIdeal.main_arg9) = m ((c.tc : Thread Cert.ExpertRefIdeal.nD Cert.ExpertRefIdeal.τ).loc Cert.ExpertRefIdeal.main_arg9))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v26)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v26) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v26) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)
      ∧ m' ((c.tc : Thread Cert.QueryRefIdeal.nD Cert.QueryRefIdeal.τ).loc Cert.QueryRefIdeal.main_arg4) = m ((c.tc : Thread Cert.QueryIdeal.nD Cert.QueryIdeal.τ).loc Cert.QueryIdeal.main_arg4)
      ∧ m' ((c.tc : Thread Cert.QueryRefIdeal.nD Cert.QueryRefIdeal.τ).loc Cert.QueryRefIdeal.main_arg5) = m ((c.tc : Thread Cert.QueryIdeal.nD Cert.QueryIdeal.τ).loc Cert.QueryIdeal.main_arg5)) →
    ∃ (v0 : (c : Dev Cert.QueryIdeal.nD) → Buf (Elt Ideal) ((c.tc : Thread Cert.QueryIdeal.nD Cert.QueryIdeal.τ).loc Cert.QueryIdeal.main_v21_0)) (v1 : (c : Dev Cert.QueryIdeal.nD) → Buf (Elt Ideal) ((c.tc : Thread Cert.QueryIdeal.nD Cert.QueryIdeal.τ).loc Cert.QueryIdeal.main_v21_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v21_0) = v0 c
          ∧ r.2.mem ((c.tc : Thread Cert.QueryIdeal.nD Cert.QueryIdeal.τ).loc Cert.QueryIdeal.main_v21_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
          ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v56) = v0 c
          ∧ r.2.mem ((c.tc : Thread Cert.QueryRefIdeal.nD Cert.QueryRefIdeal.τ).loc Cert.QueryRefIdeal.main_v57) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3)
          ∧ r.2.mem ((c.tc : Thread Cert.QueryRefIdeal.nD Cert.QueryRefIdeal.τ).loc Cert.QueryRefIdeal.main_arg4) = m' ((c.tc : Thread Cert.QueryRefIdeal.nD Cert.QueryRefIdeal.τ).loc Cert.QueryRefIdeal.main_arg4)
          ∧ r.2.mem ((c.tc : Thread Cert.QueryRefIdeal.nD Cert.QueryRefIdeal.τ).loc Cert.QueryRefIdeal.main_arg5) = m' ((c.tc : Thread Cert.QueryRefIdeal.nD Cert.QueryRefIdeal.τ).loc Cert.QueryRefIdeal.main_arg5))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)) →
    ∃ (v0 : (c : Dev Cert.OddIdeal.nD) → Buf (Elt Ideal) ((c.tc : Thread Cert.OddIdeal.nD Cert.OddIdeal.τ).loc Cert.OddIdeal.main_v22_0)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v22_0) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v59) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)
      ∧ m' ((c.tc : Thread Cert.EvenRefIdeal.nD Cert.EvenRefIdeal.τ).loc Cert.EvenRefIdeal.main_arg5) = m ((c.tc : Thread Cert.EvenIdeal.nD Cert.EvenIdeal.τ).loc Cert.EvenIdeal.main_arg5)) →
    ∃ (v0 : (c : Dev Cert.EvenIdeal.nD) → Buf (Elt Ideal) ((c.tc : Thread Cert.EvenIdeal.nD Cert.EvenIdeal.τ).loc Cert.EvenIdeal.main_v27_0)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v27_0) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v65) = v0 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5))

def preserves_Expert_ExpertIdeal : Prop :=
  True

def algebraic_ExpertIdeal_ExpertRefIdeal_pre_routed [hExpertIdeal : Cert.ExpertIdeal.Facts] [hExpertRefIdeal : Cert.ExpertRefIdeal.Facts] [hPre_routed : Cert.Pre_routed.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal_routed m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)
      ∧ m' ((c.tc : Thread Cert.ExpertRefIdeal.nD Cert.ExpertRefIdeal.τ).loc Cert.ExpertRefIdeal.main_arg5) = m ((c.tc : Thread Cert.ExpertIdeal.nD Cert.ExpertIdeal.τ).loc Cert.ExpertIdeal.main_arg5)
      ∧ m' ((c.tc : Thread Cert.ExpertRefIdeal.nD Cert.ExpertRefIdeal.τ).loc Cert.ExpertRefIdeal.main_arg6) = m ((c.tc : Thread Cert.ExpertIdeal.nD Cert.ExpertIdeal.τ).loc Cert.ExpertIdeal.main_arg6)
      ∧ m' ((c.tc : Thread Cert.ExpertRefIdeal.nD Cert.ExpertRefIdeal.τ).loc Cert.ExpertRefIdeal.main_arg7) = m ((c.tc : Thread Cert.ExpertIdeal.nD Cert.ExpertIdeal.τ).loc Cert.ExpertIdeal.main_arg7)
      ∧ m' ((c.tc : Thread Cert.ExpertRefIdeal.nD Cert.ExpertRefIdeal.τ).loc Cert.ExpertRefIdeal.main_arg8) = m ((c.tc : Thread Cert.ExpertIdeal.nD Cert.ExpertIdeal.τ).loc Cert.ExpertIdeal.main_arg8)
      ∧ m' ((c.tc : Thread Cert.ExpertRefIdeal.nD Cert.ExpertRefIdeal.τ).loc Cert.ExpertRefIdeal.main_arg9) = m ((c.tc : Thread Cert.ExpertIdeal.nD Cert.ExpertIdeal.τ).loc Cert.ExpertIdeal.main_arg9)) →
    ∃ (v0 : (c : Dev Cert.ExpertIdeal.nD) → Buf (Elt Ideal) ((c.tc : Thread Cert.ExpertIdeal.nD Cert.ExpertIdeal.τ).loc Cert.ExpertIdeal.main_v36)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v36) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
          ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
          ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6)
          ∧ r.2.mem ((c.tc : Thread Cert.ExpertIdeal.nD Cert.ExpertIdeal.τ).loc Cert.ExpertIdeal.main_arg7) = m ((c.tc : Thread Cert.ExpertIdeal.nD Cert.ExpertIdeal.τ).loc Cert.ExpertIdeal.main_arg7)
          ∧ r.2.mem ((c.tc : Thread Cert.ExpertIdeal.nD Cert.ExpertIdeal.τ).loc Cert.ExpertIdeal.main_arg8) = m ((c.tc : Thread Cert.ExpertIdeal.nD Cert.ExpertIdeal.τ).loc Cert.ExpertIdeal.main_arg8)
          ∧ r.2.mem ((c.tc : Thread Cert.ExpertIdeal.nD Cert.ExpertIdeal.τ).loc Cert.ExpertIdeal.main_arg9) = m ((c.tc : Thread Cert.ExpertIdeal.nD Cert.ExpertIdeal.τ).loc Cert.ExpertIdeal.main_arg9))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v25) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4)
          ∧ r.2.mem ((c.tc : Thread Cert.ExpertRefIdeal.nD Cert.ExpertRefIdeal.τ).loc Cert.ExpertRefIdeal.main_arg5) = m' ((c.tc : Thread Cert.ExpertRefIdeal.nD Cert.ExpertRefIdeal.τ).loc Cert.ExpertRefIdeal.main_arg5)
          ∧ r.2.mem ((c.tc : Thread Cert.ExpertRefIdeal.nD Cert.ExpertRefIdeal.τ).loc Cert.ExpertRefIdeal.main_arg6) = m' ((c.tc : Thread Cert.ExpertRefIdeal.nD Cert.ExpertRefIdeal.τ).loc Cert.ExpertRefIdeal.main_arg6)
          ∧ r.2.mem ((c.tc : Thread Cert.ExpertRefIdeal.nD Cert.ExpertRefIdeal.τ).loc Cert.ExpertRefIdeal.main_arg7) = m' ((c.tc : Thread Cert.ExpertRefIdeal.nD Cert.ExpertRefIdeal.τ).loc Cert.ExpertRefIdeal.main_arg7)
          ∧ r.2.mem ((c.tc : Thread Cert.ExpertRefIdeal.nD Cert.ExpertRefIdeal.τ).loc Cert.ExpertRefIdeal.main_arg8) = m' ((c.tc : Thread Cert.ExpertRefIdeal.nD Cert.ExpertRefIdeal.τ).loc Cert.ExpertRefIdeal.main_arg8)
          ∧ r.2.mem ((c.tc : Thread Cert.ExpertRefIdeal.nD Cert.ExpertRefIdeal.τ).loc Cert.ExpertRefIdeal.main_arg9) = m' ((c.tc : Thread Cert.ExpertRefIdeal.nD Cert.ExpertRefIdeal.τ).loc Cert.ExpertRefIdeal.main_arg9))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutRefIdeal : Cert.OutRefIdeal.Facts) (hQuery : Cert.Query.Facts) (hQueryIdeal : Cert.QueryIdeal.Facts) (hQueryRefIdeal : Cert.QueryRefIdeal.Facts) (hOdd : Cert.Odd.Facts) (hOddIdeal : Cert.OddIdeal.Facts) (hOddRefIdeal : Cert.OddRefIdeal.Facts) (hEven : Cert.Even.Facts) (hEvenIdeal : Cert.EvenIdeal.Facts) (hEvenRefIdeal : Cert.EvenRefIdeal.Facts) (hExpert : Cert.Expert.Facts) (hExpertIdeal : Cert.ExpertIdeal.Facts) (hExpertRefIdeal : Cert.ExpertRefIdeal.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Out (hOut := hOut)
    ∧ quiescent_OutIdeal (hOutIdeal := hOutIdeal)
    ∧ quiescent_OutRefIdeal (hOutRefIdeal := hOutRefIdeal)
    ∧ quiescent_Query (hQuery := hQuery)
    ∧ quiescent_QueryIdeal (hQueryIdeal := hQueryIdeal)
    ∧ quiescent_QueryRefIdeal (hQueryRefIdeal := hQueryRefIdeal)
    ∧ quiescent_Odd (hOdd := hOdd)
    ∧ quiescent_OddIdeal (hOddIdeal := hOddIdeal)
    ∧ quiescent_OddRefIdeal (hOddRefIdeal := hOddRefIdeal)
    ∧ quiescent_Even (hEven := hEven)
    ∧ quiescent_EvenIdeal (hEvenIdeal := hEvenIdeal)
    ∧ quiescent_EvenRefIdeal (hEvenRefIdeal := hEvenRefIdeal)
    ∧ quiescent_Expert (hExpert := hExpert)
    ∧ quiescent_ExpertIdeal (hExpertIdeal := hExpertIdeal)
    ∧ quiescent_ExpertIdeal_pre_routed (hExpertIdeal := hExpertIdeal) (hPre_routed := hPre_routed)
    ∧ quiescent_ExpertRefIdeal (hExpertRefIdeal := hExpertRefIdeal)
    ∧ quiescent_ExpertRefIdeal_pre_routed (hExpertRefIdeal := hExpertRefIdeal) (hPre_routed := hPre_routed)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Out_OutIdeal
    ∧ algebraic_OutIdeal_OutRefIdeal (hOutIdeal := hOutIdeal) (hOutRefIdeal := hOutRefIdeal)
    ∧ preserves_Query_QueryIdeal
    ∧ algebraic_QueryIdeal_QueryRefIdeal (hQueryIdeal := hQueryIdeal) (hQueryRefIdeal := hQueryRefIdeal)
    ∧ preserves_Odd_OddIdeal
    ∧ algebraic_OddIdeal_OddRefIdeal (hOddIdeal := hOddIdeal) (hOddRefIdeal := hOddRefIdeal)
    ∧ preserves_Even_EvenIdeal
    ∧ algebraic_EvenIdeal_EvenRefIdeal (hEvenIdeal := hEvenIdeal) (hEvenRefIdeal := hEvenRefIdeal)
    ∧ preserves_Expert_ExpertIdeal
    ∧ algebraic_ExpertIdeal_ExpertRefIdeal_pre_routed (hExpertIdeal := hExpertIdeal) (hExpertRefIdeal := hExpertRefIdeal) (hPre_routed := hPre_routed)
-- ==== Pre_finite_scores.lean ====
abbrev S2x4096x2x4x128 : Shape := ⟨5, ![2, 4096, 2, 4, 128]⟩
abbrev S2x4096x2x128 : Shape := ⟨4, ![2, 4096, 2, 128]⟩
abbrev S2x1x512x2x128 : Shape := ⟨5, ![2, 1, 512, 2, 128]⟩
abbrev S_ : Shape := ⟨0, ![]⟩

class Facts : Prop where
  bcast_S_S2x4096x2x4x128 : S_.BroadcastsInDim S2x4096x2x4x128 (![] : Fin 0 → Fin S2x4096x2x4x128.rank)
  bcast_S_S2x4096x2x128 : S_.BroadcastsInDim S2x4096x2x128 (![] : Fin 0 → Fin S2x4096x2x128.rank)
  bcast_S_S2x1x512x2x128 : S_.BroadcastsInDim S2x1x512x2x128 (![] : Fin 0 → Fin S2x1x512x2x128.rank)

variable [Facts]

def fn {F : FTy → Type} [FloatOps F] (main_arg0 : FVec F S2x4096x2x4x128 .f32) (main_arg1 : FVec F S2x4096x2x128 .f32) (main_arg2 : FVec F S2x4096x2x128 .f32) (main_arg3 : FVec F S2x1x512x2x128 .f32) (main_arg4 : FVec F S2x1x512x2x128 .f32) : IVec S2x4096x2x4x128 1 × IVec S2x4096x2x128 1 × IVec S2x1x512x2x128 1 :=
  let main_v0 : FVec F S2x4096x2x4x128 .f32 := Host.absf main_arg0
  let main_cst : FVec F S_ .f32 := constant S_ .f32 0x7F800000#32
  let main_v1 : FVec F S2x4096x2x4x128 .f32 := broadcastInDim S2x4096x2x4x128 ![] bcast_S_S2x4096x2x4x128 main_cst
  let main_v2 : IVec S2x4096x2x4x128 1 := cmpf .olt main_v0 main_v1
  let main_v3 : FVec F S2x4096x2x128 .f32 := Host.absf main_arg1
  let main_cst_0 : FVec F S_ .f32 := constant S_ .f32 0x7F800000#32
  let main_v4 : FVec F S2x4096x2x128 .f32 := broadcastInDim S2x4096x2x128 ![] bcast_S_S2x4096x2x128 main_cst_0
  let main_v5 : IVec S2x4096x2x128 1 := cmpf .olt main_v3 main_v4
  let main_v6 : FVec F S2x1x512x2x128 .f32 := Host.absf main_arg3
  let main_cst_1 : FVec F S_ .f32 := constant S_ .f32 0x7F800000#32
  let main_v7 : FVec F S2x1x512x2x128 .f32 := broadcastInDim S2x1x512x2x128 ![] bcast_S_S2x1x512x2x128 main_cst_1
  let main_v8 : IVec S2x1x512x2x128 1 := cmpf .olt main_v6 main_v7
  (main_v2, main_v5, main_v8)
-- ==== Pre_routed.lean ====
abbrev S32x256x2048 : Shape := ⟨3, ![32, 256, 2048]⟩
abbrev S2x4096x2048 : Shape := ⟨3, ![2, 4096, 2048]⟩
abbrev S16384x128 : Shape := ⟨2, ![16384, 128]⟩
abbrev S12288 : Shape := ⟨1, ![12288]⟩
abbrev S2x12288 : Shape := ⟨2, ![2, 12288]⟩
abbrev S16384x2048 : Shape := ⟨2, ![16384, 2048]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S32x256x2048 .f32) (main_arg1 : FVec F S2x4096x2048 .f32) (main_arg2 : IVec S16384x128 32) (main_arg3 : FVec F S16384x128 .f32) (main_arg4 : FVec F S32x256x2048 .f32) (main_arg5 : FVec F S2x4096x2048 .f32) (main_arg6 : FVec F S12288 .f32) (main_arg7 : FVec F S2x12288 .f32) (main_arg8 : FVec F S16384x2048 .f32) (main_arg9 : FVec F S16384x2048 .f32) : IVec S16384x128 1 × IVec S16384x128 1 × IVec S16384x128 1 :=
  let main_c : IVec S_ 32 := constantI S_ 32 0#32
  let main_v0 : IVec S16384x128 32 := broadcastInDim S16384x128 ![] bcast_S_S16384x128 main_c
  let main_v1 : IVec S16384x128 1 := cmpi .sge main_arg2 main_v0
  let main_c_0 : IVec S_ 32 := constantI S_ 32 16384#32
  let main_v2 : IVec S16384x128 32 := broadcastInDim S16384x128 ![] bcast_S_S16384x128 main_c_0
  let main_v3 : IVec S16384x128 1 := cmpi .slt main_arg2 main_v2
  let main_cst : FVec F S_ .f32 := constant S_ .f32 0x00000000#32
  let main_v4 : FVec F S16384x128 .f32 := broadcastInDim S16384x128 ![] bcast_S_S16384x128 main_cst
  let main_v5 : IVec S16384x128 1 := cmpf .oge main_arg3 main_v4
  (main_v1, main_v3, main_v5)
-- ==== Kernel.lean ====
abbrev S2x4096x2x4x128 : Shape := ⟨5, ![2, 4096, 2, 4, 128]⟩
abbrev S2x4096x2x128 : Shape := ⟨4, ![2, 4096, 2, 128]⟩
abbrev S2x1x512x2x128 : Shape := ⟨5, ![2, 1, 512, 2, 128]⟩
abbrev S_ : Shape := ⟨0, ![]⟩
abbrev S2x4096x1024 : Shape := ⟨3, ![2, 4096, 1024]⟩
abbrev S2x4096x256 : Shape := ⟨3, ![2, 4096, 256]⟩
abbrev S2x512x2x128 : Shape := ⟨4, ![2, 512, 2, 128]⟩
abbrev S2x512x256 : Shape := ⟨3, ![2, 512, 256]⟩
abbrev S2x4608x256 : Shape := ⟨3, ![2, 4608, 256]⟩
abbrev S1x256x512 : Shape := ⟨3, ![1, 256, 512]⟩
abbrev S1x4608x128 : Shape := ⟨3, ![1, 4608, 128]⟩
abbrev S4608x128 : Shape := ⟨2, ![4608, 128]⟩
abbrev S1x256x128 : Shape := ⟨3, ![1, 256, 128]⟩
abbrev S256x128 : Shape := ⟨2, ![256, 128]⟩
abbrev S256x4608 : Shape := ⟨2, ![256, 4608]⟩
abbrev S256 : Shape := ⟨1, ![256]⟩
abbrev S256x1 : Shape := ⟨2, ![256, 1]⟩

abbrev nBuf : Space → Nat
  | .hbm => 23
  | .vmem => 8
  | .smem => 0
  | _ => 0

abbrev bufTy : (tb : Table) → Fin (tcTables nBuf tb) → BufTy
  | .hbm, ⟨0, _⟩ => ⟨S2x4096x2x4x128, .f32⟩
  | .hbm, ⟨1, _⟩ => ⟨S2x4096x2x128, .f32⟩
  | .hbm, ⟨2, _⟩ => ⟨S2x4096x2x128, .f32⟩
  | .hbm, ⟨3, _⟩ => ⟨S2x1x512x2x128, .f32⟩
  | .hbm, ⟨4, _⟩ => ⟨S2x1x512x2x128, .f32⟩
  | .hbm, ⟨5, _⟩ => ⟨S_, .f32⟩
  | .hbm, ⟨6, _⟩ => ⟨S2x4096x2x4x128, .f32⟩
  | .hbm, ⟨7, _⟩ => ⟨S2x4096x2x4x128, .f32⟩
  | .hbm, ⟨8, _⟩ => ⟨S2x4096x2x4x128, .bf16⟩
  | .hbm, ⟨9, _⟩ => ⟨S2x4096x1024, .bf16⟩
  | .hbm, ⟨10, _⟩ => ⟨S2x4096x2x128, .bf16⟩
  | .hbm, ⟨11, _⟩ => ⟨S2x4096x256, .bf16⟩
  | .hbm, ⟨12, _⟩ => ⟨S2x4096x2x128, .bf16⟩
  | .hbm, ⟨13, _⟩ => ⟨S2x4096x256, .bf16⟩
  | .hbm, ⟨14, _⟩ => ⟨S2x512x2x128, .f32⟩
  | .hbm, ⟨15, _⟩ => ⟨S2x512x2x128, .bf16⟩
  | .hbm, ⟨16, _⟩ => ⟨S2x512x256, .bf16⟩
  | .hbm, ⟨17, _⟩ => ⟨S2x4608x256, .bf16⟩
  | .hbm, ⟨18, _⟩ => ⟨S2x512x2x128, .f32⟩
  | .hbm, ⟨19, _⟩ => ⟨S2x512x2x128, .bf16⟩
  | .hbm, ⟨20, _⟩ => ⟨S2x512x256, .bf16⟩
  | .hbm, ⟨21, _⟩ => ⟨S2x4608x256, .bf16⟩
  | .hbm, ⟨22, _⟩ => ⟨S2x4096x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4608x128, .bf16⟩
  | .local _ .vmem, ⟨3, _⟩ => ⟨S1x4608x128, .bf16⟩
  | .local _ .vmem, ⟨4, _⟩ => ⟨S1x4608x128, .bf16⟩
  | .local _ .vmem, ⟨5, _⟩ => ⟨S1x4608x128, .bf16⟩
  | .local _ .vmem, ⟨6, _⟩ => ⟨S1x256x512, .bf16⟩
  | .local _ .vmem, ⟨7, _⟩ => ⟨S1x256x512, .bf16⟩
  | _, _ => ⟨S2x4096x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x4096x2x4x128 : Shape := ⟨5, ![2, 4096, 2, 4, 128]⟩
abbrev S2x4096x2x128 : Shape := ⟨4, ![2, 4096, 2, 128]⟩
abbrev S2x1x512x2x128 : Shape := ⟨5, ![2, 1, 512, 2, 128]⟩
abbrev S2x512x2x128 : Shape := ⟨4, ![2, 512, 2, 128]⟩
abbrev S2x4608x2x128 : Shape := ⟨4, ![2, 4608, 2, 128]⟩
abbrev S2x2x4608x4096x4 : Shape := ⟨5, ![2, 2, 4608, 4096, 4]⟩
abbrev S2x2x4x4096x4608 : Shape := ⟨5, ![2, 2, 4, 4096, 4608]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S2x4096x1024 : Shape := ⟨3, ![2, 4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x2x4x128, .f32⟩
  | .hbm, ⟨1, _⟩ => ⟨S2x4096x2x128, .f32⟩
  | .hbm, ⟨2, _⟩ => ⟨S2x4096x2x128, .f32⟩
  | .hbm, ⟨3, _⟩ => ⟨S2x1x512x2x128, .f32⟩
  | .hbm, ⟨4, _⟩ => ⟨S2x1x512x2x128, .f32⟩
  | .hbm, ⟨5, _⟩ => ⟨S2x512x2x128, .f32⟩
  | .hbm, ⟨6, _⟩ => ⟨S2x4608x2x128, .f32⟩
  | .hbm, ⟨7, _⟩ => ⟨S2x512x2x128, .f32⟩
  | .hbm, ⟨8, _⟩ => ⟨S2x4608x2x128, .f32⟩
  | .hbm, ⟨9, _⟩ => ⟨S2x2x4608x4096x4, .f32⟩
  | .hbm, ⟨10, _⟩ => ⟨S2x2x4x4096x4608, .f32⟩
  | .hbm, ⟨11, _⟩ => ⟨S_, .f32⟩
  | .hbm, ⟨12, _⟩ => ⟨S2x2x4x4096x4608, .f32⟩
  | .hbm, ⟨13, _⟩ => ⟨S2x2x4x4096x4608, .f32⟩
  | .hbm, ⟨14, _⟩ => ⟨S_, .f32⟩
  | .hbm, ⟨15, _⟩ => ⟨S2x2x4x4096, .f32⟩
  | .hbm, ⟨16, _⟩ => ⟨S_, .f32⟩
  | .hbm, ⟨17, _⟩ => ⟨S2x2x4x4096, .f32⟩
  | .hbm, ⟨18, _⟩ => ⟨S2x2x4x4096, .f32⟩
  | .hbm, ⟨19, _⟩ => ⟨S2x2x4x4096x1, .f32⟩
  | .hbm, ⟨20, _⟩ => ⟨S2x2x4x4096x4608, .f32⟩
  | .hbm, ⟨21, _⟩ => ⟨S2x2x4x4096x4608, .f32⟩
  | .hbm, ⟨22, _⟩ => ⟨S2x2x4x4096x4608, .f32⟩
  | .hbm, ⟨23, _⟩ => ⟨S_, .f32⟩
  | .hbm, ⟨24, _⟩ => ⟨S2x2x4x4096, .f32⟩
  | .hbm, ⟨25, _⟩ => ⟨S2x2x4x4096x1, .f32⟩
  | .hbm, ⟨26, _⟩ => ⟨S2x2x4x4096x4608, .f32⟩
  | .hbm, ⟨27, _⟩ => ⟨S2x2x4x4096x4608, .f32⟩
  | .hbm, ⟨28, _⟩ => ⟨S2x2x128x4x4096, .f32⟩
  | .hbm, ⟨29, _⟩ => ⟨S2x4096x2x4x128, .f32⟩
  | .hbm, ⟨30, _⟩ => ⟨S2x4096x1024, .f32⟩
  | .hbm, ⟨31, _⟩ => ⟨S2x4096x1024, .bf16⟩
  | _, _ => ⟨S2x4096x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Out.lean ====
abbrev S32x256x2048 : Shape := ⟨3, ![32, 256, 2048]⟩
abbrev S2x4096x2048 : Shape := ⟨3, ![2, 4096, 2048]⟩
abbrev S12288 : Shape := ⟨1, ![12288]⟩
abbrev S2x12288 : Shape := ⟨2, ![2, 12288]⟩
abbrev S1x2048x2048 : Shape := ⟨3, ![1, 2048, 2048]⟩
abbrev S_ : Shape := ⟨0, ![]⟩
abbrev S16 : Shape := ⟨1, ![16]⟩
abbrev S32 : Shape := ⟨1, ![32]⟩
abbrev S8 : Shape := ⟨1, ![8]⟩
abbrev S8192x2048 : Shape := ⟨2, ![8192, 2048]⟩
abbrev S16384x2048 : Shape := ⟨2, ![16384, 2048]⟩
abbrev S2048x2048 : Shape := ⟨2, ![2048, 2048]⟩
abbrev S5x12288 : Shape := ⟨2, ![5, 12288]⟩
abbrev S1x12288 : Shape := ⟨2, ![1, 12288]⟩
abbrev S8x12288 : Shape := ⟨2, ![8, 12288]⟩
abbrev S48x1x2048 : Shape := ⟨3, ![48, 1, 2048]⟩
abbrev S512x2048 : Shape := ⟨2, ![512, 2048]⟩
abbrev S1x1x2048 : Shape := ⟨3, ![1, 1, 2048]⟩
abbrev S1 : Shape := ⟨1, ![1]⟩
abbrev S1x2048 : Shape := ⟨2, ![1, 2048]⟩

abbrev nBuf : Space → Nat
  | .hbm => 72
  | .vmem => 9
  | .smem => 1
  | _ => 0

abbrev bufTy : (tb : Table) → Fin (tcTables nBuf tb) → BufTy
  | .hbm, ⟨0, _⟩ => ⟨S32x256x2048, .f32⟩
  | .hbm, ⟨1, _⟩ => ⟨S2x4096x2048, .f32⟩
  | .hbm, ⟨2, _⟩ => ⟨S32x256x2048, .f32⟩
  | .hbm, ⟨3, _⟩ => ⟨S2x4096x2048, .f32⟩
  | .hbm, ⟨4, _⟩ => ⟨S12288, .f32⟩
  | .hbm, ⟨5, _⟩ => ⟨S2x12288, .f32⟩
  | .hbm, ⟨6, _⟩ => ⟨S1x2048x2048, .f32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S16, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S16, .i1⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i1⟩
  | .hbm, ⟨42, _⟩ => ⟨S8, .i32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i1⟩
  | .hbm, ⟨47, _⟩ => ⟨S8, .i1⟩
  | .hbm, ⟨48, _⟩ => ⟨S_, .i32⟩
  | .hbm, ⟨49, _⟩ => ⟨S8, .i32⟩
  | .hbm, ⟨50, _⟩ => ⟨S8, .i32⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S16, .i32⟩
  | .hbm, ⟨56, _⟩ => ⟨S32x256x2048, .bf16⟩
  | .hbm, ⟨57, _⟩ => ⟨S2x4096x2048, .bf16⟩
  | .hbm, ⟨58, _⟩ => ⟨S8192x2048, .bf16⟩
  | .hbm, ⟨59, _⟩ => ⟨S8192x2048, .bf16⟩
  | .hbm, ⟨60, _⟩ => ⟨S16384x2048, .bf16⟩
  | .hbm, ⟨61, _⟩ => ⟨S2048x2048, .f32⟩
  | .hbm, ⟨62, _⟩ => ⟨S2048x2048, .bf16⟩
  | .hbm, ⟨63, _⟩ => ⟨S8192x2048, .f32⟩
  | .hbm, ⟨64, _⟩ => ⟨S8192x2048, .f32⟩
  | .hbm, ⟨65, _⟩ => ⟨S16384x2048, .f32⟩
  | .hbm, ⟨66, _⟩ => ⟨S_, .f32⟩
  | .hbm, ⟨67, _⟩ => ⟨S5x12288, .f32⟩
  | .hbm, ⟨68, _⟩ => ⟨S1x12288, .f32⟩
  | .hbm, ⟨69, _⟩ => ⟨S8x12288, .f32⟩
  | .hbm, ⟨70, _⟩ => ⟨S48x1x2048, .f32⟩
  | .hbm, ⟨71, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | .local _ .smem, ⟨0, _⟩ => ⟨S32, .i32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_c_1 : Ref sig .tc := ⟨.hbm, 28, rfl⟩
abbrev main_v3 : Ref sig .tc := ⟨.hbm, 29, rfl⟩
abbrev main_v4 : Ref sig .tc := ⟨.hbm, 30, rfl⟩
abbrev main_c_2 : Ref sig .tc := ⟨.hbm, 31, rfl⟩
abbrev main_v6 : Ref sig .tc := ⟨.hbm, 32, rfl⟩
abbrev main_v7 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v8 : Ref sig .tc := ⟨.hbm, 51, rfl⟩
abbrev main_c_4 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c6_i32 : BitVec 32 := 6#32
  let v2 : BitVec 32 := Scalar.muli v1 c6_i32
  let c2_i32 : BitVec 32 := 2#32
  let v3 : BitVec 32 := Scalar.addi v2 c2_i32
  let c0_i32 : BitVec 32 := 0#32
  let c0_i32_0 : BitVec 32 := 0#32
  ![v3.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S32x256x2048 : Shape := ⟨3, ![32, 256, 2048]⟩
abbrev S2x4096x2048 : Shape := ⟨3, ![2, 4096, 2048]⟩
abbrev S12288 : Shape := ⟨1, ![12288]⟩
abbrev S2x12288 : Shape := ⟨2, ![2, 12288]⟩
abbrev S1x2048x2048 : Shape := ⟨3, ![1, 2048, 2048]⟩
abbrev S2048 : Shape := ⟨1, ![2048]⟩
abbrev S2048x2048 : Shape := ⟨2, ![2048, 2048]⟩
abbrev S1x1x2048 : Shape := ⟨3, ![1, 1, 2048]⟩
abbrev S2x1x12288 : Shape := ⟨3, ![2, 1, 12288]⟩
abbrev S2x1x2048 : Shape := ⟨3, ![2, 1, 2048]⟩
abbrev S8192x2048 : Shape := ⟨2, ![8192, 2048]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2x4096x2048, .f32⟩
  | .hbm, ⟨2, _⟩ => ⟨S32x256x2048, .f32⟩
  | .hbm, ⟨3, _⟩ => ⟨S2x4096x2048, .f32⟩
  | .hbm, ⟨4, _⟩ => ⟨S12288, .f32⟩
  | .hbm, ⟨5, _⟩ => ⟨S2x12288, .f32⟩
  | .hbm, ⟨6, _⟩ => ⟨S1x2048x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S32x256x2048, .f32⟩
  | .hbm, ⟨15, _⟩ => ⟨S1x1x2048, .f32⟩
  | .hbm, ⟨16, _⟩ => ⟨S32x256x2048, .f32⟩
  | .hbm, ⟨17, _⟩ => ⟨S32x256x2048, .f32⟩
  | .hbm, ⟨18, _⟩ => ⟨S32x256x2048, .f32⟩
  | .hbm, ⟨19, _⟩ => ⟨S2x1x12288, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S2x1x2048, .f32⟩
  | .hbm, ⟨24, _⟩ => ⟨S2x1x2048, .f32⟩
  | .hbm, ⟨25, _⟩ => ⟨S2x1x2048, .f32⟩
  | .hbm, ⟨26, _⟩ => ⟨S2048x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S8192x2048, .f32⟩
  | .hbm, ⟨32, _⟩ => ⟨S8192x2048, .f32⟩
  | .hbm, ⟨33, _⟩ => ⟨S16384x2048, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Query.lean ====
abbrev S32x256x2048 : Shape := ⟨3, ![32, 256, 2048]⟩
abbrev S2x4096x2048 : Shape := ⟨3, ![2, 4096, 2048]⟩
abbrev S2048 : Shape := ⟨1, ![2048]⟩
abbrev S12288 : Shape := ⟨1, ![12288]⟩
abbrev S2x12288 : Shape := ⟨2, ![2, 12288]⟩
abbrev S2048x2048 : Shape := ⟨2, ![2048, 2048]⟩
abbrev S_ : Shape := ⟨0, ![]⟩
abbrev S16 : Shape := ⟨1, ![16]⟩
abbrev S32 : Shape := ⟨1, ![32]⟩
abbrev S8 : Shape := ⟨1, ![8]⟩
abbrev S8192x2048 : Shape := ⟨2, ![8192, 2048]⟩
abbrev S16384x2048 : Shape := ⟨2, ![16384, 2048]⟩
abbrev S5x12288 : Shape := ⟨2, ![5, 12288]⟩
abbrev S1x12288 : Shape := ⟨2, ![1, 12288]⟩
abbrev S8x12288 : Shape := ⟨2, ![8, 12288]⟩
abbrev S48x1x2048 : Shape := ⟨3, ![48, 1, 2048]⟩
abbrev S1x2048 : Shape := ⟨2, ![1, 2048]⟩
abbrev S512x2048 : Shape := ⟨2, ![512, 2048]⟩
abbrev S1x1x2048 : Shape := ⟨3, ![1, 1, 2048]⟩
abbrev S1 : Shape := ⟨1, ![1]⟩
abbrev S512 : Shape := ⟨1, ![512]⟩
abbrev S512x1 : Shape := ⟨2, ![512, 1]⟩

abbrev nBuf : Space → Nat
  | .hbm => 67
  | .vmem => 13
  | .smem => 1
  | _ => 0

abbrev bufTy : (tb : Table) → Fin (tcTables nBuf tb) → BufTy
  | .hbm, ⟨0, _⟩ => ⟨S32x256x2048, .f32⟩
  | .hbm, ⟨1, _⟩ => ⟨S2x4096x2048, .f32⟩
  | .hbm, ⟨2, _⟩ => ⟨S2048, .f32⟩
  | .hbm, ⟨3, _⟩ => ⟨S12288, .f32⟩
  | .hbm, ⟨4, _⟩ => ⟨S2x12288, .f32⟩
  | .hbm, ⟨5, _⟩ => ⟨S2048x2048, .f32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S16, .i1⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S8, .i32⟩
  | .hbm, ⟨38, _⟩ => ⟨S_, .i32⟩
  | .hbm, ⟨39, _⟩ => ⟨S8, .i32⟩
  | .hbm, ⟨40, _⟩ => ⟨S8, .i1⟩
  | .hbm, ⟨41, _⟩ => ⟨S8, .i32⟩
  | .hbm, ⟨42, _⟩ => ⟨S8, .i32⟩
  | .hbm, ⟨43, _⟩ => ⟨S_, .i32⟩
  | .hbm, ⟨44, _⟩ => ⟨S8, .i32⟩
  | .hbm, ⟨45, _⟩ => ⟨S8, .i1⟩
  | .hbm, ⟨46, _⟩ => ⟨S8, .i1⟩
  | .hbm, ⟨47, _⟩ => ⟨S_, .i32⟩
  | .hbm, ⟨48, _⟩ => ⟨S8, .i32⟩
  | .hbm, ⟨49, _⟩ => ⟨S8, .i32⟩
  | .hbm, ⟨50, _⟩ => ⟨S8, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S16, .i32⟩
  | .hbm, ⟨55, _⟩ => ⟨S8192x2048, .f32⟩
  | .hbm, ⟨56, _⟩ => ⟨S8192x2048, .f32⟩
  | .hbm, ⟨57, _⟩ => ⟨S16384x2048, .f32⟩
  | .hbm, ⟨58, _⟩ => ⟨S_, .f32⟩
  | .hbm, ⟨59, _⟩ => ⟨S5x12288, .f32⟩
  | .hbm, ⟨60, _⟩ => ⟨S1x12288, .f32⟩
  | .hbm, ⟨61, _⟩ => ⟨S8x12288, .f32⟩
  | .hbm, ⟨62, _⟩ => ⟨S48x1x2048, .f32⟩
  | .hbm, ⟨63, _⟩ => ⟨S2048x2048, .bf16⟩
  | .hbm, ⟨64, _⟩ => ⟨S1x2048, .f32⟩
  | .hbm, ⟨65, _⟩ => ⟨S16384x2048, .f32⟩
  | .hbm, ⟨66, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .smem, ⟨0, _⟩ => ⟨S32, .i32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_1 : Ref sig .tc := ⟨.hbm, 27, rfl⟩
abbrev main_v3 : Ref sig .tc := ⟨.hbm, 28, rfl⟩
abbrev main_v4 : Ref sig .tc := ⟨.hbm, 29, rfl⟩
abbrev main_c_2 : Ref sig .tc := ⟨.hbm, 30, rfl⟩
abbrev main_v6 : Ref sig .tc := ⟨.hbm, 31, rfl⟩
abbrev main_v7 : Ref sig .tc := ⟨.hbm, 32, rfl⟩
abbrev main_c_3 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v8 : Ref sig .tc := ⟨.hbm, 50, rfl⟩
abbrev main_c_4 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21_0 : Ref sig .tc := ⟨.hbm, 65, rfl⟩
abbrev main_v21_1 : Ref sig .tc := ⟨.hbm, 66, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 1], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c6_i32 : BitVec 32 := 6#32
  let v2 : BitVec 32 := Scalar.muli v1 c6_i32
  let c4_i32 : BitVec 32 := 4#32
  let v3 : BitVec 32 := Scalar.addi v2 c4_i32
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c6_i32 : BitVec 32 := 6#32
  let v2 : BitVec 32 := Scalar.muli v1 c6_i32
  let c3_i32 : BitVec 32 := 3#32
  let v3 : BitVec 32 := Scalar.addi v2 c3_i32
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== QueryRefIdeal.lean ====
abbrev S32x256x2048 : Shape := ⟨3, ![32, 256, 2048]⟩
abbrev S2x4096x2048 : Shape := ⟨3, ![2, 4096, 2048]⟩
abbrev S2048 : Shape := ⟨1, ![2048]⟩
abbrev S12288 : Shape := ⟨1, ![12288]⟩
abbrev S2x12288 : Shape := ⟨2, ![2, 12288]⟩
abbrev S2048x2048 : Shape := ⟨2, ![2048, 2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S2x1x12288 : Shape := ⟨3, ![2, 1, 12288]⟩
abbrev S2x1x2048 : Shape := ⟨3, ![2, 1, 2048]⟩
abbrev S2x4096 : Shape := ⟨2, ![2, 4096]⟩
abbrev S2x4096x1 : Shape := ⟨3, ![2, 4096, 1]⟩
abbrev S8192x2048 : Shape := ⟨2, ![8192, 2048]⟩
abbrev S16384x2048 : Shape := ⟨2, ![16384, 2048]⟩

abbrev nBuf : Space → Nat
  | .hbm => 72
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2x4096x2048, .f32⟩
  | .hbm, ⟨2, _⟩ => ⟨S2048, .f32⟩
  | .hbm, ⟨3, _⟩ => ⟨S12288, .f32⟩
  | .hbm, ⟨4, _⟩ => ⟨S2x12288, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S32x256x2048, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x2048, .f32⟩
  | .hbm, ⟨24, _⟩ => ⟨S32x256x2048, .f32⟩
  | .hbm, ⟨25, _⟩ => ⟨S1x1x2048, .f32⟩
  | .hbm, ⟨26, _⟩ => ⟨S32x256x2048, .f32⟩
  | .hbm, ⟨27, _⟩ => ⟨S32x256x2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S1x1x2048, .f32⟩
  | .hbm, ⟨32, _⟩ => ⟨S32x256x2048, .f32⟩
  | .hbm, ⟨33, _⟩ => ⟨S32x256x2048, .f32⟩
  | .hbm, ⟨34, _⟩ => ⟨S1x1x2048, .f32⟩
  | .hbm, ⟨35, _⟩ => ⟨S32x256x2048, .f32⟩
  | .hbm, ⟨36, _⟩ => ⟨S32x256x2048, .f32⟩
  | .hbm, ⟨37, _⟩ => ⟨S2x1x12288, .f32⟩
  | .hbm, ⟨38, _⟩ => ⟨S2x1x2048, .f32⟩
  | .hbm, ⟨39, _⟩ => ⟨S2x1x2048, .f32⟩
  | .hbm, ⟨40, _⟩ => ⟨S2x1x2048, .f32⟩
  | .hbm, ⟨41, _⟩ => ⟨S2x1x2048, .f32⟩
  | .hbm, ⟨42, _⟩ => ⟨S2x1x2048, .f32⟩
  | .hbm, ⟨43, _⟩ => ⟨S2x1x2048, .f32⟩
  | .hbm, ⟨44, _⟩ => ⟨S2x4096x2048, .f32⟩
  | .hbm, ⟨45, _⟩ => ⟨S_, .f32⟩
  | .hbm, ⟨46, _⟩ => ⟨S2x4096, .f32⟩
  | .hbm, ⟨47, _⟩ => ⟨S2x4096x1, .f32⟩
  | .hbm, ⟨48, _⟩ => ⟨S_, .f32⟩
  | .hbm, ⟨49, _⟩ => ⟨S2x4096x1, .f32⟩
  | .hbm, ⟨50, _⟩ => ⟨S2x4096x1, .f32⟩
  | .hbm, ⟨51, _⟩ => ⟨S_, .f32⟩
  | .hbm, ⟨52, _⟩ => ⟨S2x4096x1, .f32⟩
  | .hbm, ⟨53, _⟩ => ⟨S2x4096x1, .f32⟩
  | .hbm, ⟨54, _⟩ => ⟨S2x4096x1, .f32⟩
  | .hbm, ⟨55, _⟩ => ⟨S2x4096x2048, .f32⟩
  | .hbm, ⟨56, _⟩ => ⟨S2x4096x2048, .f32⟩
  | .hbm, ⟨57, _⟩ => ⟨S1x1x2048, .f32⟩
  | .hbm, ⟨58, _⟩ => ⟨S2x4096x2048, .f32⟩
  | .hbm, ⟨59, _⟩ => ⟨S2x4096x2048, .f32⟩
  | .hbm, ⟨60, _⟩ => ⟨S_, .f32⟩
  | .hbm, ⟨61, _⟩ => ⟨S2x1x2048, .f32⟩
  | .hbm, ⟨62, _⟩ => ⟨S2x1x2048, .f32⟩
  | .hbm, ⟨63, _⟩ => ⟨S2x4096x2048, .f32⟩
  | .hbm, ⟨64, _⟩ => ⟨S2x4096x2048, .f32⟩
  | .hbm, ⟨65, _⟩ => ⟨S2x4096x2048, .f32⟩
  | .hbm, ⟨66, _⟩ => ⟨S2x4096x2048, .f32⟩
  | .hbm, ⟨67, _⟩ => ⟨S8192x2048, .f32⟩
  | .hbm, ⟨68, _⟩ => ⟨S8192x2048, .f32⟩
  | .hbm, ⟨69, _⟩ => ⟨S16384x2048, .f32⟩
  | .hbm, ⟨70, _⟩ => ⟨S16384x2048, .f32⟩
  | .hbm, ⟨71, _⟩ => ⟨S16384x2048, .bf16⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Odd.lean ====
abbrev S32x256x2048 : Shape := ⟨3, ![32, 256, 2048]⟩
abbrev S2x4096x2048 : Shape := ⟨3, ![2, 4096, 2048]⟩
abbrev S2048 : Shape := ⟨1, ![2048]⟩
abbrev S12288 : Shape := ⟨1, ![12288]⟩
abbrev S2x12288 : Shape := ⟨2, ![2, 12288]⟩
abbrev S1x2048x6144 : Shape := ⟨3, ![1, 2048, 6144]⟩
abbrev S_ : Shape := ⟨0, ![]⟩
abbrev S16 : Shape := ⟨1, ![16]⟩
abbrev S32 : Shape := ⟨1, ![32]⟩
abbrev S8 : Shape := ⟨1, ![8]⟩
abbrev S8192x2048 : Shape := ⟨2, ![8192, 2048]⟩
abbrev S16384x2048 : Shape := ⟨2, ![16384, 2048]⟩
abbrev S5x12288 : Shape := ⟨2, ![5, 12288]⟩
abbrev S1x12288 : Shape := ⟨2, ![1, 12288]⟩
abbrev S8x12288 : Shape := ⟨2, ![8, 12288]⟩
abbrev S48x1x2048 : Shape := ⟨3, ![48, 1, 2048]⟩
abbrev S2048x6144 : Shape := ⟨2, ![2048, 6144]⟩
abbrev S1x2048 : Shape := ⟨2, ![1, 2048]⟩
abbrev S16384x6144 : Shape := ⟨2, ![16384, 6144]⟩
abbrev S1024x2048 : Shape := ⟨2, ![1024, 2048]⟩
abbrev S1x1x2048 : Shape := ⟨3, ![1, 1, 2048]⟩
abbrev S1 : Shape := ⟨1, ![1]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 68
  | .vmem => 14
  | .smem => 1
  | _ => 0

abbrev bufTy : (tb : Table) → Fin (tcTables nBuf tb) → BufTy
  | .hbm, ⟨0, _⟩ => ⟨S32x256x2048, .f32⟩
  | .hbm, ⟨1, _⟩ => ⟨S2x4096x2048, .f32⟩
  | .hbm, ⟨2, _⟩ => ⟨S2048, .f32⟩
  | .hbm, ⟨3, _⟩ => ⟨S12288, .f32⟩
  | .hbm, ⟨4, _⟩ => ⟨S2x12288, .f32⟩
  | .hbm, ⟨5, _⟩ => ⟨S1x2048x6144, .f32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S16, .i1⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S32, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i1⟩
  | .hbm, ⟨42, _⟩ => ⟨S8, .i32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i1⟩
  | .hbm, ⟨47, _⟩ => ⟨S8, .i1⟩
  | .hbm, ⟨48, _⟩ => ⟨S_, .i32⟩
  | .hbm, ⟨49, _⟩ => ⟨S8, .i32⟩
  | .hbm, ⟨50, _⟩ => ⟨S8, .i32⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S8192x2048, .f32⟩
  | .hbm, ⟨56, _⟩ => ⟨S8192x2048, .f32⟩
  | .hbm, ⟨57, _⟩ => ⟨S16384x2048, .f32⟩
  | .hbm, ⟨58, _⟩ => ⟨S_, .f32⟩
  | .hbm, ⟨59, _⟩ => ⟨S5x12288, .f32⟩
  | .hbm, ⟨60, _⟩ => ⟨S1x12288, .f32⟩
  | .hbm, ⟨61, _⟩ => ⟨S8x12288, .f32⟩
  | .hbm, ⟨62, _⟩ => ⟨S48x1x2048, .f32⟩
  | .hbm, ⟨63, _⟩ => ⟨S2048x6144, .f32⟩
  | .hbm, ⟨64, _⟩ => ⟨S2048x6144, .bf16⟩
  | .hbm, ⟨65, _⟩ => ⟨S1x2048, .f32⟩
  | .hbm, ⟨66, _⟩ => ⟨S16384x6144, .f32⟩
  | .hbm, ⟨67, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .smem, ⟨0, _⟩ => ⟨S16, .i32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_1 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c_2 : Ref sig .tc := ⟨.hbm, 31, rfl⟩
abbrev main_v6 : Ref sig .tc := ⟨.hbm, 32, rfl⟩
abbrev main_v7 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v8 : Ref sig .tc := ⟨.hbm, 51, rfl⟩
abbrev main_c_4 : Ref sig .tc := ⟨.hbm, 52, rfl⟩
abbrev main_v9 : Ref sig .tc := ⟨.hbm, 53, rfl⟩
abbrev main_v10 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22_0 : Ref sig .tc := ⟨.hbm, 66, rfl⟩
abbrev main_v22_1 : Ref sig .tc := ⟨.hbm, 67, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 6], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c6_i32 : BitVec 32 := 6#32
  let v2 : BitVec 32 := Scalar.muli v1 c6_i32
  let c1_i32 : BitVec 32 := 1#32
  let v3 : BitVec 32 := Scalar.addi v2 c1_i32
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c6_i32 : BitVec 32 := 6#32
  let v2 : BitVec 32 := Scalar.muli v1 c6_i32
  let c0_i32 : BitVec 32 := 0#32
  let v3 : BitVec 32 := Scalar.addi v2 c0_i32
  let c0_i32_0 : BitVec 32 := 0#32
  let c0_i32_1 : BitVec 32 := 0#32
  let c0_i32_2 : BitVec 32 := 0#32
  ![v3.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OddRefIdeal.lean ====
abbrev S32x256x2048 : Shape := ⟨3, ![32, 256, 2048]⟩
abbrev S2x4096x2048 : Shape := ⟨3, ![2, 4096, 2048]⟩
abbrev S2048 : Shape := ⟨1, ![2048]⟩
abbrev S12288 : Shape := ⟨1, ![12288]⟩
abbrev S2x12288 : Shape := ⟨2, ![2, 12288]⟩
abbrev S1x2048x6144 : Shape := ⟨3, ![1, 2048, 6144]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S2048x6144 : Shape := ⟨2, ![2048, 6144]⟩
abbrev S32x256x6144 : Shape := ⟨3, ![32, 256, 6144]⟩
abbrev S2x1x12288 : Shape := ⟨3, ![2, 1, 12288]⟩
abbrev S2x1x2048 : Shape := ⟨3, ![2, 1, 2048]⟩
abbrev S2x4096 : Shape := ⟨2, ![2, 4096]⟩
abbrev S2x4096x1 : Shape := ⟨3, ![2, 4096, 1]⟩
abbrev S2x4096x6144 : Shape := ⟨3, ![2, 4096, 6144]⟩
abbrev S8192x6144 : Shape := ⟨2, ![8192, 6144]⟩
abbrev S16384x6144 : Shape := ⟨2, ![16384, 6144]⟩

abbrev nBuf : Space → Nat
  | .hbm => 74
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2x4096x2048, .f32⟩
  | .hbm, ⟨2, _⟩ => ⟨S2048, .f32⟩
  | .hbm, ⟨3, _⟩ => ⟨S12288, .f32⟩
  | .hbm, ⟨4, _⟩ => ⟨S2x12288, .f32⟩
  | .hbm, ⟨5, _⟩ => ⟨S1x2048x6144, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S32x256x2048, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x2048, .f32⟩
  | .hbm, ⟨24, _⟩ => ⟨S32x256x2048, .f32⟩
  | .hbm, ⟨25, _⟩ => ⟨S1x1x2048, .f32⟩
  | .hbm, ⟨26, _⟩ => ⟨S32x256x2048, .f32⟩
  | .hbm, ⟨27, _⟩ => ⟨S32x256x2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S1x1x2048, .f32⟩
  | .hbm, ⟨32, _⟩ => ⟨S32x256x2048, .f32⟩
  | .hbm, ⟨33, _⟩ => ⟨S32x256x2048, .f32⟩
  | .hbm, ⟨34, _⟩ => ⟨S1x1x2048, .f32⟩
  | .hbm, ⟨35, _⟩ => ⟨S32x256x2048, .f32⟩
  | .hbm, ⟨36, _⟩ => ⟨S32x256x2048, .f32⟩
  | .hbm, ⟨37, _⟩ => ⟨S2048x6144, .f32⟩
  | .hbm, ⟨38, _⟩ => ⟨S32x256x6144, .f32⟩
  | .hbm, ⟨39, _⟩ => ⟨S2x1x12288, .f32⟩
  | .hbm, ⟨40, _⟩ => ⟨S2x1x2048, .f32⟩
  | .hbm, ⟨41, _⟩ => ⟨S2x1x2048, .f32⟩
  | .hbm, ⟨42, _⟩ => ⟨S2x1x2048, .f32⟩
  | .hbm, ⟨43, _⟩ => ⟨S2x1x2048, .f32⟩
  | .hbm, ⟨44, _⟩ => ⟨S2x1x2048, .f32⟩
  | .hbm, ⟨45, _⟩ => ⟨S2x1x2048, .f32⟩
  | .hbm, ⟨46, _⟩ => ⟨S2x4096x2048, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S_, .f32⟩
  | .hbm, ⟨54, _⟩ => ⟨S2x4096x1, .f32⟩
  | .hbm, ⟨55, _⟩ => ⟨S2x4096x1, .f32⟩
  | .hbm, ⟨56, _⟩ => ⟨S2x4096x1, .f32⟩
  | .hbm, ⟨57, _⟩ => ⟨S2x4096x2048, .f32⟩
  | .hbm, ⟨58, _⟩ => ⟨S2x4096x2048, .f32⟩
  | .hbm, ⟨59, _⟩ => ⟨S1x1x2048, .f32⟩
  | .hbm, ⟨60, _⟩ => ⟨S2x4096x2048, .f32⟩
  | .hbm, ⟨61, _⟩ => ⟨S2x4096x2048, .f32⟩
  | .hbm, ⟨62, _⟩ => ⟨S_, .f32⟩
  | .hbm, ⟨63, _⟩ => ⟨S2x1x2048, .f32⟩
  | .hbm, ⟨64, _⟩ => ⟨S2x1x2048, .f32⟩
  | .hbm, ⟨65, _⟩ => ⟨S2x4096x2048, .f32⟩
  | .hbm, ⟨66, _⟩ => ⟨S2x4096x2048, .f32⟩
  | .hbm, ⟨67, _⟩ => ⟨S2x4096x2048, .f32⟩
  | .hbm, ⟨68, _⟩ => ⟨S2x4096x2048, .f32⟩
  | .hbm, ⟨69, _⟩ => ⟨S2048x6144, .f32⟩
  | .hbm, ⟨70, _⟩ => ⟨S2x4096x6144, .f32⟩
  | .hbm, ⟨71, _⟩ => ⟨S8192x6144, .f32⟩
  | .hbm, ⟨72, _⟩ => ⟨S8192x6144, .f32⟩
  | .hbm, ⟨73, _⟩ => ⟨S16384x6144, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Even.lean ====
abbrev S32x256x2048 : Shape := ⟨3, ![32, 256, 2048]⟩
abbrev S2x4096x2048 : Shape := ⟨3, ![2, 4096, 2048]⟩
abbrev S2048 : Shape := ⟨1, ![2048]⟩
abbrev S12288 : Shape := ⟨1, ![12288]⟩
abbrev S2x12288 : Shape := ⟨2, ![2, 12288]⟩
abbrev S1x2048x4992 : Shape := ⟨3, ![1, 2048, 4992]⟩
abbrev S_ : Shape := ⟨0, ![]⟩
abbrev S16 : Shape := ⟨1, ![16]⟩
abbrev S32 : Shape := ⟨1, ![32]⟩
abbrev S8 : Shape := ⟨1, ![8]⟩
abbrev S2048x4992 : Shape := ⟨2, ![2048, 4992]⟩
abbrev S2048x3072 : Shape := ⟨2, ![2048, 3072]⟩
abbrev S2048x1536 : Shape := ⟨2, ![2048, 1536]⟩
abbrev S2048x384 : Shape := ⟨2, ![2048, 384]⟩
abbrev S2048x5120 : Shape := ⟨2, ![2048, 5120]⟩
abbrev S8192x2048 : Shape := ⟨2, ![8192, 2048]⟩
abbrev S16384x2048 : Shape := ⟨2, ![16384, 2048]⟩
abbrev S5x12288 : Shape := ⟨2, ![5, 12288]⟩
abbrev S1x12288 : Shape := ⟨2, ![1, 12288]⟩
abbrev S8x12288 : Shape := ⟨2, ![8, 12288]⟩
abbrev S48x1x2048 : Shape := ⟨3, ![48, 1, 2048]⟩
abbrev S1x2048 : Shape := ⟨2, ![1, 2048]⟩
abbrev S16384x5120 : Shape := ⟨2, ![16384, 5120]⟩
abbrev S1024x2048 : Shape := ⟨2, ![1024, 2048]⟩
abbrev S1x1x2048 : Shape := ⟨3, ![1, 1, 2048]⟩
abbrev S1 : Shape := ⟨1, ![1]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 75
  | .vmem => 14
  | .smem => 1
  | _ => 0

abbrev bufTy : (tb : Table) → Fin (tcTables nBuf tb) → BufTy
  | .hbm, ⟨0, _⟩ => ⟨S32x256x2048, .f32⟩
  | .hbm, ⟨1, _⟩ => ⟨S2x4096x2048, .f32⟩
  | .hbm, ⟨2, _⟩ => ⟨S2048, .f32⟩
  | .hbm, ⟨3, _⟩ => ⟨S12288, .f32⟩
  | .hbm, ⟨4, _⟩ => ⟨S2x12288, .f32⟩
  | .hbm, ⟨5, _⟩ => ⟨S1x2048x4992, .f32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S16, .i1⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S32, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i1⟩
  | .hbm, ⟨42, _⟩ => ⟨S8, .i32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i1⟩
  | .hbm, ⟨47, _⟩ => ⟨S8, .i1⟩
  | .hbm, ⟨48, _⟩ => ⟨S_, .i32⟩
  | .hbm, ⟨49, _⟩ => ⟨S8, .i32⟩
  | .hbm, ⟨50, _⟩ => ⟨S8, .i32⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S2048x4992, .f32⟩
  | .hbm, ⟨56, _⟩ => ⟨S2048x3072, .f32⟩
  | .hbm, ⟨57, _⟩ => ⟨S2048x1536, .f32⟩
  | .hbm, ⟨58, _⟩ => ⟨S2048x384, .f32⟩
  | .hbm, ⟨59, _⟩ => ⟨S2048x4992, .f32⟩
  | .hbm, ⟨60, _⟩ => ⟨S2048x4992, .bf16⟩
  | .hbm, ⟨61, _⟩ => ⟨S_, .i32⟩
  | .hbm, ⟨62, _⟩ => ⟨S_, .bf16⟩
  | .hbm, ⟨63, _⟩ => ⟨S2048x5120, .bf16⟩
  | .hbm, ⟨64, _⟩ => ⟨S8192x2048, .f32⟩
  | .hbm, ⟨65, _⟩ => ⟨S8192x2048, .f32⟩
  | .hbm, ⟨66, _⟩ => ⟨S16384x2048, .f32⟩
  | .hbm, ⟨67, _⟩ => ⟨S_, .f32⟩
  | .hbm, ⟨68, _⟩ => ⟨S5x12288, .f32⟩
  | .hbm, ⟨69, _⟩ => ⟨S1x12288, .f32⟩
  | .hbm, ⟨70, _⟩ => ⟨S8x12288, .f32⟩
  | .hbm, ⟨71, _⟩ => ⟨S48x1x2048, .f32⟩
  | .hbm, ⟨72, _⟩ => ⟨S1x2048, .f32⟩
  | .hbm, ⟨73, _⟩ => ⟨S16384x5120, .f32⟩
  | .hbm, ⟨74, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .smem, ⟨0, _⟩ => ⟨S16, .i32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_1 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c_2 : Ref sig .tc := ⟨.hbm, 31, rfl⟩
abbrev main_v6 : Ref sig .tc := ⟨.hbm, 32, rfl⟩
abbrev main_v7 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v8 : Ref sig .tc := ⟨.hbm, 51, rfl⟩
abbrev main_c_4 : Ref sig .tc := ⟨.hbm, 52, rfl⟩
abbrev main_v9 : Ref sig .tc := ⟨.hbm, 53, rfl⟩
abbrev main_v10 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_c_5 : Ref sig .tc := ⟨.hbm, 61, rfl⟩
abbrev main_call2_v0 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27_0 : Ref sig .tc := ⟨.hbm, 73, rfl⟩
abbrev main_v27_1 : Ref sig .tc := ⟨.hbm, 74, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 5], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c6_i32 : BitVec 32 := 6#32
  let v2 : BitVec 32 := Scalar.muli v1 c6_i32
  let c1_i32 : BitVec 32 := 1#32
  let v3 : BitVec 32 := Scalar.addi v2 c1_i32
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c6_i32 : BitVec 32 := 6#32
  let v2 : BitVec 32 := Scalar.muli v1 c6_i32
  let c0_i32 : BitVec 32 := 0#32
  let v3 : BitVec 32 := Scalar.addi v2 c0_i32
  let c0_i32_0 : BitVec 32 := 0#32
  let c0_i32_1 : BitVec 32 := 0#32
  let c0_i32_2 : BitVec 32 := 0#32
  ![v3.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== EvenRefIdeal.lean ====
abbrev S32x256x2048 : Shape := ⟨3, ![32, 256, 2048]⟩
abbrev S2x4096x2048 : Shape := ⟨3, ![2, 4096, 2048]⟩
abbrev S2048 : Shape := ⟨1, ![2048]⟩
abbrev S12288 : Shape := ⟨1, ![12288]⟩
abbrev S2x12288 : Shape := ⟨2, ![2, 12288]⟩
abbrev S1x2048x4992 : Shape := ⟨3, ![1, 2048, 4992]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S2048x4992 : Shape := ⟨2, ![2048, 4992]⟩
abbrev S32x256x4992 : Shape := ⟨3, ![32, 256, 4992]⟩
abbrev S2x1x12288 : Shape := ⟨3, ![2, 1, 12288]⟩
abbrev S2x1x2048 : Shape := ⟨3, ![2, 1, 2048]⟩
abbrev S2x4096 : Shape := ⟨2, ![2, 4096]⟩
abbrev S2x4096x1 : Shape := ⟨3, ![2, 4096, 1]⟩
abbrev S2x4096x4992 : Shape := ⟨3, ![2, 4096, 4992]⟩
abbrev S8192x4992 : Shape := ⟨2, ![8192, 4992]⟩
abbrev S16384x4992 : Shape := ⟨2, ![16384, 4992]⟩
abbrev S16384x3456 : Shape := ⟨2, ![16384, 3456]⟩
abbrev S16384x1536 : Shape := ⟨2, ![16384, 1536]⟩
abbrev S16384x3072 : Shape := ⟨2, ![16384, 3072]⟩
abbrev S16384x384 : Shape := ⟨2, ![16384, 384]⟩
abbrev S16384x5120 : Shape := ⟨2, ![16384, 5120]⟩

abbrev nBuf : Space → Nat
  | .hbm => 82
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2x4096x2048, .f32⟩
  | .hbm, ⟨2, _⟩ => ⟨S2048, .f32⟩
  | .hbm, ⟨3, _⟩ => ⟨S12288, .f32⟩
  | .hbm, ⟨4, _⟩ => ⟨S2x12288, .f32⟩
  | .hbm, ⟨5, _⟩ => ⟨S1x2048x4992, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S32x256x2048, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x2048, .f32⟩
  | .hbm, ⟨24, _⟩ => ⟨S32x256x2048, .f32⟩
  | .hbm, ⟨25, _⟩ => ⟨S1x1x2048, .f32⟩
  | .hbm, ⟨26, _⟩ => ⟨S32x256x2048, .f32⟩
  | .hbm, ⟨27, _⟩ => ⟨S32x256x2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S1x1x2048, .f32⟩
  | .hbm, ⟨32, _⟩ => ⟨S32x256x2048, .f32⟩
  | .hbm, ⟨33, _⟩ => ⟨S32x256x2048, .f32⟩
  | .hbm, ⟨34, _⟩ => ⟨S1x1x2048, .f32⟩
  | .hbm, ⟨35, _⟩ => ⟨S32x256x2048, .f32⟩
  | .hbm, ⟨36, _⟩ => ⟨S32x256x2048, .f32⟩
  | .hbm, ⟨37, _⟩ => ⟨S2048x4992, .f32⟩
  | .hbm, ⟨38, _⟩ => ⟨S32x256x4992, .f32⟩
  | .hbm, ⟨39, _⟩ => ⟨S2x1x12288, .f32⟩
  | .hbm, ⟨40, _⟩ => ⟨S2x1x2048, .f32⟩
  | .hbm, ⟨41, _⟩ => ⟨S2x1x2048, .f32⟩
  | .hbm, ⟨42, _⟩ => ⟨S2x1x2048, .f32⟩
  | .hbm, ⟨43, _⟩ => ⟨S2x1x2048, .f32⟩
  | .hbm, ⟨44, _⟩ => ⟨S2x1x2048, .f32⟩
  | .hbm, ⟨45, _⟩ => ⟨S2x1x2048, .f32⟩
  | .hbm, ⟨46, _⟩ => ⟨S2x4096x2048, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S_, .f32⟩
  | .hbm, ⟨54, _⟩ => ⟨S2x4096x1, .f32⟩
  | .hbm, ⟨55, _⟩ => ⟨S2x4096x1, .f32⟩
  | .hbm, ⟨56, _⟩ => ⟨S2x4096x1, .f32⟩
  | .hbm, ⟨57, _⟩ => ⟨S2x4096x2048, .f32⟩
  | .hbm, ⟨58, _⟩ => ⟨S2x4096x2048, .f32⟩
  | .hbm, ⟨59, _⟩ => ⟨S1x1x2048, .f32⟩
  | .hbm, ⟨60, _⟩ => ⟨S2x4096x2048, .f32⟩
  | .hbm, ⟨61, _⟩ => ⟨S2x4096x2048, .f32⟩
  | .hbm, ⟨62, _⟩ => ⟨S_, .f32⟩
  | .hbm, ⟨63, _⟩ => ⟨S2x1x2048, .f32⟩
  | .hbm, ⟨64, _⟩ => ⟨S2x1x2048, .f32⟩
  | .hbm, ⟨65, _⟩ => ⟨S2x4096x2048, .f32⟩
  | .hbm, ⟨66, _⟩ => ⟨S2x4096x2048, .f32⟩
  | .hbm, ⟨67, _⟩ => ⟨S2x4096x2048, .f32⟩
  | .hbm, ⟨68, _⟩ => ⟨S2x4096x2048, .f32⟩
  | .hbm, ⟨69, _⟩ => ⟨S2048x4992, .f32⟩
  | .hbm, ⟨70, _⟩ => ⟨S2x4096x4992, .f32⟩
  | .hbm, ⟨71, _⟩ => ⟨S8192x4992, .f32⟩
  | .hbm, ⟨72, _⟩ => ⟨S8192x4992, .f32⟩
  | .hbm, ⟨73, _⟩ => ⟨S16384x4992, .f32⟩
  | .hbm, ⟨74, _⟩ => ⟨S16384x3456, .f32⟩
  | .hbm, ⟨75, _⟩ => ⟨S16384x1536, .f32⟩
  | .hbm, ⟨76, _⟩ => ⟨S16384x3072, .f32⟩
  | .hbm, ⟨77, _⟩ => ⟨S16384x384, .f32⟩
  | .hbm, ⟨78, _⟩ => ⟨S16384x4992, .f32⟩
  | .hbm, ⟨79, _⟩ => ⟨S_, .i32⟩
  | .hbm, ⟨80, _⟩ => ⟨S_, .f32⟩
  | .hbm, ⟨81, _⟩ => ⟨S16384x5120, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c : Ref sig .tc := ⟨.hbm, 79, rfl⟩
abbrev main_call0_v0 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Expert.lean ====
abbrev S32x256x2048 : Shape := ⟨3, ![32, 256, 2048]⟩
abbrev S2x4096x2048 : Shape := ⟨3, ![2, 4096, 2048]⟩
abbrev S16384x128 : Shape := ⟨2, ![16384, 128]⟩
abbrev S12288 : Shape := ⟨1, ![12288]⟩
abbrev S2x12288 : Shape := ⟨2, ![2, 12288]⟩
abbrev S16384x2048 : Shape := ⟨2, ![16384, 2048]⟩
abbrev S_ : Shape := ⟨0, ![]⟩
abbrev S16 : Shape := ⟨1, ![16]⟩
abbrev S32 : Shape := ⟨1, ![32]⟩
abbrev S8 : Shape := ⟨1, ![8]⟩
abbrev S16384 : Shape := ⟨1, ![16384]⟩
abbrev S16384x128x1 : Shape := ⟨3, ![16384, 128, 1]⟩
abbrev S1x1x16384 : Shape := ⟨3, ![1, 1, 16384]⟩
abbrev S16384x128x16384 : Shape := ⟨3, ![16384, 128, 16384]⟩
abbrev S16384x16384 : Shape := ⟨2, ![16384, 16384]⟩
abbrev S8192x2048 : Shape := ⟨2, ![8192, 2048]⟩
abbrev S5x12288 : Shape := ⟨2, ![5, 12288]⟩
abbrev S1x12288 : Shape := ⟨2, ![1, 12288]⟩
abbrev S8x12288 : Shape := ⟨2, ![8, 12288]⟩
abbrev S48x1x2048 : Shape := ⟨3, ![48, 1, 2048]⟩
abbrev S512x2048 : Shape := ⟨2, ![512, 2048]⟩
abbrev S512x1024 : Shape := ⟨2, ![512, 1024]⟩
abbrev S1024x2048 : Shape := ⟨2, ![1024, 2048]⟩
abbrev S1x1x2048 : Shape := ⟨3, ![1, 1, 2048]⟩
abbrev S1 : Shape := ⟨1, ![1]⟩
abbrev S1x2048 : Shape := ⟨2, ![1, 2048]⟩

abbrev nBuf : Space → Nat
  | .hbm => 90
  | .vmem => 15
  | .smem => 1
  | _ => 0

abbrev bufTy : (tb : Table) → Fin (tcTables nBuf tb) → BufTy
  | .hbm, ⟨0, _⟩ => ⟨S32x256x2048, .f32⟩
  | .hbm, ⟨1, _⟩ => ⟨S2x4096x2048, .f32⟩
  | .hbm, ⟨2, _⟩ => ⟨S16384x128, .i32⟩
  | .hbm, ⟨3, _⟩ => ⟨S16384x128, .f32⟩
  | .hbm, ⟨4, _⟩ => ⟨S32x256x2048, .f32⟩
  | .hbm, ⟨5, _⟩ => ⟨S2x4096x2048, .f32⟩
  | .hbm, ⟨6, _⟩ => ⟨S12288, .f32⟩
  | .hbm, ⟨7, _⟩ => ⟨S2x12288, .f32⟩
  | .hbm, ⟨8, _⟩ => ⟨S16384x2048, .f32⟩
  | .hbm, ⟨9, _⟩ => ⟨S16384x2048, .f32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S16, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i1⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S_, .i32⟩
  | .hbm, ⟨38, _⟩ => ⟨S_, .i32⟩
  | .hbm, ⟨39, _⟩ => ⟨S8, .i32⟩
  | .hbm, ⟨40, _⟩ => ⟨S8, .i32⟩
  | .hbm, ⟨41, _⟩ => ⟨S8, .i32⟩
  | .hbm, ⟨42, _⟩ => ⟨S_, .i32⟩
  | .hbm, ⟨43, _⟩ => ⟨S8, .i32⟩
  | .hbm, ⟨44, _⟩ => ⟨S8, .i1⟩
  | .hbm, ⟨45, _⟩ => ⟨S8, .i32⟩
  | .hbm, ⟨46, _⟩ => ⟨S8, .i32⟩
  | .hbm, ⟨47, _⟩ => ⟨S_, .i32⟩
  | .hbm, ⟨48, _⟩ => ⟨S8, .i32⟩
  | .hbm, ⟨49, _⟩ => ⟨S8, .i1⟩
  | .hbm, ⟨50, _⟩ => ⟨S8, .i1⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S8, .i32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S16, .i32⟩
  | .hbm, ⟨59, _⟩ => ⟨S16384, .i32⟩
  | .hbm, ⟨60, _⟩ => ⟨S16384x128x1, .i32⟩
  | .hbm, ⟨61, _⟩ => ⟨S1x1x16384, .i32⟩
  | .hbm, ⟨62, _⟩ => ⟨S16384x128x16384, .i32⟩
  | .hbm, ⟨63, _⟩ => ⟨S16384x128x16384, .i32⟩
  | .hbm, ⟨64, _⟩ => ⟨S16384x128x16384, .i1⟩
  | .hbm, ⟨65, _⟩ => ⟨S16384x128x1, .f32⟩
  | .hbm, ⟨66, _⟩ => ⟨S_, .f32⟩
  | .hbm, ⟨67, _⟩ => ⟨S_, .f32⟩
  | .hbm, ⟨68, _⟩ => ⟨S16384x128x16384, .f32⟩
  | .hbm, ⟨69, _⟩ => ⟨S16384x128x16384, .f32⟩
  | .hbm, ⟨70, _⟩ => ⟨S16384x128x16384, .f32⟩
  | .hbm, ⟨71, _⟩ => ⟨S_, .f32⟩
  | .hbm, ⟨72, _⟩ => ⟨S16384x16384, .f32⟩
  | .hbm, ⟨73, _⟩ => ⟨S16384x16384, .bf16⟩
  | .hbm, ⟨74, _⟩ => ⟨S32x256x2048, .bf16⟩
  | .hbm, ⟨75, _⟩ => ⟨S2x4096x2048, .bf16⟩
  | .hbm, ⟨76, _⟩ => ⟨S8192x2048, .bf16⟩
  | .hbm, ⟨77, _⟩ => ⟨S8192x2048, .bf16⟩
  | .hbm, ⟨78, _⟩ => ⟨S16384x2048, .bf16⟩
  | .hbm, ⟨79, _⟩ => ⟨S16384x2048, .bf16⟩
  | .hbm, ⟨80, _⟩ => ⟨S16384x2048, .bf16⟩
  | .hbm, ⟨81, _⟩ => ⟨S8192x2048, .f32⟩
  | .hbm, ⟨82, _⟩ => ⟨S8192x2048, .f32⟩
  | .hbm, ⟨83, _⟩ => ⟨S16384x2048, .f32⟩
  | .hbm, ⟨84, _⟩ => ⟨S_, .f32⟩
  | .hbm, ⟨85, _⟩ => ⟨S5x12288, .f32⟩
  | .hbm, ⟨86, _⟩ => ⟨S1x12288, .f32⟩
  | .hbm, ⟨87, _⟩ => ⟨S8x12288, .f32⟩
  | .hbm, ⟨88, _⟩ => ⟨S48x1x2048, .f32⟩
  | .hbm, ⟨89, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .smem, ⟨0, _⟩ => ⟨S32, .i32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v2 : Ref sig .tc := ⟨.hbm, 30, rfl⟩
abbrev main_c_1 : Ref sig .tc := ⟨.hbm, 31, rfl⟩
abbrev main_v3 : Ref sig .tc := ⟨.hbm, 32, rfl⟩
abbrev main_v4 : Ref sig .tc := ⟨.hbm, 33, rfl⟩
abbrev main_c_2 : Ref sig .tc := ⟨.hbm, 34, rfl⟩
abbrev main_v6 : Ref sig .tc := ⟨.hbm, 35, rfl⟩
abbrev main_v7 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v8 : Ref sig .tc := ⟨.hbm, 54, rfl⟩
abbrev main_c_4 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v19 : Ref sig .tc := ⟨.hbm, 70, rfl⟩
abbrev main_cst_5 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_6 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c0_i32 : BitVec 32 := 0#32
  let arg0 : BitVec 32 := BitVec.ofNat 32 (i 0).val
  let v0 : BitVec 32 := Scalar.addi c0_i32 arg0
  let v1 : Index := Scalar.indexCast v0
  ![v1.toNat]
def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let v1 : Index := Scalar.indexCast v0
  let v2 : BitVec 32 := pf.at 0 (Rect.unit (s := S32) ![v1.toNat] S1.size (k0_off1_inb i)) numel1_S1
  let c6_i32 : BitVec 32 := 6#32
  let v3 : BitVec 32 := Scalar.muli v2 c6_i32
  let c5_i32 : BitVec 32 := 5#32
  let v4 : BitVec 32 := Scalar.addi v3 c5_i32
  let c0_i32_0 : BitVec 32 := 0#32
  let c0_i32_1 : BitVec 32 := 0#32
  let c0_i32_2 : BitVec 32 := 0#32
  ![v4.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ExpertRefIdeal.lean ====
abbrev S32x256x2048 : Shape := ⟨3, ![32, 256, 2048]⟩
abbrev S2x4096x2048 : Shape := ⟨3, ![2, 4096, 2048]⟩
abbrev S16384x128 : Shape := ⟨2, ![16384, 128]⟩
abbrev S12288 : Shape := ⟨1, ![12288]⟩
abbrev S2x12288 : Shape := ⟨2, ![2, 12288]⟩
abbrev S16384x2048 : Shape := ⟨2, ![16384, 2048]⟩
abbrev S8192x2048 : Shape := ⟨2, ![8192, 2048]⟩
abbrev S8192x128 : Shape := ⟨2, ![8192, 128]⟩
abbrev S_ : Shape := ⟨0, ![]⟩
abbrev S8192x128x1 : Shape := ⟨3, ![8192, 128, 1]⟩
abbrev S1 : Shape := ⟨1, ![1]⟩
abbrev S1x1x1 : Shape := ⟨3, ![1, 1, 1]⟩
abbrev S8192x128x2048 : Shape := ⟨3, ![8192, 128, 2048]⟩
abbrev S2048 : Shape := ⟨1, ![2048]⟩
abbrev S1x2048 : Shape := ⟨2, ![1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2x4096x2048, .f32⟩
  | .hbm, ⟨2, _⟩ => ⟨S16384x128, .i32⟩
  | .hbm, ⟨3, _⟩ => ⟨S16384x128, .f32⟩
  | .hbm, ⟨4, _⟩ => ⟨S32x256x2048, .f32⟩
  | .hbm, ⟨5, _⟩ => ⟨S2x4096x2048, .f32⟩
  | .hbm, ⟨6, _⟩ => ⟨S12288, .f32⟩
  | .hbm, ⟨7, _⟩ => ⟨S2x12288, .f32⟩
  | .hbm, ⟨8, _⟩ => ⟨S16384x2048, .f32⟩
  | .hbm, ⟨9, _⟩ => ⟨S16384x2048, .f32⟩
  | .hbm, ⟨10, _⟩ => ⟨S8192x2048, .f32⟩
  | .hbm, ⟨11, _⟩ => ⟨S8192x128, .i32⟩
  | .hbm, ⟨12, _⟩ => ⟨S8192x128, .f32⟩
  | .hbm, ⟨13, _⟩ => ⟨S_, .i32⟩
  | .hbm, ⟨14, _⟩ => ⟨S8192x128, .i32⟩
  | .hbm, ⟨15, _⟩ => ⟨S8192x128, .i1⟩
  | .hbm, ⟨16, _⟩ => ⟨S_, .i32⟩
  | .hbm, ⟨17, _⟩ => ⟨S8192x128, .i32⟩
  | .hbm, ⟨18, _⟩ => ⟨S8192x128, .i32⟩
  | .hbm, ⟨19, _⟩ => ⟨S8192x128, .i32⟩
  | .hbm, ⟨20, _⟩ => ⟨S8192x128x1, .i32⟩
  | .hbm, ⟨21, _⟩ => ⟨S1, .i32⟩
  | .hbm, ⟨22, _⟩ => ⟨S_, .i32⟩
  | .hbm, ⟨23, _⟩ => ⟨S8192x128x1, .i32⟩
  | .hbm, ⟨24, _⟩ => ⟨S8192x128x1, .i1⟩
  | .hbm, ⟨25, _⟩ => ⟨S1x1x1, .i32⟩
  | .hbm, ⟨26, _⟩ => ⟨S8192x128x1, .i32⟩
  | .hbm, ⟨27, _⟩ => ⟨S8192x128x1, .i1⟩
  | .hbm, ⟨28, _⟩ => ⟨S8192x128x1, .i1⟩
  | .hbm, ⟨29, _⟩ => ⟨S_, .i1⟩
  | .hbm, ⟨30, _⟩ => ⟨S8192x128, .i1⟩
  | .hbm, ⟨31, _⟩ => ⟨S8192x128x2048, .f32⟩
  | .hbm, ⟨32, _⟩ => ⟨S8192x128x2048, .i1⟩
  | .hbm, ⟨33, _⟩ => ⟨S_, .f32⟩
  | .hbm, ⟨34, _⟩ => ⟨S8192x128x2048, .f32⟩
  | .hbm, ⟨35, _⟩ => ⟨S8192x128x2048, .f32⟩
  | .hbm, ⟨36, _⟩ => ⟨S8192x128, .f32⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S_, .i32⟩
  | .hbm, ⟨47, _⟩ => ⟨S8192x128, .i32⟩
  | .hbm, ⟨48, _⟩ => ⟨S8192x128, .i1⟩
  | .hbm, ⟨49, _⟩ => ⟨S_, .i32⟩
  | .hbm, ⟨50, _⟩ => ⟨S8192x128, .i32⟩
  | .hbm, ⟨51, _⟩ => ⟨S8192x128, .i32⟩
  | .hbm, ⟨52, _⟩ => ⟨S8192x128, .i32⟩
  | .hbm, ⟨53, _⟩ => ⟨S8192x128x1, .i32⟩
  | .hbm, ⟨54, _⟩ => ⟨S1, .i32⟩
  | .hbm, ⟨55, _⟩ => ⟨S_, .i32⟩
  | .hbm, ⟨56, _⟩ => ⟨S8192x128x1, .i32⟩
  | .hbm, ⟨57, _⟩ => ⟨S8192x128x1, .i1⟩
  | .hbm, ⟨58, _⟩ => ⟨S1x1x1, .i32⟩
  | .hbm, ⟨59, _⟩ => ⟨S8192x128x1, .i32⟩
  | .hbm, ⟨60, _⟩ => ⟨S8192x128x1, .i1⟩
  | .hbm, ⟨61, _⟩ => ⟨S8192x128x1, .i1⟩
  | .hbm, ⟨62, _⟩ => ⟨S_, .i1⟩
  | .hbm, ⟨63, _⟩ => ⟨S8192x128, .i1⟩
  | .hbm, ⟨64, _⟩ => ⟨S8192x128x2048, .f32⟩
  | .hbm, ⟨65, _⟩ => ⟨S8192x128x2048, .i1⟩
  | .hbm, ⟨66, _⟩ => ⟨S_, .f32⟩
  | .hbm, ⟨67, _⟩ => ⟨S8192x128x2048, .f32⟩
  | .hbm, ⟨68, _⟩ => ⟨S8192x128x2048, .f32⟩
  | .hbm, ⟨69, _⟩ => ⟨S8192x128, .f32⟩
  | .hbm, ⟨70, _⟩ => ⟨S8192x2048, .f32⟩
  | .hbm, ⟨71, _⟩ => ⟨S8192x2048, .f32⟩
  | .hbm, ⟨72, _⟩ => ⟨S2048, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S1x2048, .f32⟩
  | .hbm, ⟨79, _⟩ => ⟨S8192x2048, .f32⟩
  | .hbm, ⟨80, _⟩ => ⟨S8192x2048, .f32⟩
  | .hbm, ⟨81, _⟩ => ⟨S8192x2048, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩

abbrev nD : Nat := 1
abbrev τ : Topo := Topo.v7x

variable {F : FTy → Type} [FloatOps F]
-- ==== Proof.Math.lean ====
/- Extended-real arithmetic the value proofs share: sums scaled by a finite nonnegative factor, finite sums, and a
   softmax row whose division is taken out of the sum over the values. -/
module

public import Idealize.ShloMosaic.PureOps.Ideal.Laws
public import Idealize.ShloMosaic.Lib.IdealHost

@[expose] public section

noncomputable section

namespace Cert.Math

open Idealize.ShloMosaic
open scoped BigOperators

/-- An extended real that is a real. -/
def Fin' (x : EReal) : Prop := x ≠ ⊤ ∧ x ≠ ⊥

theorem fin_coe {x : EReal} (h : Fin' x) : ∃ r : ℝ, x = (r : EReal) :=
  ⟨x.toReal, (EReal.coe_toReal h.1 h.2).symm⟩

theorem coe_fin (r : ℝ) : Fin' (r : EReal) := ⟨EReal.coe_ne_top r, EReal.coe_ne_bot r⟩

/-- The sum of reals is the real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_mul {x y : EReal} (hx : Fin' x) (hy : Fin' y) : Fin' (x * y) := by
  obtain ⟨a, rfl⟩ := fin_coe hx; obtain ⟨b, rfl⟩ := fin_coe hy
  rw [← EReal.coe_mul]; exact coe_fin _

theorem fin_sum {ι : Type*} (s : Finset ι) (f : ι → EReal) (h : ∀ i, Fin' (f i)) : Fin' (∑ i ∈ s, f i) := by
  choose g hg using fun i => fin_coe (h i)
  simp only [hg, ← coe_sum]; exact coe_fin _

/-- A finite nonnegative factor on the right goes into a sum, whatever the addends. -/
theorem sum_mul_of_nonneg {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- The running maximum of finitely many reals, at least one, from minus infinity: a real. -/
theorem fin_foldMax {n : ℕ} [NeZero n] (s : Fin n → EReal) (h : ∀ i, Fin' (s i)) :
    Fin' (Finset.univ.fold max ⊥ s) := by
  constructor
  · intro e
    have hlt : Finset.univ.fold max ⊥ s < (⊤ : EReal) :=
      (Finset.fold_max_lt (s := Finset.univ) (f := s) (b := ⊥) (c := ⊤)).2
        ⟨bot_lt_top, fun i _ => lt_top_iff_ne_top.2 (h i).1⟩
    exact absurd e hlt.ne
  · intro e
    have hle : Finset.univ.fold max ⊥ s ≤ (⊥ : EReal) := le_of_eq e
    exact (h 0).2 (le_bot_iff.1 (((Finset.fold_max_le (s := Finset.univ) (f := s) (b := ⊥) (c := ⊥)).1 hle).2 0
      (Finset.mem_univ _)))

/-- One row of attention as the kernel forms it: the scores' exponentials against the values, divided by their sum. -/
def attnRow {n : ℕ} (s v : Fin n → EReal) : EReal :=
  Ideal.div (∑ k, Ideal.exp (s k - Finset.univ.fold max ⊥ s) * v k)
    (∑ k, Ideal.exp (s k - Finset.univ.fold max ⊥ s))

/-- Of finite scores the weights may be divided first, whatever the values. -/
theorem attnRow_eq {n : ℕ} [NeZero n] (s v : Fin n → EReal) (h : ∀ i, Fin' (s i)) :
    attnRow s v = ∑ k, v k * Ideal.div (Ideal.exp (s k - Finset.univ.fold max ⊥ s))
      (∑ k, Ideal.exp (s k - Finset.univ.fold max ⊥ s)) := by
  obtain ⟨M, hM⟩ := fin_coe (fin_foldMax s h)
  choose g hg using fun i => fin_coe (h i)
  have he : ∀ k, Ideal.exp (s k - Finset.univ.fold max ⊥ s) = ((Real.exp (g k - M) : ℝ) : EReal) := fun k => by
    rw [hM, hg k, ← EReal.coe_sub]; rfl
  unfold attnRow
  simp only [he, ← coe_sum]
  have hpos : 0 < ∑ k, Real.exp (g k - M) := Finset.sum_pos (fun k _ => Real.exp_pos _) Finset.univ_nonempty
  rw [Ideal.div_coe hpos.ne', sum_mul_of_nonneg _ _ (by positivity)]
  refine Finset.sum_congr rfl fun k _ => ?_
  rw [Ideal.div_coe hpos.ne', mul_comm (_ : EReal) (v k), mul_assoc]

end Cert.Math

end
-- ==== Proof.Attn.Head.lean ====
/- One head's block of the attention kernel, read at an index. The kernel's body handles its four query heads one after
   another by the same operations; each store's payload is `k0_pay4` of the loads it reads. -/
module

public import proofs.«01_k».proof.Proof.Gen.KernelIdeal.Frame
public import proofs.«01_k».proof.Proof.Math
public import Idealize.ShloMosaic.Lib.Pointwise

@[expose] public section

set_option maxRecDepth 16384

noncomputable section

namespace Cert.Attn

open Idealize.ShloMosaic Cert.KernelIdeal Cert.KernelIdeal.Gen Cert.Math
open scoped BigOperators

theorem ofBits_neg_inf : Ideal.ofBits .f32 0xFF800000#32 = (⊥ : EReal) := by
  simp [Ideal.ofBits, Ideal.ieee]

section Same
variable {F : FTy → Type} [FloatOps F]
variable (k v : Vec F S1x4608x128 .bf16) (q : Vec F S1x256x128 .bf16)

theorem second : k0_pay8 (k0_pay3 v) (k0_pay6 k q) (k0_pay7 k q) (constant S256x128 .f32 0x00000000#32) = k0_pay4 k v q := rfl
theorem third : k0_pay9 (k0_pay2 k) (k0_pay3 v) q = k0_pay4 k v q := rfl
theorem fourth : k0_pay1 (k0_pay11 (k0_pay2 k) (k0_pay3 v) q) (k0_pay12 (k0_pay2 k) q) = k0_pay4 k v q := rfl
end Same

/-- A head's block at row `r` and lane `d`: the row of attention over the scores of query `r`. -/
theorem head_apply (k v : Vec Ideal S1x4608x128 .bf16) (q : Vec Ideal S1x256x128 .bf16) (r : Fin 256) (d : Fin 128) :
    k0_pay4 k v q (ix3 0 r d)
      = attnRow (fun j : Fin 4608 => ∑ e : Fin 128, q (ix3 0 r e) * k (ix3 0 j e)) (fun j => v (ix3 0 j d)) := by
  pointwise [k0_pay4, k0_pay2, k0_pay3]
  rw [ofBits_neg_inf]
  rfl

end Cert.Attn

end
-- ==== Proof.Attn.Block.lean ====
/- What one grid point of the attention kernel leaves in its output block, and from it the whole output array: every
   element is the row of attention of its query over all keys and values of its batch and key head. -/
module

public import proofs.«01_k».proof.Proof.Gen.KernelIdeal.Value
public import proofs.«01_k».proof.Proof.Attn.Head
public import Idealize.ShloMosaic.Lib.Pipeline.ValueKit.Geometry
public import Idealize.ShloMosaic.Lib.Pipeline.ValueKit.Tiles

@[expose] public section

set_option maxRecDepth 16384

noncomputable section

namespace Cert.Attn

open Idealize.ShloMosaic Idealize.ShloMosaic.TcCoe Cert.KernelIdeal Cert.KernelIdeal.Gen Cert.Math
open scoped BigOperators

/-- The output block as a function of the three input blocks: lane `l` belongs to the head of the 128 lanes around it. -/
def blockOf (x0 : Vec Ideal S1x256x512 .bf16) (x1 x2 : Vec Ideal S1x4608x128 .bf16) (r : Fin 256) (l : Fin 512) : EReal :=
  attnRow (fun j : Fin 4608 => ∑ e : Fin 128, x0 (ix3 0 r ⟨128 * (l.val / 128) + e.val, by omega⟩) * x1 (ix3 0 j e))
    (fun j => x2 (ix3 0 j ⟨l.val % 128, Nat.mod_lt _ (by decide)⟩))

/-- A head's store, `o` lanes into the block, at row `r` and lane `d`. -/
theorem piece (x0 : Vec Ideal S1x256x512 .bf16) (x1 x2 : Vec Ideal S1x4608x128 .bf16) (q : Vec Ideal S1x256x128 .bf16) (n : Fin 4)
    (hq : ∀ r (e : Fin 128), q (ix3 0 r e) = x0 (ix3 0 r ⟨128 * n.val + e.val, by omega⟩)) (r : Fin 256) (d : Fin 128) :
    k0_pay4 x1 x2 q (ix3 0 r d) = blockOf x0 x1 x2 r ⟨128 * n.val + d.val, by omega⟩ := by
  rw [head_apply]
  unfold blockOf
  have h1 : (128 * n.val + d.val) / 128 = n.val := by omega
  have h2 : (128 * n.val + d.val) % 128 = d.val := by omega
  simp only [hq, h1, h2]

/-- The same, with the store's rectangle and the load of the queries through it. -/
theorem piece_at (x0 : Vec Ideal S1x256x512 .bf16) (x1 x2 : Vec Ideal S1x4608x128 .bf16) (n : Fin 4)
    (inb : ∀ a, (![0, 0, 128 * n.val] : Fin 3 → Nat) a + S1x256x128.size a ≤ S1x256x512.size a) (x : S1x256x128.Idx) :
    k0_pay4 x1 x2 (View.ld x0 (Rect.unit (s := S1x256x512) ![0, 0, 128 * n.val] S1x256x128.size inb)) x
      = blockOf x0 x1 x2 ((Rect.unit (s := S1x256x512) ![0, 0, 128 * n.val] S1x256x128.size inb).emb x 1)
          ((Rect.unit (s := S1x256x512) ![0, 0, 128 * n.val] S1x256x128.size inb).emb x 2) := by
  obtain ⟨r, d, rfl⟩ : ∃ (r : Fin 256) (d : Fin 128), x = ix3 0 r d :=
    ⟨x 1, x 2, by rw [eq_ix3 x]; congr 1; exact Subsingleton.elim (α := Fin 1) _ _⟩
  refine (piece x0 x1 x2 _ n (fun r e => ?_) r d).trans ?_
  · refine View.ld_unit_apply_of x0 _ _ inb _ _ fun a => ?_
    match a with
    | ⟨0, _⟩ => rfl
    | ⟨1, _⟩ => show r.val = 0 + r.val; omega
    | ⟨2, _⟩ => rfl
  · congr 1 <;> refine Fin.ext ?_
    · show r.val = 0 + 1 * r.val; omega
    · show 128 * n.val + d.val = 128 * n.val + 1 * d.val; omega

theorem out_apply (x0 : Vec Ideal S1x256x512 .bf16) (x1 x2 : Vec Ideal S1x4608x128 .bf16) (y : S1x256x512.Idx) :
    out0_3 x0 x1 x2 y = blockOf x0 x1 x2 (y 1) (y 2) := by
  unfold_out out0_3
  have e1 : View.ld x1 r0_0 = x1 := View.ld_unit_lit _ _ (by decide)
  have e2 : View.ld x2 r0_0 = x2 := View.ld_unit_lit _ _ (by decide)
  refine View.canon_apply_of_pieces (Val := Elt Ideal) (e := .bf16) (fun y : S1x256x512.Idx => blockOf x0 x1 x2 (y 1) (y 2)) _ ?_ y
    (cover0_3 _ _ _ _ y)
  intro p hp
  simp only [List.mem_cons, List.not_mem_nil, or_false] at hp
  rcases hp with rfl | rfl | rfl | rfl <;> intro x <;> dsimp only [k0_pay13, k0_pay14] <;> simp only [e1, e2]
  · rw [fourth]; exact piece_at x0 x1 x2 3 _ x
  · rw [third]; exact piece_at x0 x1 x2 2 _ x
  · rw [second]; exact piece_at x0 x1 x2 1 _ x
  · exact piece_at x0 x1 x2 0 _ x

/-- The whole output array as a function of the arrays of queries, keys and values that the windows are blocks of. -/
def attnArr (Q : Vec Ideal S2x4096x1024 .bf16) (K V : Vec Ideal S2x4608x256 .bf16) (b : Fin 2) (s : Fin 4096) (l : Fin 1024) : EReal :=
  attnRow (fun j : Fin 4608 => ∑ e : Fin 128, Q (ix3 b s ⟨128 * (l.val / 128) + e.val, by omega⟩)
      * K (ix3 b j ⟨128 * (l.val / 512) + e.val, by omega⟩))
    (fun j => V (ix3 b j ⟨128 * (l.val / 512) + l.val % 128, by omega⟩))

section Array
variable (m : (ℓ : Loc nD τ sig) → Buf (Elt Ideal) ℓ)

theorem idx_facts : ∀ t : Fin cfg0.N,
    (win0_0.index t = ![(grid0.coords t 0).val, (grid0.coords t 2).val, (grid0.coords t 1).val]
      ∧ win0_1.index t = ![(grid0.coords t 0).val, 0, (grid0.coords t 1).val])
    ∧ (win0_2.index t = ![(grid0.coords t 0).val, 0, (grid0.coords t 1).val]
      ∧ win0_3.index t = ![(grid0.coords t 0).val, (grid0.coords t 2).val, (grid0.coords t 1).val]) :=
  (by decide +kernel : ∀ t : Fin grid0.N, _)

theorem final (c : Dev nD) : (dats m 0 c).arrAt 3 cfg0.N
    = fun y : S2x4096x1024.Idx => attnArr (V m c main_v3) (V m c main_v11) (V m c main_v15) (y 0) (y 1) (y 2) := by
  refine (dats m 0 c).arrAt_eq_of_covers 3 _ (by decide +kernel) fun t hf y => ?_
  blk_simp
  rw [after0_3, out_apply]
  obtain ⟨⟨h0, h1⟩, ⟨h2, h3⟩⟩ := idx_facts t
  unfold blockOf attnArr
  blk_simp [iblk]
  have hy1 : (y 1 : ℕ) < 256 := (y 1).isLt
  have hy2 : (y 2 : ℕ) < 512 := (y 2).isLt
  have hy0 : (y 0 : ℕ) < 1 := (y 0).isLt
  refine congrArg₂ attnRow (funext fun j => Finset.sum_congr rfl fun e _ => congrArg₂ (· * ·) (congrArg _ ?_) (congrArg _ ?_))
    (funext fun j => congrArg _ ?_)
  · blk_ext [h0, h3]
  · blk_ext [h1, h3]
  · blk_ext [h2, h3]
end Array

end Cert.Attn

end
-- ==== Proof.Attn.Args.lean ====
/- The arrays that the attention kernel's windows are blocks of, as the host prepares them from the arguments, and with
   them the kernel's result as a function of the arguments. -/
module

public import proofs.«01_k».proof.Proof.Attn.Block
public import Idealize.ShloMosaic.Lib.StableHlo.ReadAt

@[expose] public section

set_option maxRecDepth 16384

noncomputable section

namespace Cert.Attn

open Idealize.ShloMosaic Idealize.ShloMosaic.TcCoe Cert.KernelIdeal Cert.KernelIdeal.Gen Cert.Math
open scoped BigOperators

/-- The scale of the scores, 1/√128 as rounded to binary32. -/
def scale : EReal := Ideal.ofBits .f32 0x3DB504F3#32

/-- A query's lane, scaled. -/
def queryAt (q : Vec Ideal S2x4096x2x4x128 .f32) (b : Fin 2) (s : Fin 4096) (h : Fin 2) (g : Fin 4) (e : Fin 128) : EReal :=
  q (ix5 b s h g e) * scale

/-- Row `j` of the keys (or values) of batch `b` and key head `h`: the prompt's rows, then the cache's. -/
def rowsOf (x : Vec Ideal S2x4096x2x128 .f32) (cx : Vec Ideal S2x1x512x2x128 .f32) (b h : Fin 2) (j : Fin 4608) (e : Fin 128) : EReal :=
  if hj : j.val < 4096 then x (ix4 b ⟨j.val, hj⟩ h e) else cx (ix5 b 0 ⟨j.val - 4096, by omega⟩ h e)

/-- The attention as a function of its arguments, at batch `b`, position `s` and output lane `l`. -/
def spec (q : Vec Ideal S2x4096x2x4x128 .f32) (k v : Vec Ideal S2x4096x2x128 .f32) (ck cv : Vec Ideal S2x1x512x2x128 .f32)
    (b : Fin 2) (s : Fin 4096) (l : Fin 1024) : EReal :=
  attnRow (fun j : Fin 4608 => ∑ e : Fin 128, queryAt q b s ⟨l.val / 512, by omega⟩ ⟨l.val / 128 % 4, by omega⟩ e
      * rowsOf k ck b ⟨l.val / 512, by omega⟩ j e)
    (fun j => rowsOf v cv b ⟨l.val / 512, by omega⟩ j ⟨l.val % 128, by omega⟩)

variable (m : (ℓ : Loc nD τ sig) → Buf (Elt Ideal) ℓ) (c : Dev nD)

theorem q_apply (b : Fin 2) (s : Fin 4096) (l : Fin 1024) : (V m c main_v3 (ix3 b s l) : EReal)
    = queryAt (m ((c : Thread nD τ).loc main_arg0)) b s ⟨l.val / 512, by omega⟩ ⟨l.val / 128 % 4, by omega⟩ ⟨l.val % 128, by omega⟩ := by
  unfold V
  after_reads_at
  rfl

theorem k_apply (b : Fin 2) (s : Fin 4608) (l : Fin 256) : (V m c main_v11 (ix3 b s l) : EReal)
    = rowsOf (m ((c : Thread nD τ).loc main_arg1)) (m ((c : Thread nD τ).loc main_arg3)) b ⟨l.val / 128, by omega⟩ s ⟨l.val % 128, by omega⟩ := by
  unfold V
  after_reads_at
  rfl

theorem v_apply (b : Fin 2) (s : Fin 4608) (l : Fin 256) : (V m c main_v15 (ix3 b s l) : EReal)
    = rowsOf (m ((c : Thread nD τ).loc main_arg2)) (m ((c : Thread nD τ).loc main_arg4)) b ⟨l.val / 128, by omega⟩ s ⟨l.val % 128, by omega⟩ := by
  unfold V
  after_reads_at
  rfl

theorem final_apply (b : Fin 2) (s : Fin 4096) (l : Fin 1024) :
    attnArr (V m c main_v3) (V m c main_v11) (V m c main_v15) b s l
      = spec (m ((c : Thread nD τ).loc main_arg0)) (m ((c : Thread nD τ).loc main_arg1)) (m ((c : Thread nD τ).loc main_arg2))
          (m ((c : Thread nD τ).loc main_arg3)) (m ((c : Thread nD τ).loc main_arg4)) b s l := by
  unfold attnArr spec
  refine congrArg₂ attnRow (funext fun j => Finset.sum_congr rfl fun e _ => ?_) (funext fun j => ?_)
  · rw [q_apply, k_apply]
    have h1 : (128 * (l.val / 128) + e.val) / 512 = l.val / 512 := by omega
    have h2 : (128 * (l.val / 128) + e.val) / 128 % 4 = l.val / 128 % 4 := by omega
    have h3 : (128 * (l.val / 128) + e.val) % 128 = e.val := by omega
    have h4 : (128 * (l.val / 512) + e.val) / 128 = l.val / 512 := by omega
    have h5 : (128 * (l.val / 512) + e.val) % 128 = e.val := by omega
    simp only [h1, h2, h3, h4, h5]
  · rw [v_apply]
    have h4 : (128 * (l.val / 512) + l.val % 128) / 128 = l.val / 512 := by omega
    have h5 : (128 * (l.val / 512) + l.val % 128) % 128 = l.val % 128 := by omega
    simp only [h4, h5]

end Cert.Attn

end
-- ==== Proof.Attn.Ref.lean ====
/- The reference's result at an index. -/
module

public import proofs.«01_k».proof.Proof.Gen.ReferenceIdeal.Read
public import proofs.«01_k».proof.Proof.Attn.Args

@[expose] public section

set_option maxRecDepth 16384

noncomputable section

namespace Cert.Attn

open Idealize.ShloMosaic Idealize.ShloMosaic.TcCoe Cert.ReferenceIdeal Cert.Math
open Cert.ReferenceIdeal.Read Cert.ReferenceIdeal.Gen
open scoped BigOperators

variable (q : Vec Ideal S2x4096x2x4x128 .f32) (k v : Vec Ideal S2x4096x2x128 .f32) (ck cv : Vec Ideal S2x1x512x2x128 .f32)

/-- The reference's score of key `j` for the query at `s` of head `g` of key head `h`. -/
def score (b h : Fin 2) (g : Fin 4) (s : Fin 4096) (j : Fin 4608) : EReal :=
  (∑ e : Fin 128, rowsOf k ck b h j e * q (ix5 b s h g e)) * scale

theorem keys_apply (b : Fin 2) (j : Fin 4608) (h : Fin 2) (e : Fin 128) :
    (val_main_v1 k ck (ix4 b j h e) : EReal) = rowsOf k ck b h j e := by
  pointwise [val_main_v1, val_main_v0]
  rfl

theorem vals_apply (b : Fin 2) (j : Fin 4608) (h : Fin 2) (e : Fin 128) :
    (val_main_v3 v cv (ix4 b j h e) : EReal) = rowsOf v cv b h j e := by
  pointwise [val_main_v3, val_main_v2]
  rfl

theorem score_apply (b h : Fin 2) (g : Fin 4) (s : Fin 4096) (j : Fin 4608) :
    (val_main_v7 q k ck (ix5 b h g s j) : EReal) = score q k ck b h g s j := by
  pointwise [val_main_v7, val_main_v6, val_main_v5, val_main_v4, val_main_cst]
  simp only [keys_apply]
  rfl

theorem scoreMax_eq : val_main_v8 (F := Ideal) q k ck
    = Host.reduce (α := Elt Ideal .f32) (@FloatOps.maximumf Ideal _ .f32) (val_main_v7 q k ck) (val_main_cst_0)
        reducesTo_S2x2x4x4096x4608_S2x2x4x4096_d4 h_S_ := rfl

theorem reduce_apply (X : FVec Ideal S2x2x4x4096x4608 .f32) (b h : Fin 2) (g : Fin 4) (s : Fin 4096) :
    (Host.reduce (α := Elt Ideal .f32) (@FloatOps.maximumf Ideal _ .f32) X (val_main_cst_0)
        reducesTo_S2x2x4x4096x4608_S2x2x4x4096_d4 h_S_ (ix4 b h g s) : EReal)
      = Finset.univ.fold max ⊥ (fun j : Fin 4608 => (X (ix5 b h g s j) : EReal)) := by
  pointwise [val_main_cst_0]
  rw [ofBits_neg_inf]

theorem scoreMax_apply (b h : Fin 2) (g : Fin 4) (s : Fin 4096) :
    (val_main_v8 q k ck (ix4 b h g s) : EReal) = Finset.univ.fold max ⊥ (score q k ck b h g s) := by
  have e : (fun j : Fin 4608 => (val_main_v7 q k ck (ix5 b h g s j) : EReal)) = score q k ck b h g s :=
    funext (score_apply q k ck b h g s)
  rw [scoreMax_eq, ← e]
  exact reduce_apply _ b h g s

theorem max_eq : val_main_v10 (F := Ideal) q k ck
    = maximumf (F := Ideal) (s := S2x2x4x4096) (φ := .f32) (val_main_v9 (F := Ideal)) (val_main_v8 q k ck) := rfl

theorem atLeast (X : FVec Ideal S2x2x4x4096 .f32) (b h : Fin 2) (g : Fin 4) (s : Fin 4096) :
    (maximumf (F := Ideal) (s := S2x2x4x4096) (φ := .f32) (val_main_v9 (F := Ideal)) X (ix4 b h g s) : EReal) = X (ix4 b h g s) := by
  pointwise [val_main_v9, val_main_cst_1]
  rw [ofBits_neg_inf]
  exact max_eq_right bot_le

theorem max_apply (b h : Fin 2) (g : Fin 4) (s : Fin 4096) :
    (val_main_v10 q k ck (ix4 b h g s) : EReal) = Finset.univ.fold max ⊥ (score q k ck b h g s) := by
  rw [max_eq]
  exact (atLeast _ b h g s).trans (scoreMax_apply q k ck b h g s)

theorem exp_apply (b h : Fin 2) (g : Fin 4) (s : Fin 4096) (j : Fin 4608) :
    (val_main_v14 q k ck (ix5 b h g s j) : EReal)
      = Ideal.exp (score q k ck b h g s j - Finset.univ.fold max ⊥ (score q k ck b h g s)) := by
  pointwise [val_main_v14, val_main_v13, val_main_v12, val_main_v11]
  simp only [score_apply, max_apply]

theorem weight_apply (b h : Fin 2) (g : Fin 4) (s : Fin 4096) (j : Fin 4608) :
    (val_main_v18 q k ck (ix5 b h g s j) : EReal)
      = Ideal.div (Ideal.exp (score q k ck b h g s j - Finset.univ.fold max ⊥ (score q k ck b h g s)))
          (∑ i : Fin 4608, Ideal.exp (score q k ck b h g s i - Finset.univ.fold max ⊥ (score q k ck b h g s))) := by
  pointwise [val_main_v18, val_main_v17, val_main_v16, val_main_v15, val_main_cst_2]
  simp only [exp_apply]

theorem ref_apply (b : Fin 2) (s : Fin 4096) (l : Fin 1024) :
    (val_main_v22 q k v ck cv (ix3 b s l) : EReal)
      = ∑ j : Fin 4608, rowsOf v cv b ⟨l.val / 512, by omega⟩ j ⟨l.val % 128, by omega⟩
          * Ideal.div (Ideal.exp (score q k ck b ⟨l.val / 512, by omega⟩ ⟨l.val / 128 % 4, by omega⟩ s j
                - Finset.univ.fold max ⊥ (score q k ck b ⟨l.val / 512, by omega⟩ ⟨l.val / 128 % 4, by omega⟩ s)))
              (∑ i : Fin 4608, Ideal.exp (score q k ck b ⟨l.val / 512, by omega⟩ ⟨l.val / 128 % 4, by omega⟩ s i
                - Finset.univ.fold max ⊥ (score q k ck b ⟨l.val / 512, by omega⟩ ⟨l.val / 128 % 4, by omega⟩ s))) := by
  pointwise [val_main_v22, val_main_v21, val_main_v20, val_main_v19]
  simp only [vals_apply, weight_apply]

/-- The scale is a real, and not negative. -/
theorem scale_eq : ∃ r : ℝ, 0 ≤ r ∧ scale = (r : EReal) := by
  refine ⟨_, ?_, rfl⟩
  have h : (BitVec.extractLsb' 31 1 0x3DB504F3#32 == 1#1) = false := by decide
  simp only [Nat.reduceAdd, h, Bool.false_eq_true, ↓reduceIte]
  positivity

/-- The score is the same whichever factor the scale is multiplied into. -/
theorem score_eq (b h : Fin 2) (g : Fin 4) (s : Fin 4096) (j : Fin 4608) :
    (∑ e : Fin 128, queryAt q b s h g e * rowsOf k ck b h j e) = score q k ck b h g s j := by
  obtain ⟨r, hr, e⟩ := scale_eq
  unfold score queryAt
  rw [e, sum_mul_of_nonneg _ _ hr]
  exact Finset.sum_congr rfl fun i _ => by rw [mul_right_comm, mul_comm (rowsOf _ _ _ _ _ _)]

/-- Of finite queries and keys the scores are finite. -/
theorem score_fin (hq : ∀ i, Fin' (q i)) (hk : ∀ i, Fin' (k i)) (hc : ∀ i, Fin' (ck i)) (b h : Fin 2) (g : Fin 4) (s : Fin 4096)
    (j : Fin 4608) : Fin' (score q k ck b h g s j) := by
  obtain ⟨r, hr, e⟩ := scale_eq
  unfold score
  rw [e]
  refine fin_mul (fin_sum _ _ fun i => fin_mul ?_ (hq _)) (coe_fin r)
  unfold rowsOf
  split
  · exact hk _
  · exact hc _

/-- The reference's result is the attention as the kernel forms it. -/
theorem ref_eq_spec (hq : ∀ i, Fin' (q i)) (hk : ∀ i, Fin' (k i)) (hc : ∀ i, Fin' (ck i)) (b : Fin 2) (s : Fin 4096) (l : Fin 1024) :
    (val_main_v22 q k v ck cv (ix3 b s l) : EReal) = spec q k v ck cv b s l := by
  rw [ref_apply]
  unfold spec
  simp only [score_eq]
  exact (attnRow_eq _ _ fun j => score_fin q k ck hq hk hc _ _ _ _ j).symm

end Cert.Attn

end
-- ==== Proof.Attn.Claims.lean ====
/- The claims about the attention call: its frames, and its value against the reference's softmax over the extended reals. -/
module

public import proofs.«01_k».proof.Defs
public import proofs.«01_k».proof.Proof.Gen.Kernel.Frame
public import proofs.«01_k».proof.Proof.Gen.Pre_finite_scores
public import proofs.«01_k».proof.Proof.Attn.Ref
public import Idealize.ShloMosaic.Lib.Quiescent

@[expose] public section

noncomputable section

namespace Cert.Attn

open Idealize.ShloMosaic Idealize.ShloMosaic.TcCoe Idealize.SL.Sem Cert.Math

attribute [local instance] Cert.Pre_finite_scores.Gen.facts

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite_scores := fun m ρ _ => Cert.KernelIdeal.Gen.frame m ρ

theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ref_pre : Cert.quiescent_ReferenceIdeal_pre_finite_scores := fun m ρ _ => frame_ref m ρ trivial

/-- An extended real whose absolute value compares below infinity is a real. -/
theorem fin_of_cmp {x : EReal} (h : Ideal.cmp .olt (max x (-x)) (Ideal.ofBits .f32 0x7F800000#32) = 1#1) : Fin' x := by
  have e : Ideal.ofBits .f32 0x7F800000#32 = ⊤ := by simp [Ideal.ofBits, Ideal.ieee]
  rw [e] at h
  constructor <;> rintro rfl <;> simp [Ideal.cmp] at h

/-- What the kernel's result array is shown to hold. -/
def attention (m : (ℓ : Loc Cert.KernelIdeal.nD Cert.KernelIdeal.τ Cert.KernelIdeal.sig) → Buf (Elt Ideal) ℓ) (c : Dev Cert.KernelIdeal.nD) :
    Cert.KernelIdeal.S2x4096x1024.Idx → EReal := fun y =>
  spec (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (y 0) (y 1) (y 2)

theorem algebraic : Cert.algebraic_KernelIdeal_ReferenceIdeal_pre_finite_scores := by
  intro m ρ m' ρ' hpre hagree
  refine ⟨fun c => attention m c, ?_, ?_⟩
  · refine (θ_run Cert.KernelIdeal.defs _ _).mono (fun _ h c => ⟨((h c).1.trans (final m c)).trans ?_, (h c).2⟩)
      (Cert.KernelIdeal.Value.run_blocks (F := Ideal) m ρ)
    exact funext fun y => final_apply m c (y 0) (y 1) (y 2)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v22_eq m' c).trans ?_
    obtain ⟨e0, e1, e2, e3, e4⟩ := hagree c
    rw [e0, e1, e2, e3, e4]
    obtain ⟨p0, p1, p2⟩ := hpre c
    refine funext fun y : Cert.KernelIdeal.S2x4096x1024.Idx => ?_
    obtain ⟨b, s, l, rfl⟩ : ∃ (b : Fin 2) (s : Fin 4096) (l : Fin 1024), y = ix3 b s l := ⟨y 0, y 1, y 2, eq_ix3 y⟩
    refine ref_eq_spec _ _ _ _ _ (fun i => ?_) (fun i => ?_) (fun i => ?_) b s l
    · exact fin_of_cmp (congrFun p0 i)
    · exact fin_of_cmp (congrFun p1 i)
    · exact fin_of_cmp (congrFun p2 i)

end Cert.Attn

end
-- ==== Proof.Seg.lean ====
/- The table of segments of the calls that read one: which row of the modulations each tile of tokens is modulated by.
   The host computes it by a floor division of words, which is read here at every tile. -/
module

public import Idealize.ShloMosaic.Lib.Pointwise

@[expose] public section

noncomputable section

namespace Cert.Seg

open Idealize.ShloMosaic

/-- The segment of tile `i`, of `h` tiles of context and then `d` tiles for each sample: the context, or one of the samples. -/
def segOf (h d i : Nat) : Nat := if i < h then 0 else 1 + (i - h) / d

/-- The segment as the host computes it. -/
def segWord (h : Nat) (d : BitVec 32) (i : Nat) : BitVec 32 :=
  if _ : i < h then 0#32
  else
    IntOp.addi (1#32)
      (Scalar.select
        (IntOp.andi
          (IntOp.cmpi CmpIPredicate.ne
            (if BitVec.ofNat 32 (i - h) = 0 then 0#32 else if (BitVec.ofNat 32 (i - h)).msb = true then -1 else 1)
            (if d = 0 then 0#32 else if d.msb = true then -1 else 1))
          (IntOp.cmpi CmpIPredicate.ne (IntOp.remsi ArithUnit.host (BitVec.ofNat 32 (i - h)) d) 0#32))
        (IntOp.subi (IntOp.divsi ArithUnit.host (BitVec.ofNat 32 (i - h)) d) 1#32)
        (IntOp.divsi ArithUnit.host (BitVec.ofNat 32 (i - h)) d))

theorem segWord_512 : ∀ i : Fin 32, segWord 16 8#32 i.val = BitVec.ofNat 32 (segOf 16 8 i.val) := by decide +kernel
theorem segWord_1024 : ∀ i : Fin 16, segWord 8 4#32 i.val = BitVec.ofNat 32 (segOf 8 4 i.val) := by decide +kernel

theorem coord_word (n : Nat) (hn : n ≤ 4096) : ∀ i : Fin n, (Scalar.indexCast (BitVec.ofNat 32 i.val) : Index).toNat = i.val := by
  intro i
  have h : ∀ j : Fin 4096, (Scalar.indexCast (BitVec.ofNat 32 j.val) : Index).toNat = j.val := by decide +kernel
  exact h ⟨i.val, by omega⟩

end Cert.Seg

end
-- ==== Proof.Out.TableIdeal.lean ====
/- The table of segments, as the host computes it. -/
module

public import proofs.«01_k».proof.Proof.Gen.OutIdeal.Frame
public import proofs.«01_k».proof.Proof.Seg
public import Idealize.ShloMosaic.Lib.StableHlo.ReadAt
public import Idealize.ShloMosaic.Lib.Pointwise
public import Idealize.ShloMosaic.Lib.Pipeline.ValueKit.Geometry

@[expose] public section

set_option maxRecDepth 16384

noncomputable section

namespace Cert.OutProj.Ideal

open Idealize.ShloMosaic Idealize.ShloMosaic.TcCoe Cert.OutIdeal Cert.OutIdeal.Gen Cert.Seg

variable {F : FTy → Type} [FloatOps F] (m : (ℓ : Loc nD τ sig) → Buf (Elt F) ℓ) (c : Dev nD)

theorem table_apply (i : Fin 32) : (V m c main_v5 (ix1 i) : BitVec 32) = BitVec.ofNat 32 (segOf 16 8 i) := by
  unfold V
  after_reads_at
  simp only [id, constantI]
  exact segWord_512 i

theorem word_apply (i : grid0.Coords) :
    (tbl m).at 0 (Rect.unit (s := S32) (k0_off1 i) S1.size (k0_off1_inb i)) numel1_S1 = BitVec.ofNat 32 (segOf 16 8 (i 0)) := by
  refine Eq.trans ?_ (table_apply m 0 (i 0))
  refine congrArg (V m 0 main_v5) (funext fun (a : Fin 1) => ?_)
  obtain rfl : a = 0 := Subsingleton.elim _ _
  exact Fin.ext (coord_word 32 (by decide) (i 0))

theorem index_gate (i : grid0.Coords) :
    cc0_transform_3 k0_off1_inb numel1_S1 (tbl m) i = ![segOf 16 8 (i 0) * 6 + 2, 0, (i 1).val] := by
  have e : cc0_transform_3 k0_off1_inb numel1_S1 (tbl m) i
      = ![(Scalar.addi (Scalar.muli ((tbl m).at 0 (Rect.unit (s := S32) (k0_off1 i) S1.size (k0_off1_inb i)) numel1_S1) 6#32) 2#32).toNat, 0, (BitVec.ofNat 32 (i 1).val).toNat] := rfl
  rw [e, word_apply]
  have key : ∀ (a : Fin 32) (b : Fin 1), (![(Scalar.addi (Scalar.muli (BitVec.ofNat 32 (segOf 16 8 a)) 6#32) 2#32).toNat, 0, (BitVec.ofNat 32 b.val).toNat] : Fin 3 → Nat) = ![segOf 16 8 a * 6 + 2, 0, b.val] := by
    decide +kernel
  exact key (i 0) (i 1)

/-- The blocks that the table chooses lie in the array of modulations. -/
theorem ok : Ok m := fun i =>
  ⟨by
    rw [index_gate]
    have key : ∀ (a : Fin 32) (b : Fin 1), ∀ x, ((![segOf 16 8 a * 6 + 2, 0, b.val] : Fin 3 → Nat) x + 1) * S1x1x2048.size x ≤ S48x1x2048.size x := by
      decide +kernel
    exact key (i 0) (i 1), .inl rfl⟩

end Cert.OutProj.Ideal

end
-- ==== Proof.Out.Block.lean ====
/- What one grid point of the output projection leaves in its output block, and from it the whole output array. -/
module

public import proofs.«01_k».proof.Proof.Out.TableIdeal
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.OutProj.Ideal

open Idealize.ShloMosaic Idealize.ShloMosaic.TcCoe Cert.OutIdeal Cert.OutIdeal.Gen Cert.Seg
open scoped BigOperators

theorem pay_apply (x0 : Vec Ideal S512x2048 .bf16) (x1 : Vec Ideal S2048x2048 .bf16) (x2 : Vec Ideal S512x2048 .f32)
    (x3 : Vec Ideal S1x1x2048 .f32) (r : Fin 512) (n : Fin 2048) :
    k0_pay1 x0 x1 x2 x3 (ix2 r n) = (x2 (ix2 r n) + x3 (ix3 0 0 n) * ∑ k : Fin 2048, x0 (ix2 r k) * x1 (ix2 k n) : EReal) := by
  pointwise [k0_pay1]

theorem pay_congr {a a' : Vec Ideal S512x2048 .bf16} {b b' : Vec Ideal S2048x2048 .bf16} {c c' : Vec Ideal S512x2048 .f32}
    {d d' : Vec Ideal S1x1x2048 .f32} (ha : a = a') (hb : b = b') (hc : c = c') (hd : d = d') :
    k0_pay1 a b c d = k0_pay1 a' b' c' d' := by subst ha hb hc hd; rfl

theorem eta2 (y : S512x2048.Idx) : y = ix2 (y 0) (y 1) := funext fun (a : Fin 2) => match a with | 0 => rfl | 1 => rfl

/-- A row of the modulations. -/
def modRow (p : Nat) (r : Fin 16384) : Fin 48 := ⟨(segOf 16 8 (r.val / 512) * 6 + p) % 48, Nat.mod_lt _ (by decide)⟩

/-- The whole output array as a function of the arrays that the windows are blocks of. -/
def outArr (A : Vec Ideal S16384x2048 .bf16) (W : Vec Ideal S2048x2048 .bf16) (R : Vec Ideal S16384x2048 .f32)
    (M : Vec Ideal S48x1x2048 .f32) (r : Fin 16384) (n : Fin 2048) : EReal :=
  R (ix2 r n) + M (ix3 (modRow 2 r) 0 n) * ∑ k : Fin 2048, A (ix2 r k) * W (ix2 k n)

theorem point (A : Vec Ideal S16384x2048 .bf16) (W : Vec Ideal S2048x2048 .bf16) (R : Vec Ideal S16384x2048 .f32)
    (M : Vec Ideal S48x1x2048 .f32) (a : Vec Ideal S512x2048 .bf16) (w : Vec Ideal S2048x2048 .bf16) (x : Vec Ideal S512x2048 .f32)
    (g : Vec Ideal S1x1x2048 .f32) (q : Fin 16384) (r : Fin 512) (n : Fin 2048) (ha : ∀ k, a (ix2 r k) = A (ix2 q k))
    (hw : ∀ k, w (ix2 k n) = W (ix2 k n)) (hr : x (ix2 r n) = R (ix2 q n)) (hm : g (ix3 0 0 n) = M (ix3 (modRow 2 q) 0 n)) :
    k0_pay1 a w x g (ix2 r n) = outArr A W R M q n := by
  rw [pay_apply, hr, hm]
  simp only [ha, hw]
  rfl

section Array
variable (m : (ℓ : Loc nD τ sig) → Buf (Elt Ideal) ℓ)

theorem index_a : ∀ t : Fin grid0.N, cc0_transform_0 (grid0.coords t) = ![t.val, 0] := by decide +kernel
theorem index_w : ∀ t : Fin grid0.N, cc0_transform_1 (grid0.coords t) = ![0, 0] := by decide +kernel
theorem index_r : ∀ t : Fin grid0.N, cc0_transform_2 (grid0.coords t) = ![t.val, 0] := by decide +kernel
theorem index_o : ∀ t : Fin grid0.N, cc0_transform_4 (grid0.coords t) = ![t.val, 0] := by decide +kernel
theorem coord_row : ∀ t : Fin grid0.N, ((grid0.coords t) 0).val = t.val ∧ ((grid0.coords t) 1).val = 0 := by decide +kernel

theorem lt_N (t : Fin grid0.N) : t.val < 32 := t.isLt

/-- The row of the whole array that row `r` of the block of point `t` is. -/
def rowOf (t : Fin grid0.N) (r : Fin 512) : Fin 16384 := ⟨t.val * 512 + r.val, by have := lt_N t; omega⟩

theorem emb_out (t : Fin grid0.N) (r : Fin 512) (n : Fin 2048) :
    (((cfgM m (ok m)).win 4).blk t).view.emb (ix2 r n) = ix2 (rowOf t r) n := by
  refine funext fun (a : Fin 2) => Fin.ext ?_
  match a with
  | 0 => show cc0_transform_4 (grid0.coords t) 0 * 512 + 1 * r.val = t.val * 512 + r.val
         rw [index_o]; show t.val * 512 + 1 * r.val = _; omega
  | 1 => show cc0_transform_4 (grid0.coords t) 1 * 2048 + 1 * n.val = n.val
         rw [index_o]; show 0 * 2048 + 1 * n.val = _; omega

theorem emb_a (t : Fin grid0.N) (r : Fin 512) (n : Fin 2048) :
    (((cfgM m (ok m)).win 0).blk t).view.emb (ix2 r n) = ix2 (rowOf t r) n := by
  refine funext fun (a : Fin 2) => Fin.ext ?_
  match a with
  | 0 => show cc0_transform_0 (grid0.coords t) 0 * 512 + 1 * r.val = t.val * 512 + r.val
         rw [index_a]; show t.val * 512 + 1 * r.val = _; omega
  | 1 => show cc0_transform_0 (grid0.coords t) 1 * 2048 + 1 * n.val = n.val
         rw [index_a]; show 0 * 2048 + 1 * n.val = _; omega

theorem emb_w (t : Fin grid0.N) (k n : Fin 2048) :
    (((cfgM m (ok m)).win 1).blk t).view.emb (ix2 k n) = ix2 k n := by
  refine funext fun (a : Fin 2) => Fin.ext ?_
  match a with
  | 0 => show cc0_transform_1 (grid0.coords t) 0 * 2048 + 1 * k.val = k.val
         rw [index_w]; show 0 * 2048 + 1 * k.val = _; omega
  | 1 => show cc0_transform_1 (grid0.coords t) 1 * 2048 + 1 * n.val = n.val
         rw [index_w]; show 0 * 2048 + 1 * n.val = _; omega

theorem emb_r (t : Fin grid0.N) (r : Fin 512) (n : Fin 2048) :
    (((cfgM m (ok m)).win 2).blk t).view.emb (ix2 r n) = ix2 (rowOf t r) n := by
  refine funext fun (a : Fin 2) => Fin.ext ?_
  match a with
  | 0 => show cc0_transform_2 (grid0.coords t) 0 * 512 + 1 * r.val = t.val * 512 + r.val
         rw [index_r]; show t.val * 512 + 1 * r.val = _; omega
  | 1 => show cc0_transform_2 (grid0.coords t) 1 * 2048 + 1 * n.val = n.val
         rw [index_r]; show 0 * 2048 + 1 * n.val = _; omega

theorem seg_row (t : Fin grid0.N) (r : Fin 512) (p : Nat) (hp : p < 6) :
    (modRow p (rowOf t r)).val = segOf 16 8 t.val * 6 + p := by
  have h := lt_N t
  have e : (rowOf t r).val / 512 = t.val := by show (t.val * 512 + r.val) / 512 = _; omega
  show (segOf 16 8 ((rowOf t r).val / 512) * 6 + p) % 48 = _
  rw [e, Nat.mod_eq_of_lt]
  unfold segOf
  split <;> omega

theorem emb_m (t : Fin grid0.N) (r : Fin 512) (n : Fin 2048) :
    (((cfgM m (ok m)).win 3).blk t).view.emb (ix3 0 0 n) = ix3 (modRow 2 (rowOf t r)) 0 n := by
  refine funext fun (a : Fin 3) => Fin.ext ?_
  match a with
  | 0 => show cc0_transform_3 k0_off1_inb numel1_S1 (tbl m) (grid0.coords t) 0 * 1 + 1 * 0 = (modRow 2 (rowOf t r)).val
         rw [index_gate, seg_row t r 2 (by decide), ← (coord_row t).1]; show (segOf 16 8 ((grid0.coords t) 0).val * 6 + 2) * 1 + 1 * 0 = _; omega
  | 1 => show cc0_transform_3 k0_off1_inb numel1_S1 (tbl m) (grid0.coords t) 1 * 1 + 1 * 0 = 0
         rw [index_gate]; rfl
  | 2 => show cc0_transform_3 k0_off1_inb numel1_S1 (tbl m) (grid0.coords t) 2 * 2048 + 1 * n.val = n.val
         rw [index_gate]; show ((grid0.coords t) 1).val * 2048 + 1 * n.val = _
         rw [(coord_row t).2]; omega

theorem covers : ((cfgM m (ok m)).win 4).Covers := by
  refine ⟨(by decide : ∀ a : Fin 2, 0 < S512x2048.size a), fun β => ?_⟩
  refine ⟨(⟨(β (0 : Fin 2)).val, Nat.lt_of_lt_of_eq (β (0 : Fin 2)).isLt (show (16384 + 512 - 1) / 512 = 32 by decide)⟩ : Fin grid0.N), flush0_4 _ _, fun (a : Fin 2) => ⟨?_, Or.inl rfl⟩⟩
  match a with
  | 0 => show cc0_transform_4 (grid0.coords _) 0 = _
         rw [index_o]; rfl
  | 1 => show cc0_transform_4 (grid0.coords _) 1 = _
         rw [index_o]
         have h : (β (1 : Fin 2)).val < 1 := Nat.lt_of_lt_of_eq (β (1 : Fin 2)).isLt (show (2048 + 2048 - 1) / 2048 = 1 by decide)
         show 0 = (β (1 : Fin 2)).val
         omega

theorem blk_a (c : Dev nD) (t : Fin grid0.N) (r : Fin 512) (k : Fin 2048) :
    (iblk m (ok m) c 0 t : Vec Ideal S512x2048 .bf16) (ix2 r k) = V m c main_v16 (ix2 (rowOf t r) k) := by
  rw [← emb_a m t r k]; rfl

theorem blk_w (c : Dev nD) (t : Fin grid0.N) (k n : Fin 2048) :
    (iblk m (ok m) c 1 t : Vec Ideal S2048x2048 .bf16) (ix2 k n) = V m c main_v18 (ix2 k n) := by
  conv_rhs => rw [← emb_w m t k n]
  rfl

theorem blk_r (c : Dev nD) (t : Fin grid0.N) (r : Fin 512) (n : Fin 2048) :
    (iblk m (ok m) c 2 t : Vec Ideal S512x2048 .f32) (ix2 r n) = V m c main_v21 (ix2 (rowOf t r) n) := by
  rw [← emb_r m t r n]; rfl

theorem blk_m (c : Dev nD) (t : Fin grid0.N) (r : Fin 512) (n : Fin 2048) :
    (iblk m (ok m) c 3 t : Vec Ideal S1x1x2048 .f32) (ix3 0 0 n) = V m c main_v25 (ix3 (modRow 2 (rowOf t r)) 0 n) := by
  rw [← emb_m m t r n]; rfl

theorem final (c : Dev nD) : (dats m (ok m) 0 c).arrAt 4 (cfgM m (ok m)).N
    = fun y : S16384x2048.Idx => outArr (V m c main_v16) (V m c main_v18) (V m c main_v21) (V m c main_v25) (y 0) (y 1) := by
  refine (dats m (ok m) 0 c).arrAt_eq_of_covers 4 _ (covers m) fun t hf y => ?_
  blk_simp
  rw [after0_4]
  unfold outsAt0
  frame_out
  obtain ⟨r, n, rfl⟩ : ∃ (r : Fin 512) (n : Fin 2048), y = ix2 r n := ⟨y (0 : Fin 2), y (1 : Fin 2), eta2 y⟩
  refine (congrFun (pay_congr (Memref.IsWhole.read_unread _ _) (Memref.IsWhole.read_unread _ _) (Memref.IsWhole.read_unread _ _)
    (Memref.IsWhole.read_unread _ _)) _).trans ?_
  refine Eq.trans ?_ (congrArg (fun z : S16384x2048.Idx => outArr (V m c main_v16) (V m c main_v18) (V m c main_v21) (V m c main_v25)
    (z 0) (z 1)) (emb_out m t r n)).symm
  exact point (V m c main_v16) (V m c main_v18) (V m c main_v21) (V m c main_v25) (iblk m (ok m) c 0 t) (iblk m (ok m) c 1 t)
    (iblk m (ok m) c 2 t) (iblk m (ok m) c 3 t) (rowOf t r) r n (fun k => blk_a m c t r k)
    (fun k => blk_w m c t k n) (blk_r m c t r n) (blk_m m c t r n)
end Array

end Cert.OutProj.Ideal

end
-- ==== Proof.Tok.lean ====
/- Tokens and modulations as the host lays them out in memory: the prompt's rows followed by the sample's rows, and six
   modulation vectors for every segment. -/
module

public import Idealize.ShloMosaic.Lib.StableHlo.ReadAt
public import Idealize.ShloMosaic.Lib.Pointwise
public import Idealize.ShloMosaic.PureOps.BitExact
public import proofs.«01_k».proof.Proof.Seg

@[expose] public section

noncomputable section

namespace Cert.Tok

open Idealize.ShloMosaic Cert.Seg
open scoped BigOperators

abbrev SP : Shape := ⟨3, ![32, 256, 2048]⟩
abbrev SS : Shape := ⟨3, ![2, 4096, 2048]⟩
abbrev SH : Shape := ⟨2, ![8192, 2048]⟩
abbrev ST : Shape := ⟨2, ![16384, 2048]⟩
abbrev SM1 : Shape := ⟨1, ![12288]⟩
abbrev SM2 : Shape := ⟨2, ![2, 12288]⟩

/-- Row `r` of the tokens. -/
def tok (xp : Vec Ideal SP .f32) (xs : Vec Ideal SS .f32) (r : Fin 16384) (n : Fin 2048) : EReal :=
  if h : r.val < 8192 then xp (ix3 ⟨r.val / 256, by omega⟩ ⟨r.val % 256, by omega⟩ n)
  else xs (ix3 ⟨(r.val - 8192) / 4096, by omega⟩ ⟨(r.val - 8192) % 4096, by omega⟩ n)

/-- The modulation vector of part `p` (of six) at row `r`. -/
def modAt (mc : Vec Ideal SM1 .f32) (ms : Vec Ideal SM2 .f32) (p : Fin 6) (r : Fin 16384) (n : Fin 2048) : EReal :=
  if h : r.val < 8192 then mc (ix1 ⟨p.val * 2048 + n.val, by omega⟩)
  else ms (ix2 ⟨(r.val - 8192) / 4096, by omega⟩ ⟨p.val * 2048 + n.val, by omega⟩)

theorem tok_read (xp : Vec Ideal SP .f32) (xs : Vec Ideal SS .f32) (h1 : SP.ShapeCasts SH) (h2 : SS.ShapeCasts SH)
    (h3 : Shape.Concatenates [SH, SH] ST 0) (r : Fin 16384) (n : Fin 2048) :
    (concatenate ST 0 [⟨SH, shapeCast SH xp h1⟩, ⟨SH, shapeCast SH xs h2⟩] h3 (ix2 r n) : EReal) = tok xp xs r n := by
  pointwise
  rfl

/-- Lane `n` of a row `x` normalized by its root mean square, times the gain `g`, scaled by `1 + sc` and shifted by `sh`. -/
def norm (x : Fin 2048 → EReal) (g sc sh : EReal) (n : Fin 2048) : EReal :=
  x n * Ideal.rsqrt (Ideal.div (∑ k : Fin 2048, x k * x k) (Ideal.ofBits FTy.f32 1157627904#32) + Ideal.ofBits FTy.f32 897988541#32)
    * g * (1 + sc) + sh

/-- The modulated token at row `r`: parts `ps` and `ph` of the modulations are the scale and the shift. -/
def modulated (xp : Vec Ideal SP .f32) (xs : Vec Ideal SS .f32) (g : Vec Ideal ⟨1, ![2048]⟩ .f32) (mc : Vec Ideal SM1 .f32)
    (ms : Vec Ideal SM2 .f32) (ps ph : Fin 6) (r : Fin 16384) (n : Fin 2048) : EReal :=
  norm (tok xp xs r) (g (ix1 n)) (modAt mc ms ps r n) (modAt mc ms ph r n) n

/-- The segment of row `r`: the prompt, or a sample. -/
def rowSeg (r : Fin 16384) : Nat := if r.val < 8192 then 0 else 1 + (r.val - 8192) / 4096

theorem seg_512 (r : Fin 16384) : segOf 16 8 (r.val / 512) = rowSeg r := by
  unfold segOf rowSeg
  split <;> split <;> omega

theorem seg_1024 (r : Fin 16384) : segOf 8 4 (r.val / 1024) = rowSeg r := by
  unfold segOf rowSeg
  split <;> split <;> omega

abbrev S1M : Shape := ⟨2, ![1, 12288]⟩
abbrev S5M : Shape := ⟨2, ![5, 12288]⟩
abbrev S8M : Shape := ⟨2, ![8, 12288]⟩
abbrev S48 : Shape := ⟨3, ![48, 1, 2048]⟩

/-- The row of the modulations for part `p` (of six) at row `r`. -/
theorem mod_read (mc : Vec Ideal SM1 .f32) (ms : Vec Ideal SM2 .f32) (z : Vec Ideal S5M .f32) (h1 h2 h3) (q : Fin 48)
    (p : Fin 6) (r : Fin 16384) (n : Fin 2048) (hq : q.val = rowSeg r * 6 + p.val) :
    (shapeCast S48 (concatenate S8M 0 [⟨S1M, broadcastInDim S1M ![1] h1 mc⟩, ⟨SM2, ms⟩, ⟨S5M, z⟩] h2) h3 (ix3 q 0 n) : EReal)
      = modAt mc ms p r n := by
  pointwise
  unfold modAt
  unfold rowSeg at hq
  have e6 : q.val % 6 = p.val := by omega
  by_cases h : r.val < 8192
  · rw [if_pos h] at hq
    have e : q.val / 6 < 1 := by omega
    rw [dif_pos h, dif_pos e]
    congr 1
    refine congrArg ix1 (Fin.ext ?_)
    show q.val % 6 * 2048 + n.val = _
    rw [e6]
  · rw [if_neg h] at hq
    have e : ¬ q.val / 6 < 1 := by omega
    have e2 : q.val / 6 - 1 < 2 := by omega
    rw [dif_neg h, dif_neg e, dif_pos e2]
    congr 1
    refine congrArg₂ ix2 (Fin.ext ?_) (Fin.ext ?_)
    · show q.val / 6 - 1 = (r.val - 8192) / 4096
      omega
    · show q.val % 6 * 2048 + n.val = _
      rw [e6]

end Cert.Tok

end
-- ==== Proof.Out.Args.lean ====
/- The arrays that the windows are blocks of, as the host computes them from the arguments. -/
module

public import proofs.«01_k».proof.Proof.Out.Block
public import proofs.«01_k».proof.Proof.Tok

@[expose] public section

set_option maxRecDepth 16384

noncomputable section

namespace Cert.OutProj.Ideal

open Idealize.ShloMosaic Idealize.ShloMosaic.TcCoe Cert.OutIdeal Cert.OutIdeal.Gen Cert.Seg Cert.Tok
open scoped BigOperators

variable (m : (ℓ : Loc nD τ sig) → Buf (Elt Ideal) ℓ) (c : Dev nD)

theorem res_apply (r : Fin 16384) (n : Fin 2048) : (V m c main_v21 (ix2 r n) : EReal)
    = tok (m ((c : Thread nD τ).loc main_arg2)) (m ((c : Thread nD τ).loc main_arg3)) r n := by
  refine Eq.trans ?_ (tok_read _ _ shapeCasts_S32x256x2048_S8192x2048 shapeCasts_S2x4096x2048_S8192x2048
    concatenates_S8192x2048_S8192x2048_S16384x2048_d0 r n)
  unfold V
  after_reads_simp
  rfl

theorem mix_apply (r : Fin 16384) (n : Fin 2048) : (V m c main_v16 (ix2 r n) : EReal)
    = tok (m ((c : Thread nD τ).loc main_arg0)) (m ((c : Thread nD τ).loc main_arg1)) r n := by
  refine Eq.trans ?_ (tok_read _ _ shapeCasts_S32x256x2048_S8192x2048 shapeCasts_S2x4096x2048_S8192x2048
    concatenates_S8192x2048_S8192x2048_S16384x2048_d0 r n)
  unfold V
  after_reads_simp
  rfl

theorem w_apply (k n : Fin 2048) : (V m c main_v18 (ix2 k n) : EReal)
    = (m ((c : Thread nD τ).loc main_arg6) : Vec Ideal S1x2048x2048 .f32) (ix3 0 k n) := by
  unfold V
  after_reads_at

theorem mod_apply (r : Fin 16384) (n : Fin 2048) : (V m c main_v25 (ix3 (modRow 2 r) 0 n) : EReal)
    = modAt (m ((c : Thread nD τ).loc main_arg4)) (m ((c : Thread nD τ).loc main_arg5)) 2 r n := by
  have hq : (modRow 2 r).val = rowSeg r * 6 + (2 : Fin 6).val := by
    show (segOf 16 8 (r.val / 512) * 6 + 2) % 48 = _
    rw [seg_512]
    unfold rowSeg
    split <;> omega
  refine Eq.trans ?_ (mod_read _ _ (broadcastInDim S5x12288 ![] bcast_S_S5x12288 (constant (F := Idealize.ShloMosaic.Ideal) S_ .f32 0x00000000#32)) bcast_S12288_S1x12288_1 concatenates_S1x12288_S2x12288_S5x12288_S8x12288_d0
    shapeCasts_S8x12288_S48x1x2048 (modRow 2 r) 2 r n hq)
  unfold V
  after_reads_simp
  rfl

/-- The output as a function of the arguments. -/
def spec (yp : Vec Ideal SP .f32) (ys : Vec Ideal SS .f32) (xp : Vec Ideal SP .f32) (xs : Vec Ideal SS .f32)
    (mc : Vec Ideal SM1 .f32) (ms : Vec Ideal SM2 .f32) (w : Vec Ideal S1x2048x2048 .f32) (r : Fin 16384) (n : Fin 2048) : EReal :=
  tok xp xs r n + modAt mc ms 2 r n * ∑ k : Fin 2048, tok yp ys r k * w (ix3 0 k n)

theorem out_eq (A : Vec Ideal S16384x2048 .bf16) (W : Vec Ideal S2048x2048 .bf16) (R : Vec Ideal S16384x2048 .f32)
    (M : Vec Ideal S48x1x2048 .f32) (r : Fin 16384) (n : Fin 2048) (a w : Fin 2048 → EReal) (x g : EReal)
    (ha : ∀ k, A (ix2 r k) = a k) (hw : ∀ k, W (ix2 k n) = w k) (hr : R (ix2 r n) = x) (hm : M (ix3 (modRow 2 r) 0 n) = g) :
    outArr A W R M r n = x + g * ∑ k : Fin 2048, a k * w k := by
  unfold outArr
  rw [hr, hm]
  simp only [ha, hw]

theorem final_apply (r : Fin 16384) (n : Fin 2048) :
    outArr (V m c main_v16) (V m c main_v18) (V m c main_v21) (V m c main_v25) r n
      = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) r n := by
  exact out_eq _ _ _ _ r n _ _ _ _ (mix_apply m c r) (fun k => w_apply m c k n) (res_apply m c r n) (mod_apply m c r n)

end Cert.OutProj.Ideal

end
-- ==== Proof.Out.Ref.lean ====
/- The reference's projection, read at an index. -/
module

public import proofs.«01_k».proof.Proof.Out.Args
public import proofs.«01_k».proof.Proof.Gen.OutRefIdeal.Run
public import proofs.«01_k».proof.Proof.Gen.OutRefIdeal.Read

@[expose] public section

set_option maxRecDepth 16384

noncomputable section

namespace Cert.OutProj.Ref

open Idealize.ShloMosaic Idealize.ShloMosaic.TcCoe Cert.OutRefIdeal Cert.OutRefIdeal.Read Cert.Tok
open scoped BigOperators

theorem prompt_apply (yp : Vec Ideal SP .f32) (mc : Vec Ideal SM1 .f32) (w : Vec Ideal S1x2048x2048 .f32) (a : Fin 32) (b : Fin 256)
    (n : Fin 2048) : (val_main_v10 (F := Ideal) yp mc w (ix3 a b n) : EReal)
      = mc (ix1 ⟨2 * 2048 + n.val, by omega⟩) * ∑ k : Fin 2048, yp (ix3 a b k) * w (ix3 0 k n) := by
  pointwise [val_main_v10, val_main_v9, val_main_v8, val_main_v7, val_main_v6, val_main_v2]

theorem sample_apply (ys : Vec Ideal SS .f32) (ms : Vec Ideal SM2 .f32) (w : Vec Ideal S1x2048x2048 .f32) (a : Fin 2) (b : Fin 4096)
    (n : Fin 2048) : (val_main_v22 (F := Ideal) ys ms w (ix3 a b n) : EReal)
      = ms (ix2 a ⟨2 * 2048 + n.val, by omega⟩) * ∑ k : Fin 2048, ys (ix3 a b k) * w (ix3 0 k n) := by
  pointwise [val_main_v22, val_main_v21, val_main_v20, val_main_v19, val_main_v15, val_main_v12]

theorem ref_eq_spec (yp : Vec Ideal SP .f32) (ys : Vec Ideal SS .f32) (xp : Vec Ideal SP .f32) (xs : Vec Ideal SS .f32)
    (mc : Vec Ideal SM1 .f32) (ms : Vec Ideal SM2 .f32) (w : Vec Ideal S1x2048x2048 .f32) (r : Fin 16384) (n : Fin 2048) :
    val_main_v26 (F := Ideal) yp ys xp xs mc ms w (ix2 r n) = Ideal.spec yp ys xp xs mc ms w r n := by
  pointwise [val_main_v26, val_main_v24, val_main_v25, val_main_v11, val_main_v23]
  unfold Ideal.spec tok modAt
  by_cases h : r.val < 8192
  · simp only [dif_pos h]
    rw [prompt_apply]
    rfl
  · simp only [dif_neg h]
    rw [sample_apply]
    rfl

end Cert.OutProj.Ref

end
-- ==== Proof.Out.Claims.lean ====
/- The claims about the output projection: its frames, and its value against the reference's over the extended reals. -/
module

public import proofs.«01_k».proof.Defs
public import proofs.«01_k».proof.Proof.Out.Table
public import proofs.«01_k».proof.Proof.Out.Ref
public import Idealize.ShloMosaic.Lib.Quiescent

@[expose] public section

noncomputable section

namespace Cert.OutProj

open Idealize.ShloMosaic Idealize.ShloMosaic.TcCoe Idealize.SL.Sem

theorem frame_kernel : Cert.quiescent_Out := fun m ρ _ => Cert.Out.Gen.frame m ρ (Bits.ok m)
theorem frame_ideal : Cert.quiescent_OutIdeal := fun m ρ _ => Cert.OutIdeal.Gen.frame m ρ (Ideal.ok m)
theorem frame_ref : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Idealize.ShloMosaic.Ideal) m ρ)

/-- What the kernel's result array is shown to hold. -/
def result (m : (ℓ : Loc Cert.OutIdeal.nD Cert.OutIdeal.τ Cert.OutIdeal.sig) → Buf (Elt Idealize.ShloMosaic.Ideal) ℓ) (c : Dev Cert.OutIdeal.nD) :
    Cert.OutIdeal.S16384x2048.Idx → EReal := fun y =>
  Ideal.spec (m ((c.tc : Thread Cert.OutIdeal.nD Cert.OutIdeal.τ).loc Cert.OutIdeal.main_arg0))
    (m ((c.tc : Thread Cert.OutIdeal.nD Cert.OutIdeal.τ).loc Cert.OutIdeal.main_arg1))
    (m ((c.tc : Thread Cert.OutIdeal.nD Cert.OutIdeal.τ).loc Cert.OutIdeal.main_arg2))
    (m ((c.tc : Thread Cert.OutIdeal.nD Cert.OutIdeal.τ).loc Cert.OutIdeal.main_arg3))
    (m ((c.tc : Thread Cert.OutIdeal.nD Cert.OutIdeal.τ).loc Cert.OutIdeal.main_arg4))
    (m ((c.tc : Thread Cert.OutIdeal.nD Cert.OutIdeal.τ).loc Cert.OutIdeal.main_arg5))
    (m ((c.tc : Thread Cert.OutIdeal.nD Cert.OutIdeal.τ).loc Cert.OutIdeal.main_arg6)) (y 0) (y 1)

theorem algebraic : Cert.algebraic_OutIdeal_OutRefIdeal := by
  intro m ρ m' ρ' _ hagree
  refine ⟨fun c => result m c, ?_, ?_⟩
  · refine (θ_run Cert.OutIdeal.defs _ _).mono (fun _ h c => ⟨((h.1.out_eq c 4).trans (Ideal.final m c)).trans ?_, h.2 c⟩)
      (θ_run_and (Cert.OutIdeal.Gen.run_main m ρ (Ideal.ok m)) (Cert.OutIdeal.Gen.unchanged m ρ (Ideal.ok m)))
    exact funext fun y => Ideal.final_apply m c (y 0) (y 1)
  · refine (θ_run Cert.OutRefIdeal.defs _ _).mono (fun _ h c => ⟨(h c).1.trans ?_, (h c).2⟩)
      (Cert.OutRefIdeal.Value.run (F := Idealize.ShloMosaic.Ideal) m' ρ')
    refine (Cert.OutRefIdeal.Read.val_main_v26_eq _ _ _ _ _ _ _).trans ?_
    obtain ⟨e0, e1, e2, e3, e4, e5, e6⟩ := hagree c
    rw [e0, e1, e2, e3, e4, e5, e6]
    refine funext fun y : Cert.OutIdeal.S16384x2048.Idx => ?_
    obtain ⟨r, n, rfl⟩ : ∃ (r : Fin 16384) (n : Fin 2048), y = ix2 r n := ⟨y 0, y 1, eq_ix2 y⟩
    exact Ref.ref_eq_spec _ _ _ _ _ _ _ r n

end Cert.OutProj

end
-- ==== Proof.Query.TableIdeal.lean ====
/- The table of segments, as the host computes it. -/
module

public import proofs.«01_k».proof.Proof.Gen.QueryIdeal.Frame
public import proofs.«01_k».proof.Proof.Seg
public import Idealize.ShloMosaic.Lib.StableHlo.ReadAt
public import Idealize.ShloMosaic.Lib.Pointwise
public import Idealize.ShloMosaic.Lib.Pipeline.ValueKit.Geometry

@[expose] public section

set_option maxRecDepth 16384

noncomputable section

namespace Cert.QueryProj.Ideal

open Idealize.ShloMosaic Idealize.ShloMosaic.TcCoe Cert.QueryIdeal Cert.QueryIdeal.Gen Cert.Seg

variable {F : FTy → Type} [FloatOps F] (m : (ℓ : Loc nD τ sig) → Buf (Elt F) ℓ) (c : Dev nD)

theorem table_apply (i : Fin 32) : (V m c main_v5 (ix1 i) : BitVec 32) = BitVec.ofNat 32 (segOf 16 8 i) := by
  unfold V
  after_reads_at
  simp only [id, constantI]
  exact segWord_512 i

theorem word_apply (i : grid0.Coords) :
    (tbl m).at 0 (Rect.unit (s := S32) (k0_off1 i) S1.size (k0_off1_inb i)) numel1_S1 = BitVec.ofNat 32 (segOf 16 8 (i 0)) := by
  refine Eq.trans ?_ (table_apply m 0 (i 0))
  refine congrArg (V m 0 main_v5) (funext fun (a : Fin 1) => ?_)
  obtain rfl : a = 0 := Subsingleton.elim _ _
  exact Fin.ext (coord_word 32 (by decide) (i 0))

theorem index_sc (i : grid0.Coords) :
    cc0_transform_2 k0_off1_inb numel1_S1 (tbl m) i = ![segOf 16 8 (i 0) * 6 + 4, 0, 0] := by
  have e : cc0_transform_2 k0_off1_inb numel1_S1 (tbl m) i
      = ![(Scalar.addi (Scalar.muli ((tbl m).at 0 (Rect.unit (s := S32) (k0_off1 i) S1.size (k0_off1_inb i)) numel1_S1) 6#32) 4#32).toNat, 0, 0] := rfl
  rw [e, word_apply]
  have key : ∀ a : Fin 32, (![(Scalar.addi (Scalar.muli (BitVec.ofNat 32 (segOf 16 8 a)) 6#32) 4#32).toNat, (0#32 : BitVec 32).toNat, (0#32 : BitVec 32).toNat] : Fin 3 → Nat) = ![segOf 16 8 a * 6 + 4, 0, 0] := by
    decide +kernel
  exact key (i 0)

theorem index_sh (i : grid0.Coords) :
    cc0_transform_3 k0_off1_inb numel1_S1 (tbl m) i = ![segOf 16 8 (i 0) * 6 + 3, 0, 0] := by
  have e : cc0_transform_3 k0_off1_inb numel1_S1 (tbl m) i
      = ![(Scalar.addi (Scalar.muli ((tbl m).at 0 (Rect.unit (s := S32) (k0_off1 i) S1.size (k0_off1_inb i)) numel1_S1) 6#32) 3#32).toNat, 0, 0] := rfl
  rw [e, word_apply]
  have key : ∀ a : Fin 32, (![(Scalar.addi (Scalar.muli (BitVec.ofNat 32 (segOf 16 8 a)) 6#32) 3#32).toNat, (0#32 : BitVec 32).toNat, (0#32 : BitVec 32).toNat] : Fin 3 → Nat) = ![segOf 16 8 a * 6 + 3, 0, 0] := by
    decide +kernel
  exact key (i 0)

/-- The blocks that the table chooses lie in the array of modulations. -/
theorem ok : Ok m :=
  ⟨fun i => ⟨by
    rw [index_sc]
    have key : ∀ (a : Fin 32), ∀ x, ((![segOf 16 8 a * 6 + 4, 0, 0] : Fin 3 → Nat) x + 1) * S1x1x2048.size x ≤ S48x1x2048.size x := by
      decide +kernel
    exact key (i 0), .inl rfl⟩,
   fun i => ⟨by
    rw [index_sh]
    have key : ∀ (a : Fin 32), ∀ x, ((![segOf 16 8 a * 6 + 3, 0, 0] : Fin 3 → Nat) x + 1) * S1x1x2048.size x ≤ S48x1x2048.size x := by
      decide +kernel
    exact key (i 0), .inl rfl⟩⟩

end Cert.QueryProj.Ideal

end
-- ==== Proof.Query.Block.lean ====
/- What one grid point of the query projection leaves in its output blocks, and from it the two whole output arrays. -/
module

public import proofs.«01_k».proof.Proof.Query.TableIdeal
public import proofs.«01_k».proof.Proof.Tok
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.QueryProj.Ideal

open Idealize.ShloMosaic Idealize.ShloMosaic.TcCoe Cert.QueryIdeal Cert.QueryIdeal.Gen Cert.Seg Cert.Tok
open scoped BigOperators

theorem pay1_apply (x : Vec Ideal S512x2048 .f32) (g : Vec Ideal S1x2048 .f32) (sc sh : Vec Ideal S1x1x2048 .f32)
    (r : Fin 512) (n : Fin 2048) :
    (k0_pay1 x g sc sh (ix2 r n) : EReal)
      = norm (fun k => x (ix2 r k)) (g (ix2 0 n)) (sc (ix3 0 0 n)) (sh (ix3 0 0 n)) n := by
  pointwise [k0_pay1]
  rfl

theorem pay2_apply (x : Vec Ideal S512x2048 .f32) (g : Vec Ideal S1x2048 .f32) (sc sh : Vec Ideal S1x1x2048 .f32)
    (w : Vec Ideal S2048x2048 .bf16) (r : Fin 512) (n : Fin 2048) :
    (k0_pay2 x g sc sh w (ix2 r n) : EReal) = ∑ k : Fin 2048, k0_pay1 x g sc sh (ix2 r k) * w (ix2 k n) := by
  pointwise [k0_pay2]

theorem pay1_congr {a a' : Vec Ideal S512x2048 .f32} {b b' : Vec Ideal S1x2048 .f32} {c c' d d' : Vec Ideal S1x1x2048 .f32}
    (ha : a = a') (hb : b = b') (hc : c = c') (hd : d = d') : k0_pay1 a b c d = k0_pay1 a' b' c' d' := by
  subst ha hb hc hd; rfl

theorem pay2_congr {a a' : Vec Ideal S512x2048 .f32} {b b' : Vec Ideal S1x2048 .f32} {c c' d d' : Vec Ideal S1x1x2048 .f32}
    {e e' : Vec Ideal S2048x2048 .bf16} (ha : a = a') (hb : b = b') (hc : c = c') (hd : d = d') (he : e = e') :
    k0_pay2 a b c d e = k0_pay2 a' b' c' d' e' := by subst ha hb hc hd he; rfl

theorem eta2 (y : S512x2048.Idx) : y = ix2 (y 0) (y 1) := funext fun (a : Fin 2) => match a with | 0 => rfl | 1 => rfl

/-- A row of the modulations. -/
def modRow (p : Nat) (r : Fin 16384) : Fin 48 := ⟨(segOf 16 8 (r.val / 512) * 6 + p) % 48, Nat.mod_lt _ (by decide)⟩

/-- The whole array of modulated tokens as a function of the arrays that the windows are blocks of. -/
def hArr (X : Vec Ideal S16384x2048 .f32) (G : Vec Ideal S1x2048 .f32) (M : Vec Ideal S48x1x2048 .f32) (r : Fin 16384) (n : Fin 2048) : EReal :=
  norm (fun k => X (ix2 r k)) (G (ix2 0 n)) (M (ix3 (modRow 4 r) 0 n)) (M (ix3 (modRow 3 r) 0 n)) n

/-- The whole array of queries. -/
def qArr (X : Vec Ideal S16384x2048 .f32) (G : Vec Ideal S1x2048 .f32) (M : Vec Ideal S48x1x2048 .f32) (W : Vec Ideal S2048x2048 .bf16)
    (r : Fin 16384) (n : Fin 2048) : EReal := ∑ k : Fin 2048, hArr X G M r k * W (ix2 k n)

theorem point_h (X : Vec Ideal S16384x2048 .f32) (G : Vec Ideal S1x2048 .f32) (M : Vec Ideal S48x1x2048 .f32)
    (x : Vec Ideal S512x2048 .f32) (g : Vec Ideal S1x2048 .f32) (sc sh : Vec Ideal S1x1x2048 .f32) (q : Fin 16384) (r : Fin 512)
    (hx : ∀ k, x (ix2 r k) = X (ix2 q k)) (hg : ∀ n, g (ix2 0 n) = G (ix2 0 n)) (hsc : ∀ n, sc (ix3 0 0 n) = M (ix3 (modRow 4 q) 0 n))
    (hsh : ∀ n, sh (ix3 0 0 n) = M (ix3 (modRow 3 q) 0 n)) (n : Fin 2048) :
    (k0_pay1 x g sc sh (ix2 r n) : EReal) = hArr X G M q n := by
  rw [pay1_apply, hg, hsc, hsh]
  simp only [hx]
  rfl

theorem point_q (X : Vec Ideal S16384x2048 .f32) (G : Vec Ideal S1x2048 .f32) (M : Vec Ideal S48x1x2048 .f32)
    (W : Vec Ideal S2048x2048 .bf16)
    (x : Vec Ideal S512x2048 .f32) (g : Vec Ideal S1x2048 .f32) (sc sh : Vec Ideal S1x1x2048 .f32) (w : Vec Ideal S2048x2048 .bf16)
    (q : Fin 16384) (r : Fin 512)
    (hx : ∀ k, x (ix2 r k) = X (ix2 q k)) (hg : ∀ n, g (ix2 0 n) = G (ix2 0 n)) (hsc : ∀ n, sc (ix3 0 0 n) = M (ix3 (modRow 4 q) 0 n))
    (hsh : ∀ n, sh (ix3 0 0 n) = M (ix3 (modRow 3 q) 0 n)) (n : Fin 2048) (hw : ∀ k, w (ix2 k n) = W (ix2 k n)) :
    (k0_pay2 x g sc sh w (ix2 r n) : EReal) = qArr X G M W q n := by
  rw [pay2_apply]
  simp only [hw, point_h X G M x g sc sh q r hx hg hsc hsh]
  rfl

section Array
variable (m : (ℓ : Loc nD τ sig) → Buf (Elt Ideal) ℓ)

theorem index_x : ∀ t : Fin grid0.N, cc0_transform_0 (grid0.coords t) = ![t.val, 0] := by decide +kernel
theorem index_g : ∀ t : Fin grid0.N, cc0_transform_1 (grid0.coords t) = ![0, 0] := by decide +kernel
theorem index_w : ∀ t : Fin grid0.N, cc0_transform_4 (grid0.coords t) = ![0, 0] := by decide +kernel
theorem index_q : ∀ t : Fin grid0.N, cc0_transform_5 (grid0.coords t) = ![t.val, 0] := by decide +kernel
theorem index_h : ∀ t : Fin grid0.N, cc0_transform_6 (grid0.coords t) = ![t.val, 0] := by decide +kernel
theorem coord_row : ∀ t : Fin grid0.N, ((grid0.coords t) 0).val = t.val ∧ ((grid0.coords t) 1).val = 0 := by decide +kernel

theorem lt_N (t : Fin grid0.N) : t.val < 32 := t.isLt

/-- The row of the whole array that row `r` of the block of point `t` is. -/
def rowOf (t : Fin grid0.N) (r : Fin 512) : Fin 16384 := ⟨t.val * 512 + r.val, by have := lt_N t; omega⟩

theorem seg_row (t : Fin grid0.N) (r : Fin 512) (p : Nat) (hp : p < 6) :
    (modRow p (rowOf t r)).val = segOf 16 8 t.val * 6 + p := by
  have h := lt_N t
  have e : (rowOf t r).val / 512 = t.val := by show (t.val * 512 + r.val) / 512 = _; omega
  show (segOf 16 8 ((rowOf t r).val / 512) * 6 + p) % 48 = _
  rw [e, Nat.mod_eq_of_lt]
  unfold segOf
  split <;> omega

theorem emb_x (t : Fin grid0.N) (r : Fin 512) (n : Fin 2048) :
    (((cfgM m (ok m)).win 0).blk t).view.emb (ix2 r n) = ix2 (rowOf t r) n := by
  refine funext fun (a : Fin 2) => Fin.ext ?_
  match a with
  | 0 => show cc0_transform_0 (grid0.coords t) 0 * 512 + 1 * r.val = t.val * 512 + r.val
         rw [index_x]; show t.val * 512 + 1 * r.val = _; omega
  | 1 => show cc0_transform_0 (grid0.coords t) 1 * 2048 + 1 * n.val = n.val
         rw [index_x]; show 0 * 2048 + 1 * n.val = _; omega

theorem emb_q (t : Fin grid0.N) (r : Fin 512) (n : Fin 2048) :
    (((cfgM m (ok m)).win 5).blk t).view.emb (ix2 r n) = ix2 (rowOf t r) n := by
  refine funext fun (a : Fin 2) => Fin.ext ?_
  match a with
  | 0 => show cc0_transform_5 (grid0.coords t) 0 * 512 + 1 * r.val = t.val * 512 + r.val
         rw [index_q]; show t.val * 512 + 1 * r.val = _; omega
  | 1 => show cc0_transform_5 (grid0.coords t) 1 * 2048 + 1 * n.val = n.val
         rw [index_q]; show 0 * 2048 + 1 * n.val = _; omega

theorem emb_h (t : Fin grid0.N) (r : Fin 512) (n : Fin 2048) :
    (((cfgM m (ok m)).win 6).blk t).view.emb (ix2 r n) = ix2 (rowOf t r) n := by
  refine funext fun (a : Fin 2) => Fin.ext ?_
  match a with
  | 0 => show cc0_transform_6 (grid0.coords t) 0 * 512 + 1 * r.val = t.val * 512 + r.val
         rw [index_h]; show t.val * 512 + 1 * r.val = _; omega
  | 1 => show cc0_transform_6 (grid0.coords t) 1 * 2048 + 1 * n.val = n.val
         rw [index_h]; show 0 * 2048 + 1 * n.val = _; omega

theorem emb_g (t : Fin grid0.N) (n : Fin 2048) :
    (((cfgM m (ok m)).win 1).blk t).view.emb (ix2 0 n) = ix2 0 n := by
  refine funext fun (a : Fin 2) => Fin.ext ?_
  match a with
  | 0 => show cc0_transform_1 (grid0.coords t) 0 * 1 + 1 * 0 = 0
         rw [index_g]; rfl
  | 1 => show cc0_transform_1 (grid0.coords t) 1 * 2048 + 1 * n.val = n.val
         rw [index_g]; show 0 * 2048 + 1 * n.val = _; omega

theorem emb_w (t : Fin grid0.N) (k n : Fin 2048) :
    (((cfgM m (ok m)).win 4).blk t).view.emb (ix2 k n) = ix2 k n := by
  refine funext fun (a : Fin 2) => Fin.ext ?_
  match a with
  | 0 => show cc0_transform_4 (grid0.coords t) 0 * 2048 + 1 * k.val = k.val
         rw [index_w]; show 0 * 2048 + 1 * k.val = _; omega
  | 1 => show cc0_transform_4 (grid0.coords t) 1 * 2048 + 1 * n.val = n.val
         rw [index_w]; show 0 * 2048 + 1 * n.val = _; omega

theorem emb_sc (t : Fin grid0.N) (r : Fin 512) (n : Fin 2048) :
    (((cfgM m (ok m)).win 2).blk t).view.emb (ix3 0 0 n) = ix3 (modRow 4 (rowOf t r)) 0 n := by
  refine funext fun (a : Fin 3) => Fin.ext ?_
  match a with
  | 0 => show cc0_transform_2 k0_off1_inb numel1_S1 (tbl m) (grid0.coords t) 0 * 1 + 1 * 0 = (modRow 4 (rowOf t r)).val
         rw [index_sc, seg_row t r 4 (by decide), ← (coord_row t).1]; show (segOf 16 8 ((grid0.coords t) 0).val * 6 + 4) * 1 + 1 * 0 = _; omega
  | 1 => show cc0_transform_2 k0_off1_inb numel1_S1 (tbl m) (grid0.coords t) 1 * 1 + 1 * 0 = 0
         rw [index_sc]; rfl
  | 2 => show cc0_transform_2 k0_off1_inb numel1_S1 (tbl m) (grid0.coords t) 2 * 2048 + 1 * n.val = n.val
         rw [index_sc]; show 0 * 2048 + 1 * n.val = _; omega

theorem emb_sh (t : Fin grid0.N) (r : Fin 512) (n : Fin 2048) :
    (((cfgM m (ok m)).win 3).blk t).view.emb (ix3 0 0 n) = ix3 (modRow 3 (rowOf t r)) 0 n := by
  refine funext fun (a : Fin 3) => Fin.ext ?_
  match a with
  | 0 => show cc0_transform_3 k0_off1_inb numel1_S1 (tbl m) (grid0.coords t) 0 * 1 + 1 * 0 = (modRow 3 (rowOf t r)).val
         rw [index_sh, seg_row t r 3 (by decide), ← (coord_row t).1]; show (segOf 16 8 ((grid0.coords t) 0).val * 6 + 3) * 1 + 1 * 0 = _; omega
  | 1 => show cc0_transform_3 k0_off1_inb numel1_S1 (tbl m) (grid0.coords t) 1 * 1 + 1 * 0 = 0
         rw [index_sh]; rfl
  | 2 => show cc0_transform_3 k0_off1_inb numel1_S1 (tbl m) (grid0.coords t) 2 * 2048 + 1 * n.val = n.val
         rw [index_sh]; show 0 * 2048 + 1 * n.val = _; omega

theorem covers_q : ((cfgM m (ok m)).win 5).Covers := by
  refine ⟨(by decide : ∀ a : Fin 2, 0 < S512x2048.size a), fun β => ?_⟩
  refine ⟨(⟨(β (0 : Fin 2)).val, Nat.lt_of_lt_of_eq (β (0 : Fin 2)).isLt (show (16384 + 512 - 1) / 512 = 32 by decide)⟩ : Fin grid0.N), flush0_5 _ _, fun (a : Fin 2) => ⟨?_, Or.inl rfl⟩⟩
  match a with
  | 0 => show cc0_transform_5 (grid0.coords _) 0 = _
         rw [index_q]; rfl
  | 1 => show cc0_transform_5 (grid0.coords _) 1 = _
         rw [index_q]
         have h : (β (1 : Fin 2)).val < 1 := Nat.lt_of_lt_of_eq (β (1 : Fin 2)).isLt (show (2048 + 2048 - 1) / 2048 = 1 by decide)
         show 0 = (β (1 : Fin 2)).val
         omega

theorem covers_h : ((cfgM m (ok m)).win 6).Covers := by
  refine ⟨(by decide : ∀ a : Fin 2, 0 < S512x2048.size a), fun β => ?_⟩
  refine ⟨(⟨(β (0 : Fin 2)).val, Nat.lt_of_lt_of_eq (β (0 : Fin 2)).isLt (show (16384 + 512 - 1) / 512 = 32 by decide)⟩ : Fin grid0.N), flush0_6 _ _, fun (a : Fin 2) => ⟨?_, Or.inl rfl⟩⟩
  match a with
  | 0 => show cc0_transform_6 (grid0.coords _) 0 = _
         rw [index_h]; rfl
  | 1 => have h : (β (1 : Fin 2)).val < 1 := Nat.lt_of_lt_of_eq (β (1 : Fin 2)).isLt (show (2048 + 2048 - 1) / 2048 = 1 by decide)
         show 0 = (β (1 : Fin 2)).val
         omega

theorem blk_x (c : Dev nD) (t : Fin grid0.N) (r : Fin 512) (k : Fin 2048) :
    (iblk m (ok m) c 0 t : Vec Ideal S512x2048 .f32) (ix2 r k) = V m c main_v14 (ix2 (rowOf t r) k) := by
  rw [← emb_x m t r k]; rfl

theorem blk_g (c : Dev nD) (t : Fin grid0.N) (n : Fin 2048) :
    (iblk m (ok m) c 1 t : Vec Ideal S1x2048 .f32) (ix2 0 n) = V m c main_v20 (ix2 0 n) := by
  conv_rhs => rw [← emb_g m t n]
  rfl

theorem blk_sc (c : Dev nD) (t : Fin grid0.N) (r : Fin 512) (n : Fin 2048) :
    (iblk m (ok m) c 2 t : Vec Ideal S1x1x2048 .f32) (ix3 0 0 n) = V m c main_v18 (ix3 (modRow 4 (rowOf t r)) 0 n) := by
  rw [← emb_sc m t r n]; rfl

theorem blk_sh (c : Dev nD) (t : Fin grid0.N) (r : Fin 512) (n : Fin 2048) :
    (iblk m (ok m) c 3 t : Vec Ideal S1x1x2048 .f32) (ix3 0 0 n) = V m c main_v18 (ix3 (modRow 3 (rowOf t r)) 0 n) := by
  rw [← emb_sh m t r n]; rfl

theorem blk_w (c : Dev nD) (t : Fin grid0.N) (k n : Fin 2048) :
    (iblk m (ok m) c 4 t : Vec Ideal S2048x2048 .bf16) (ix2 k n) = V m c main_v19 (ix2 k n) := by
  conv_rhs => rw [← emb_w m t k n]
  rfl

theorem final_q (c : Dev nD) : (dats m (ok m) 0 c).arrAt 5 (cfgM m (ok m)).N
    = fun y : S16384x2048.Idx => qArr (V m c main_v14) (V m c main_v20) (V m c main_v18) (V m c main_v19) (y 0) (y 1) := by
  refine (dats m (ok m) 0 c).arrAt_eq_of_covers 5 _ (covers_q m) fun t hf y => ?_
  blk_simp
  rw [after0_5]
  unfold outsAt0
  frame_out
  obtain ⟨r, n, rfl⟩ : ∃ (r : Fin 512) (n : Fin 2048), y = ix2 r n := ⟨y (0 : Fin 2), y (1 : Fin 2), eta2 y⟩
  refine (congrFun (pay2_congr (Memref.IsWhole.read_unread _ _) (Memref.IsWhole.read_unread _ _) (Memref.IsWhole.read_unread _ _)
    (Memref.IsWhole.read_unread _ _) (Memref.IsWhole.read_unread _ _)) _).trans ?_
  refine Eq.trans ?_ (congrArg (fun z : S16384x2048.Idx => qArr (V m c main_v14) (V m c main_v20) (V m c main_v18) (V m c main_v19)
    (z 0) (z 1)) (emb_q m t r n)).symm
  exact point_q (V m c main_v14) (V m c main_v20) (V m c main_v18) (V m c main_v19) (iblk m (ok m) c 0 t) (iblk m (ok m) c 1 t)
    (iblk m (ok m) c 2 t) (iblk m (ok m) c 3 t) (iblk m (ok m) c 4 t) (rowOf t r) r (fun k => blk_x m c t r k)
    (fun n => blk_g m c t n) (fun n => blk_sc m c t r n) (fun n => blk_sh m c t r n) n (fun k => blk_w m c t k n)

theorem final_h (c : Dev nD) : (dats m (ok m) 0 c).arrAt 6 (cfgM m (ok m)).N
    = fun y : S16384x2048.Idx => hArr (V m c main_v14) (V m c main_v20) (V m c main_v18) (y 0) (y 1) := by
  refine (dats m (ok m) 0 c).arrAt_eq_of_covers 6 _ (covers_h m) fun t hf y => ?_
  blk_simp
  rw [after0_6]
  unfold outsAt0
  frame_out
  obtain ⟨r, n, rfl⟩ : ∃ (r : Fin 512) (n : Fin 2048), y = ix2 r n := ⟨y (0 : Fin 2), y (1 : Fin 2), eta2 y⟩
  refine (congrFun (pay1_congr (Memref.IsWhole.read_unread _ _) (Memref.IsWhole.read_unread _ _) (Memref.IsWhole.read_unread _ _)
    (Memref.IsWhole.read_unread _ _)) _).trans ?_
  refine Eq.trans ?_ (congrArg (fun z : S16384x2048.Idx => hArr (V m c main_v14) (V m c main_v20) (V m c main_v18)
    (z 0) (z 1)) (emb_h m t r n)).symm
  exact point_h (V m c main_v14) (V m c main_v20) (V m c main_v18) (iblk m (ok m) c 0 t) (iblk m (ok m) c 1 t)
    (iblk m (ok m) c 2 t) (iblk m (ok m) c 3 t) (rowOf t r) r (fun k => blk_x m c t r k)
    (fun n => blk_g m c t n) (fun n => blk_sc m c t r n) (fun n => blk_sh m c t r n) n
end Array

end Cert.QueryProj.Ideal

end
-- ==== Proof.Query.Args.lean ====
/- The arrays that the windows are blocks of, as the host computes them from the arguments. -/
module

public import proofs.«01_k».proof.Proof.Query.Block
public import proofs.«01_k».proof.Proof.Tok

@[expose] public section

set_option maxRecDepth 16384

noncomputable section

namespace Cert.QueryProj.Ideal

open Idealize.ShloMosaic Idealize.ShloMosaic.TcCoe Cert.QueryIdeal Cert.QueryIdeal.Gen Cert.Seg Cert.Tok
open scoped BigOperators

theorem h_eq (X : Vec Ideal S16384x2048 .f32) (G : Vec Ideal S1x2048 .f32) (M : Vec Ideal S48x1x2048 .f32) (r : Fin 16384) (n : Fin 2048)
    (x : Fin 2048 → EReal) (g sc sh : EReal) (hx : ∀ k, X (ix2 r k) = x k) (hg : G (ix2 0 n) = g) (hsc : M (ix3 (modRow 4 r) 0 n) = sc)
    (hsh : M (ix3 (modRow 3 r) 0 n) = sh) : hArr X G M r n = norm x g sc sh n := by
  unfold hArr
  rw [hg, hsc, hsh]
  simp only [hx]

theorem q_eq (X : Vec Ideal S16384x2048 .f32) (G : Vec Ideal S1x2048 .f32) (M : Vec Ideal S48x1x2048 .f32) (W : Vec Ideal S2048x2048 .bf16)
    (r : Fin 16384) (n : Fin 2048) (h w : Fin 2048 → EReal) (hh : ∀ k, hArr X G M r k = h k) (hw : ∀ k, W (ix2 k n) = w k) :
    qArr X G M W r n = ∑ k : Fin 2048, h k * w k := by
  unfold qArr
  simp only [hh, hw]

variable (m : (ℓ : Loc nD τ sig) → Buf (Elt Ideal) ℓ) (c : Dev nD)

theorem x_apply (r : Fin 16384) (n : Fin 2048) : (V m c main_v14 (ix2 r n) : EReal)
    = tok (m ((c : Thread nD τ).loc main_arg0)) (m ((c : Thread nD τ).loc main_arg1)) r n := by
  refine Eq.trans ?_ (tok_read _ _ shapeCasts_S32x256x2048_S8192x2048 shapeCasts_S2x4096x2048_S8192x2048
    concatenates_S8192x2048_S8192x2048_S16384x2048_d0 r n)
  unfold V
  after_reads_simp
  rfl

theorem g_apply (n : Fin 2048) : (V m c main_v20 (ix2 0 n) : EReal)
    = (m ((c : Thread nD τ).loc main_arg2) : Vec Ideal S2048 .f32) (ix1 n) := by
  unfold V
  after_reads_at

theorem w_apply (k n : Fin 2048) : (V m c main_v19 (ix2 k n) : EReal)
    = (m ((c : Thread nD τ).loc main_arg5) : Vec Ideal S2048x2048 .f32) (ix2 k n) := by
  unfold V
  after_reads_at

theorem sc_apply (r : Fin 16384) (n : Fin 2048) : (V m c main_v18 (ix3 (modRow 4 r) 0 n) : EReal)
    = modAt (m ((c : Thread nD τ).loc main_arg3)) (m ((c : Thread nD τ).loc main_arg4)) 4 r n := by
  have hq : (modRow 4 r).val = rowSeg r * 6 + (4 : Fin 6).val := by
    show (segOf 16 8 (r.val / 512) * 6 + 4) % 48 = _
    rw [seg_512]
    unfold rowSeg
    split <;> omega
  refine Eq.trans ?_ (mod_read _ _ (broadcastInDim S5x12288 ![] bcast_S_S5x12288 (constant (F := Idealize.ShloMosaic.Ideal) S_ .f32 0x00000000#32)) bcast_S12288_S1x12288_1 concatenates_S1x12288_S2x12288_S5x12288_S8x12288_d0
    shapeCasts_S8x12288_S48x1x2048 (modRow 4 r) 4 r n hq)
  unfold V
  after_reads_simp
  rfl

theorem sh_apply (r : Fin 16384) (n : Fin 2048) : (V m c main_v18 (ix3 (modRow 3 r) 0 n) : EReal)
    = modAt (m ((c : Thread nD τ).loc main_arg3)) (m ((c : Thread nD τ).loc main_arg4)) 3 r n := by
  have hq : (modRow 3 r).val = rowSeg r * 6 + (3 : Fin 6).val := by
    show (segOf 16 8 (r.val / 512) * 6 + 3) % 48 = _
    rw [seg_512]
    unfold rowSeg
    split <;> omega
  refine Eq.trans ?_ (mod_read _ _ (broadcastInDim S5x12288 ![] bcast_S_S5x12288 (constant (F := Idealize.ShloMosaic.Ideal) S_ .f32 0x00000000#32)) bcast_S12288_S1x12288_1 concatenates_S1x12288_S2x12288_S5x12288_S8x12288_d0
    shapeCasts_S8x12288_S48x1x2048 (modRow 3 r) 3 r n hq)
  unfold V
  after_reads_simp
  rfl

theorem h_apply (r : Fin 16384) (n : Fin 2048) : hArr (V m c main_v14) (V m c main_v20) (V m c main_v18) r n
    = modulated (m ((c : Thread nD τ).loc main_arg0)) (m ((c : Thread nD τ).loc main_arg1)) (m ((c : Thread nD τ).loc main_arg2))
        (m ((c : Thread nD τ).loc main_arg3)) (m ((c : Thread nD τ).loc main_arg4)) 4 3 r n :=
  h_eq _ _ _ r n _ _ _ _ (x_apply m c r) (g_apply m c n) (sc_apply m c r n) (sh_apply m c r n)

/-- The queries as a function of the arguments. -/
def spec (xp : Vec Ideal SP .f32) (xs : Vec Ideal SS .f32) (g : Vec Ideal S2048 .f32) (mc : Vec Ideal SM1 .f32)
    (ms : Vec Ideal SM2 .f32) (w : Vec Ideal S2048x2048 .f32) (r : Fin 16384) (n : Fin 2048) : EReal :=
  ∑ k : Fin 2048, modulated xp xs g mc ms 4 3 r k * w (ix2 k n)

theorem q_apply (r : Fin 16384) (n : Fin 2048) : qArr (V m c main_v14) (V m c main_v20) (V m c main_v18) (V m c main_v19) r n
    = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r n :=
  q_eq _ _ _ _ r n _ _ (h_apply m c r) (fun k => w_apply m c k n)

end Cert.QueryProj.Ideal

end
-- ==== Proof.Query.Ref.lean ====
/- The reference's queries, read at an index. -/
module

public import proofs.«01_k».proof.Proof.Query.Args
public import proofs.«01_k».proof.Proof.Gen.QueryRefIdeal.Run
public import proofs.«01_k».proof.Proof.Gen.QueryRefIdeal.Read

@[expose] public section

set_option maxRecDepth 16384

noncomputable section

namespace Cert.QueryProj.Ref

open Idealize.ShloMosaic Idealize.ShloMosaic.TcCoe Cert.QueryRefIdeal Cert.QueryRefIdeal.Read Cert.Tok
open scoped BigOperators

theorem prompt_apply (xp : Vec Ideal SP .f32) (g : Vec Ideal S2048 .f32) (mc : Vec Ideal SM1 .f32) (a : Fin 32) (b : Fin 256)
    (n : Fin 2048) : (val_main_v26 (F := Ideal) xp g mc (ix3 a b n) : EReal)
      = norm (fun k => xp (ix3 a b k)) (g (ix1 n)) (mc (ix1 ⟨4 * 2048 + n.val, by omega⟩)) (mc (ix1 ⟨3 * 2048 + n.val, by omega⟩)) n := by
  pointwise [val_main_v26, val_main_v25, val_main_v24, val_main_v23, val_main_v22, val_main_v21, val_main_v20, val_main_v19,
    val_main_cst_2, val_main_v18, val_main_v17, val_main_v16, val_main_v15, val_main_v14, val_main_v13, val_main_v12, val_main_v11,
    val_main_cst_1, val_main_v10, val_main_v9, val_main_cst_0, val_main_v8, val_main_v7, val_main_cst, val_main_v6, val_main_v3, val_main_v4]
  rfl

theorem sample_apply (xs : Vec Ideal SS .f32) (g : Vec Ideal S2048 .f32) (ms : Vec Ideal SM2 .f32) (a : Fin 2) (b : Fin 4096)
    (n : Fin 2048) : (val_main_v52 (F := Ideal) xs g ms (ix3 a b n) : EReal)
      = norm (fun k => xs (ix3 a b k)) (g (ix1 n)) (ms (ix2 a ⟨4 * 2048 + n.val, by omega⟩)) (ms (ix2 a ⟨3 * 2048 + n.val, by omega⟩)) n := by
  pointwise [val_main_v52, val_main_v51, val_main_v50, val_main_v49, val_main_v48, val_main_v47, val_main_cst_6, val_main_v46,
    val_main_v45, val_main_v44, val_main_v43, val_main_v42, val_main_v41, val_main_v40, val_main_v39, val_main_cst_5, val_main_v38,
    val_main_v37, val_main_cst_4, val_main_v36, val_main_v35, val_main_cst_3, val_main_v34, val_main_v32, val_main_v31, val_main_v27]
  rfl

theorem h_eq (xp : Vec Ideal SP .f32) (xs : Vec Ideal SS .f32) (g : Vec Ideal S2048 .f32)
    (mc : Vec Ideal SM1 .f32) (ms : Vec Ideal SM2 .f32) (r : Fin 16384) (n : Fin 2048) :
    (val_main_v55 (F := Ideal) xp xs g mc ms (ix2 r n) : EReal) = modulated xp xs g mc ms 4 3 r n := by
  pointwise [val_main_v55, val_main_v53, val_main_v54]
  unfold modulated tok modAt
  by_cases h : r.val < 8192
  · simp only [dif_pos h]
    rw [prompt_apply]
    rfl
  · simp only [dif_neg h]
    rw [sample_apply]
    rfl

theorem q_eq (xp : Vec Ideal SP .f32) (xs : Vec Ideal SS .f32) (g : Vec Ideal S2048 .f32)
    (mc : Vec Ideal SM1 .f32) (ms : Vec Ideal SM2 .f32) (w : Vec Ideal S2048x2048 .f32) (r : Fin 16384) (n : Fin 2048) :
    (val_main_v56 (F := Ideal) xp xs g mc ms w (ix2 r n) : EReal) = Ideal.spec xp xs g mc ms w r n := by
  pointwise [val_main_v56]
  exact Finset.sum_congr rfl fun k _ => congrArg (fun a : EReal => a * w (ix2 k n)) (h_eq xp xs g mc ms r k)

end Cert.QueryProj.Ref

end
-- ==== Proof.Query.Claims.lean ====
/- The claims about the query projection: its frames, and its two results against the reference's over the extended reals. -/
module

public import proofs.«01_k».proof.Defs
public import proofs.«01_k».proof.Proof.Query.Table
public import proofs.«01_k».proof.Proof.Query.Ref
public import Idealize.ShloMosaic.Lib.Quiescent

@[expose] public section

noncomputable section

namespace Cert.QueryProj

open Idealize.ShloMosaic Idealize.ShloMosaic.TcCoe Idealize.SL.Sem

theorem frame_kernel : Cert.quiescent_Query := fun m ρ _ => Cert.Query.Gen.frame m ρ (Bits.ok m)
theorem frame_ideal : Cert.quiescent_QueryIdeal := fun m ρ _ => Cert.QueryIdeal.Gen.frame m ρ (Ideal.ok m)
theorem frame_ref : Cert.quiescent_QueryRefIdeal := fun m ρ _ =>
  (θ_run Cert.QueryRefIdeal.defs _ _).mono (fun r h => ⟨fun c => (h c).2.2, Idealize.ShloMosaic.sem_eq_zero_of_no_sems (by decide) r.2⟩)
    (Cert.QueryRefIdeal.Value.run (F := Idealize.ShloMosaic.Ideal) m ρ)

/-- What the kernel's array of queries is shown to hold. -/
def queries (m : (ℓ : Loc Cert.QueryIdeal.nD Cert.QueryIdeal.τ Cert.QueryIdeal.sig) → Buf (Elt Idealize.ShloMosaic.Ideal) ℓ) (c : Dev Cert.QueryIdeal.nD) :
    Cert.QueryIdeal.S16384x2048.Idx → EReal := fun y =>
  Ideal.spec (m ((c.tc : Thread Cert.QueryIdeal.nD Cert.QueryIdeal.τ).loc Cert.QueryIdeal.main_arg0)) (m ((c.tc : Thread Cert.QueryIdeal.nD Cert.QueryIdeal.τ).loc Cert.QueryIdeal.main_arg1)) (m ((c.tc : Thread Cert.QueryIdeal.nD Cert.QueryIdeal.τ).loc Cert.QueryIdeal.main_arg2)) (m ((c.tc : Thread Cert.QueryIdeal.nD Cert.QueryIdeal.τ).loc Cert.QueryIdeal.main_arg3)) (m ((c.tc : Thread Cert.QueryIdeal.nD Cert.QueryIdeal.τ).loc Cert.QueryIdeal.main_arg4)) (m ((c.tc : Thread Cert.QueryIdeal.nD Cert.QueryIdeal.τ).loc Cert.QueryIdeal.main_arg5)) (y 0) (y 1)

/-- What the kernel's array of modulated tokens is shown to hold. -/
def hidden (m : (ℓ : Loc Cert.QueryIdeal.nD Cert.QueryIdeal.τ Cert.QueryIdeal.sig) → Buf (Elt Idealize.ShloMosaic.Ideal) ℓ) (c : Dev Cert.QueryIdeal.nD) :
    Cert.QueryIdeal.S16384x2048.Idx → EReal := fun y =>
  Cert.Tok.modulated (m ((c.tc : Thread Cert.QueryIdeal.nD Cert.QueryIdeal.τ).loc Cert.QueryIdeal.main_arg0)) (m ((c.tc : Thread Cert.QueryIdeal.nD Cert.QueryIdeal.τ).loc Cert.QueryIdeal.main_arg1)) (m ((c.tc : Thread Cert.QueryIdeal.nD Cert.QueryIdeal.τ).loc Cert.QueryIdeal.main_arg2)) (m ((c.tc : Thread Cert.QueryIdeal.nD Cert.QueryIdeal.τ).loc Cert.QueryIdeal.main_arg3)) (m ((c.tc : Thread Cert.QueryIdeal.nD Cert.QueryIdeal.τ).loc Cert.QueryIdeal.main_arg4)) 4 3 (y 0) (y 1)

theorem algebraic : Cert.algebraic_QueryIdeal_QueryRefIdeal := by
  intro m ρ m' ρ' _ hagree
  refine ⟨fun c => queries m c, fun c => hidden m c, ?_, ?_⟩
  · refine (θ_run Cert.QueryIdeal.defs _ _).mono (fun _ h c => ⟨((h.1.out_eq c 5).trans (Ideal.final_q m c)).trans ?_,
      ((h.1.out_eq c 6).trans (Ideal.final_h m c)).trans ?_, h.2 c⟩)
      (θ_run_and (Cert.QueryIdeal.Gen.run_main m ρ (Ideal.ok m)) (Cert.QueryIdeal.Gen.unchanged m ρ (Ideal.ok m)))
    · exact funext fun y => Ideal.q_apply m c (y 0) (y 1)
    · exact funext fun y => Ideal.h_apply m c (y 0) (y 1)
  · obtain H := Cert.QueryRefIdeal.Value.run (F := Idealize.ShloMosaic.Ideal) m' ρ'
    refine (θ_run Cert.QueryRefIdeal.defs _ _).mono (fun _ h c => ⟨(h c).1.trans ?_, (h c).2.1.trans ?_, (h c).2.2⟩) H
    · refine (Cert.QueryRefIdeal.Read.val_main_v56_eq _ _ _ _ _ _).trans ?_
      obtain ⟨e0, e1, e2, e3, e4, e5⟩ := hagree c
      rw [e0, e1, e2, e3, e4, e5]
      refine funext fun y : Cert.QueryIdeal.S16384x2048.Idx => ?_
      obtain ⟨r, n, rfl⟩ : ∃ (r : Fin 16384) (n : Fin 2048), y = ix2 r n := ⟨y 0, y 1, eq_ix2 y⟩
      exact Ref.q_eq _ _ _ _ _ _ r n
    · refine (Cert.QueryRefIdeal.Read.val_main_v57_eq _ _ _ _ _).trans ?_
      obtain ⟨e0, e1, e2, e3, e4, e5⟩ := hagree c
      rw [e0, e1, e2, e3, e4]
      refine funext fun y : Cert.QueryIdeal.S16384x2048.Idx => ?_
      obtain ⟨r, n, rfl⟩ : ∃ (r : Fin 16384) (n : Fin 2048), y = ix2 r n := ⟨y 0, y 1, eq_ix2 y⟩
      exact Ref.h_eq _ _ _ _ _ r n

end Cert.QueryProj

end
-- ==== Proof.Odd.Ideal.Points.lean ====
module

public import proofs.«01_k».proof.Proof.Gen.OddIdeal
public import Idealize.ShloMosaic.Lib.Pipeline.Kit

/-!
When each window is fetched and written back, point by point of the grid.
-/

@[expose] public section

noncomputable section

namespace Cert.OddProjIdeal

open Cert.OddIdeal Cert.OddIdeal.Gen

open Idealize.ShloMosaic Idealize.ShloMosaic.TcCoe
open Idealize.SL Idealize.SL.Sem

variable {F : FTy → Type} [FloatOps F]

theorem fetch0_0 (a : (pcfg0 (F := F)).Adm) : ∀ t : Fin (cfg0 a).N, ((cfg0 a).win 0).fetch t = true ↔ t.val % 6 = 0 :=
  (fun t => Pipeline.Window.fetchOf_reads cc0_transform_0 reads0_0 hreads0_0 0 (by decide) (by decide) (Pipeline.Window.sep_of_coord cc0_transform_0 0 0 (fun _ => rfl) (by decide)) (P := 6) (by decide) t : ∀ t : Fin grid0.N, Pipeline.Window.fetchOf grid0 false cc0_transform_0 t = true ↔ t.val % 6 = 0)

theorem fetch0_1 (a : (pcfg0 (F := F)).Adm) : ∀ t : Fin (cfg0 a).N, ((cfg0 a).win 1).fetch t = true ↔ t.val % 96 = 0 :=
  (fun t => Pipeline.Window.fetchOf_const cc0_transform_1 (fun _ _ => rfl) (n := 96) (by decide) t : ∀ t : Fin grid0.N, Pipeline.Window.fetchOf grid0 false cc0_transform_1 t = true ↔ t.val % 96 = 0)

theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)

theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

theorem flush0_6 (a : (pcfg0 (F := F)).Adm) : ∀ t : Fin (cfg0 a).N, ((cfg0 a).win 6).flush t = true ↔ t.val % 6 = 5 :=
  (fun t => Pipeline.Window.flushOf_reads cc0_transform_6 reads0_6 hreads0_6 0 (by decide) (by decide) (Pipeline.Window.sep_of_coord cc0_transform_6 0 0 (fun _ => rfl) (by decide)) (P := 6) (m := 5) (by decide) rfl t : ∀ t : Fin grid0.N, Pipeline.Window.flushOf grid0 true cc0_transform_6 t = true ↔ t.val % 6 = 5)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

abbrev bodyAt0 (a : (pcfg0 (F := F)).Adm) (t : Fin (cfg0 a).N) : Prog (TpuEff nD τ sig (Elt F) Λ₀ .tc) PUnit :=
  cc0_norm_mod_matmul (grid0.coords t) (Memref.whole main_v11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)

end Cert.OddProjIdeal

end
-- ==== Proof.Odd.Ideal.Runs.lean ====
module

public import proofs.«01_k».proof.Proof.Gen.OddIdeal.Launch
public import proofs.«01_k».proof.Proof.Gen.OddIdeal.Skeleton
public import proofs.«01_k».proof.Proof.Odd.Ideal.Points
public import Idealize.ShloMosaic.Lib.Pipeline.FrameBody
public import Idealize.ShloMosaic.Lib.Ring
public import Idealize.ShloMosaic.Lib.Tactic
public import Idealize.ShloMosaic.Lib.WordCmp

/-!
What the runs of the body are stated over: the arrays as the call finds them, the blocks, the condition of the body, the staging buffers and the scratch.
-/

@[expose] public section

set_option maxRecDepth 16384

noncomputable section

namespace Cert.OddProjIdeal

open Cert.OddIdeal Cert.OddIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def tbl : pre0.Contents (Elt F) := fun j => V m (0 : Dev nD) (pre0.ref j)

theorem V_pre (c : Dev nD) (j : Fin 1) : V m c (pre0.ref j) = tbl m j := by
  obtain rfl : c = 0 := Subsingleton.elim _ _; rfl

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbM0_0 : Memref sig .tc .smem S16 .i32 := Memref.whole main_v11
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

abbrev cond0_0 (i : grid0.Coords) : Prop := k0_cond1 i = 1#1

theorem hcond0_0 : ∀ t : Fin grid0.N, cond0_0 (grid0.coords t) ↔ t.val % 6 = 0 :=
  (fun t => by
    have ht : t.val < 96 := Nat.lt_of_lt_of_eq t.isLt N_0
    have e0 : (grid0.coords t 0).val = t.val / 6 % 16 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

theorem liveAt0_0 (hO : Ok m) : ∀ t : Fin (cfgM m hO).N, (cfgM m hO).idle 0 (grid0.coords t) = false :=
  (fun _ => rfl : ∀ t : Fin grid0.N, idle0 0 (grid0.coords t) = false)

theorem liveAt0_1 (hO : Ok m) : ∀ t : Fin (cfgM m hO).N, (cfgM m hO).idle 1 (grid0.coords t) = false :=
  (fun _ => rfl : ∀ t : Fin grid0.N, idle0 1 (grid0.coords t) = false)

theorem liveAt0_2 (hO : Ok m) : ∀ t : Fin (cfgM m hO).N, (cfgM m hO).idle 2 (grid0.coords t) = false :=
  (fun _ => rfl : ∀ t : Fin grid0.N, idle0 2 (grid0.coords t) = false)

theorem liveAt0_3 (hO : Ok m) : ∀ t : Fin (cfgM m hO).N, (cfgM m hO).idle 3 (grid0.coords t) = false :=
  (fun _ => rfl : ∀ t : Fin grid0.N, idle0 3 (grid0.coords t) = false)

theorem liveAt0_4 (hO : Ok m) : ∀ t : Fin (cfgM m hO).N, (cfgM m hO).idle 4 (grid0.coords t) = false :=
  (fun _ => rfl : ∀ t : Fin grid0.N, idle0 4 (grid0.coords t) = false)

theorem liveAt0_5 (hO : Ok m) : ∀ t : Fin (cfgM m hO).N, (cfgM m hO).idle 5 (grid0.coords t) = false :=
  (fun _ => rfl : ∀ t : Fin grid0.N, idle0 5 (grid0.coords t) = false)

abbrev VO0_5 : View sig .tc .vmem S1024x1024 .f32 := (Memref.whole cc0_stg5_0 : Memref sig .tc .vmem S1024x1024 .f32).view

abbrev ms0_0 (hO : Ok m) (t : Fin (cfgM m hO).N) : Memref sig .tc .vmem S1024x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2048x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1024x2048 .bf16 := spec0_6.stage ((cfgM m hO).slots t 6)
abbrev hs0_6 (hO : Ok m) (t : Fin (cfgM m hO).N) : (ms0_6 m hO t).IsWhole := hstage0_6 (((cfgM m hO).slots t 6).cast nbuf0_6)

abbrev scM0_0 : Memref sig .tc .vmem S1024x2048 .bf16 := Memref.whole cc0_scratch0

abbrev VS0_0 : View sig .tc .vmem S1024x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.OddProjIdeal

end
-- ==== Proof.Odd.Ideal.RunA.lean ====
module

public import proofs.«01_k».proof.Proof.Odd.Ideal.Runs

/-!
The run of the body at the first column tile of a row tile, where the modulated tokens are computed and kept.
-/

@[expose] public section

set_option maxRecDepth 16384

noncomputable section

namespace Cert.OddProjIdeal

open Cert.OddIdeal Cert.OddIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) :
    Σ' (L5 : List (View.Piece (Elt F) S1024x1024 .f32)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ f, arg10.view.loc (c : Thread nD τ) ↦[arg10.view.set]{fullShare} arg10.view.writes (Elt F) f LS0) ∗ tbPt0 c tbM0_0 xt0) -∗ K ⟨⟩))
          ⊢ wp frame (wpE (defs₀ (F := F)) Variants.none c none) E (cc0_norm_mod_matmul i tbM0_0 htbM0_0 arg3 harg3 arg4 harg4 arg5 harg5 arg6 harg6 arg7 harg7 arg8 harg8 arg9 harg9 arg10 harg10) K } := by
  refine ⟨?_, ?_, fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _, _; isplitr; swap; · iexact H6
      ipureintro; rfl
    isplitl [HS0]; · iexists _; iexact HS0
    iexact HT0

end Cert.OddProjIdeal

end
-- ==== Proof.Odd.Ideal.RunB.lean ====
module

public import proofs.«01_k».proof.Proof.Odd.Ideal.RunA

/-!
The run of the body at a later column tile, where the modulated tokens kept in the scratch are used.
-/

@[expose] public section

set_option maxRecDepth 16384

noncomputable section

namespace Cert.OddProjIdeal

open Cert.OddIdeal Cert.OddIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_B (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (xs0 : Vec F S1024x2048 .bf16) :
    Σ' (L5 : List (View.Piece (Elt F) S1024x1024 .f32)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ owns (c : Thread nD τ) arg10 fullShare xs0 ∗ tbPt0 c tbM0_0 xt0) -∗ K ⟨⟩))
          ⊢ wp frame (wpE (defs₀ (F := F)) Variants.none c none) E (cc0_norm_mod_matmul i tbM0_0 htbM0_0 arg3 harg3 arg4 harg4 arg5 harg5 arg6 harg6 arg7 harg7 arg8 harg8 arg9 harg9 arg10 harg10) K } := by
  refine ⟨?_, [], fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _, _; isplitr; swap; · iexact H6
      ipureintro; rfl
    isplitl [HS0]
    · iexists _; isplitr; · ipureintro; exact harg10.read_unread _
      iexact HS0
    iexact HT0

end Cert.OddProjIdeal

end
-- ==== Proof.Odd.Ideal.Frame.lean ====
module

public import proofs.«01_k».proof.Proof.Odd.Ideal.RunB
public import Idealize.ShloMosaic.Lib.Claim

/-!
The frame of the call: what each point leaves in the product's buffer and in the scratch, the obligation of the body, and the run of the whole program.
Of the tokens that the call writes back nothing is named, as the program does not return them.
-/

@[expose] public section

set_option maxRecDepth 16384

noncomputable section

namespace Cert.OddProjIdeal

open Cert.OddIdeal Cert.OddIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (y : S1024x1024.Idx) :
    ∃ pc ∈ (kernelRun0_A c i arg3 harg3 arg4 harg4 arg5 harg5 arg6 harg6 arg7 harg7 arg8 harg8 arg9 harg9 arg10 harg10 hc0 x0 x1 x2 x3 x4 xt0).1, y ∈ pc.1.set :=
  View.cover_of_tiledL (kernelRun0_A c i arg3 harg3 arg4 harg4 arg5 harg5 arg6 harg6 arg7 harg7 arg8 harg8 arg9 harg9 arg10 harg10 hc0 x0 x1 x2 x3 x4 xt0).1 S1024x1024.size (by sl_kernel_rfl) y

def out0_A_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) : Vec F S1024x1024 .f32 :=
  VO0_5.read (Elt F) (VO0_5.writes (Elt F) VO0_5.junk (kernelRun0_A c i arg3 harg3 arg4 harg4 arg5 harg5 arg6 harg6 arg7 harg7 arg8 harg8 arg9 harg9 arg10 harg10 hc0 x0 x1 x2 x3 x4 xt0).1)

theorem scover0_A_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (y : S1024x2048.Idx) :
    ∃ pc ∈ (kernelRun0_A c i arg3 harg3 arg4 harg4 arg5 harg5 arg6 harg6 arg7 harg7 arg8 harg8 arg9 harg9 arg10 harg10 hc0 x0 x1 x2 x3 x4 xt0).2.1, y ∈ pc.1.set :=
  View.cover_of_tiledL (kernelRun0_A c i arg3 harg3 arg4 harg4 arg5 harg5 arg6 harg6 arg7 harg7 arg8 harg8 arg9 harg9 arg10 harg10 hc0 x0 x1 x2 x3 x4 xt0).2.1 S1024x2048.size (by sl_kernel_rfl) y

def sout0_A_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) : Vec F S1024x2048 .bf16 :=
  VS0_0.read (Elt F) (VS0_0.writes (Elt F) VS0_0.junk (kernelRun0_A c i arg3 harg3 arg4 harg4 arg5 harg5 arg6 harg6 arg7 harg7 arg8 harg8 arg9 harg9 arg10 harg10 hc0 x0 x1 x2 x3 x4 xt0).2.1)

theorem cover0_B_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (xs0 : Vec F S1024x2048 .bf16) (y : S1024x1024.Idx) :
    ∃ pc ∈ (kernelRun0_B c i arg3 harg3 arg4 harg4 arg5 harg5 arg6 harg6 arg7 harg7 arg8 harg8 arg9 harg9 arg10 harg10 hc0 x0 x1 x2 x3 x4 xt0 xs0).1, y ∈ pc.1.set :=
  View.cover_of_tiledL (kernelRun0_B c i arg3 harg3 arg4 harg4 arg5 harg5 arg6 harg6 arg7 harg7 arg8 harg8 arg9 harg9 arg10 harg10 hc0 x0 x1 x2 x3 x4 xt0 xs0).1 S1024x1024.size (by sl_kernel_rfl) y

def out0_B_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (xs0 : Vec F S1024x2048 .bf16) : Vec F S1024x1024 .f32 :=
  VO0_5.read (Elt F) (VO0_5.writes (Elt F) VO0_5.junk (kernelRun0_B c i arg3 harg3 arg4 harg4 arg5 harg5 arg6 harg6 arg7 harg7 arg8 harg8 arg9 harg9 arg10 harg10 hc0 x0 x1 x2 x3 x4 xt0 xs0).1)

def sout0_B_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (xs0 : Vec F S1024x2048 .bf16) : Vec F S1024x2048 .bf16 := xs0

/-- What the body leaves, in the product's buffer and in the scratch, at the first column tile of a row tile. -/
def leftA (hO : Ok m) (c : Dev nD) (t : Fin (cfgM m hO).N) (h0 : t.val % 6 = 0) : Vec F S1024x1024 .f32 × Vec F S1024x2048 .bf16 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (iblk m hO c 0 t) (iblk m hO c 1 t) (iblk m hO c 2 t) (iblk m hO c 3 t) (iblk m hO c 4 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (iblk m hO c 0 t) (iblk m hO c 1 t) (iblk m hO c 2 t) (iblk m hO c 3 t) (iblk m hO c 4 t) (tbl m 0))

/-- What the body leaves at a later column tile, from what the scratch holds. -/
def leftB (hO : Ok m) (c : Dev nD) (t : Fin (cfgM m hO).N) (h0 : ¬t.val % 6 = 0) (xs : Vec F S1024x2048 .bf16) : Vec F S1024x1024 .f32 × Vec F S1024x2048 .bf16 :=
  (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) (iblk m hO c 0 t) (iblk m hO c 1 t) (iblk m hO c 2 t) (iblk m hO c 3 t) (iblk m hO c 4 t) (tbl m 0) xs, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) (iblk m hO c 0 t) (iblk m hO c 1 t) (iblk m hO c 2 t) (iblk m hO c 3 t) (iblk m hO c 4 t) (tbl m 0) xs)

/-- What the body leaves, point by point. -/
def outsAt0 (hO : Ok m) (c : Dev nD) : (n : ℕ) → n < (cfgM m hO).N → Vec F S1024x1024 .f32 × Vec F S1024x2048 .bf16
  | 0, hn => leftA m hO c ⟨0, hn⟩ (Nat.zero_mod _)
  | n + 1, hn =>
    if h0 : (n + 1) % 6 = 0 then leftA m hO c ⟨n + 1, hn⟩ h0
    else leftB m hO c ⟨n + 1, hn⟩ h0 (outsAt0 hO c n (Nat.lt_of_succ_lt hn)).2

theorem outsAt0_succ (hO : Ok m) (c : Dev nD) (n : ℕ) (hn : n + 1 < (cfgM m hO).N) :
    outsAt0 m hO c (n + 1) hn = if h0 : (n + 1) % 6 = 0 then leftA m hO c ⟨n + 1, hn⟩ h0
      else leftB m hO c ⟨n + 1, hn⟩ h0 (outsAt0 m hO c n (Nat.lt_of_succ_lt hn)).2 := by
  rw [outsAt0]

theorem outsAt0_A (hO : Ok m) (c : Dev nD) (t : Fin (cfgM m hO).N) (h0 : t.val % 6 = 0) :
    outsAt0 m hO c t.val t.isLt = leftA m hO c t h0 := by
  obtain ⟨n, hn⟩ := t
  cases n with
  | zero => rw [outsAt0]
  | succ n =>
    rw [outsAt0_succ]
    exact dif_pos h0

theorem outsAt0_B (hO : Ok m) (c : Dev nD) (t : Fin (cfgM m hO).N) (h0 : ¬t.val % 6 = 0) :
    outsAt0 m hO c t.val t.isLt = leftB m hO c t h0 (outsAt0 m hO c (t.val - 1) (Nat.lt_of_le_of_lt (Nat.sub_le _ _) t.isLt)).2 := by
  obtain ⟨n, hn⟩ := t
  cases n with
  | zero => exact absurd (Nat.zero_mod _) h0
  | succ n =>
    rw [outsAt0_succ]
    exact dif_neg h0

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

def forgets0 : Fin 7 → Bool := fun w => w.val == 6
theorem forgets0_5 : forgets0 (5 : Fin 7) = false := by decide

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
    | ⟨6, h⟩ => Pipeline.Dat.unnamed (cfg := (cfgM m hO)) ⟨6, h⟩ t
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (∃ d, owns (c : Thread nD τ) (ms0_6 m hO t) fullShare d))

set_option maxHeartbeats 6400000 in

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 96 := lt_of_lt_of_eq t.isLt (show (cfgM m hO).N = 96 from N_0)
  by_cases h0 : t.val % 6 = 0
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    by_cases hz : t.val = 0
    · rw [PhiS_castSucc m hO c t, PhiS_zero m hO c _ _ hz, PhiT0_eq, PhiA0_eq]
      rw [outsAt0_A m hO c t h0]
      unfold leftA
      unfold out0_A_5 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m hO c 0 t) (iblk m hO c 1 t) (iblk m hO c 2 t) (iblk m hO c 3 t) (iblk m hO c 4 t) (tbl m 0)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HT0]; · iexact HT0
      iintro ⟨H0, H1, H2, H3, H4, ⟨%e5, H5⟩, H6, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexact H6
    · rw [PhiS_castSucc m hO c t, PhiS_pos m hO c _ _ hz, PhiT0_eq]
      rw [outsAt0_A m hO c t h0]
      unfold leftA
      unfold out0_A_5 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m hO c 0 t) (iblk m hO c 1 t) (iblk m hO c 2 t) (iblk m hO c 3 t) (iblk m hO c 4 t) (tbl m 0)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      isplitl [HT0]; · iexact HT0
      iintro ⟨H0, H1, H2, H3, H4, ⟨%e5, H5⟩, H6, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexact H6
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    by_cases hz : t.val = 0
    · exfalso; have hN : t.val < 96 := lt_of_lt_of_eq t.isLt (show (cfgM m hO).N = 96 from N_0); omega
    · rw [PhiS_castSucc m hO c t, PhiS_pos m hO c _ _ hz, PhiT0_eq]
      rw [outsAt0_B m hO c t h0]
      unfold leftB
      unfold out0_B_5 sout0_B_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m hO c 0 t) (iblk m hO c 1 t) (iblk m hO c 2 t) (iblk m hO c 3 t) (iblk m hO c 4 t) (tbl m 0) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HT0]; · iexact HT0
      iintro ⟨H0, H1, H2, H3, H4, ⟨%e5, H5⟩, H6, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      iexact H6

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 96 := N_0; omega)

set_option backward.isDefEq.respectTransparency.types false in

theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget_shared (Q' := _) pcfgs (fun _ => adm m hO) (dats m hO) (0 : Fin 1) launch₀0 defs₀ Variants.none forgets0 m ρ main
    (hbody := fun c => (body_obligation m hO c).loose) (hq := fun _ _ _ => rfl)
    (howed := fun _ _ => rfl) (V := V m) (hmain := hmain m Variants.none) (hA := A_eq m hO) (hpf := V_pre m) (hin := hin m hO) (hout := hout m hO)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO 0 c).toRForget forgets0) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.OddProjIdeal

end
-- ==== Proof.Odd.TableIdeal.lean ====
/- The table of segments, as the host computes it. -/
module

public import proofs.«01_k».proof.Proof.Odd.Ideal.Frame
public import proofs.«01_k».proof.Proof.Seg
public import Idealize.ShloMosaic.Lib.StableHlo.ReadAt
public import Idealize.ShloMosaic.Lib.Pointwise
public import Idealize.ShloMosaic.Lib.Pipeline.ValueKit.Geometry

@[expose] public section

set_option maxRecDepth 16384

noncomputable section

namespace Cert.OddProj.Ideal

open Idealize.ShloMosaic Idealize.ShloMosaic.TcCoe Cert.OddIdeal Cert.OddIdeal.Gen Cert.OddProjIdeal Cert.Seg

variable {F : FTy → Type} [FloatOps F] (m : (ℓ : Loc nD τ sig) → Buf (Elt F) ℓ) (c : Dev nD)

theorem table_apply (i : Fin 16) : (V m c main_v11 (ix1 i) : BitVec 32) = BitVec.ofNat 32 (segOf 8 4 i) := by
  unfold V
  after_reads_at
  simp only [id, constantI]
  exact segWord_1024 i

theorem word_apply (i : grid0.Coords) :
    (tbl m).at 0 (Rect.unit (s := S16) (k0_off1 i) S1.size (k0_off1_inb i)) numel1_S1 = BitVec.ofNat 32 (segOf 8 4 (i 0)) := by
  refine Eq.trans ?_ (table_apply m 0 (i 0))
  refine congrArg (V m 0 main_v11) (funext fun (a : Fin 1) => ?_)
  obtain rfl : a = 0 := Subsingleton.elim _ _
  exact Fin.ext (coord_word 16 (by decide) (i 0))

theorem index_sc (i : grid0.Coords) :
    cc0_transform_2 k0_off1_inb numel1_S1 (tbl m) i = ![segOf 8 4 (i 0) * 6 + 1, 0, 0] := by
  have e : cc0_transform_2 k0_off1_inb numel1_S1 (tbl m) i
      = ![(Scalar.addi (Scalar.muli ((tbl m).at 0 (Rect.unit (s := S16) (k0_off1 i) S1.size (k0_off1_inb i)) numel1_S1) 6#32) 1#32).toNat, 0, 0] := rfl
  rw [e, word_apply]
  have key : ∀ a : Fin 16, (![(Scalar.addi (Scalar.muli (BitVec.ofNat 32 (segOf 8 4 a)) 6#32) 1#32).toNat, (0#32 : BitVec 32).toNat, (0#32 : BitVec 32).toNat] : Fin 3 → Nat) = ![segOf 8 4 a * 6 + 1, 0, 0] := by
    decide +kernel
  exact key (i 0)

theorem index_sh (i : grid0.Coords) :
    cc0_transform_3 k0_off1_inb numel1_S1 (tbl m) i = ![segOf 8 4 (i 0) * 6 + 0, 0, 0] := by
  have e : cc0_transform_3 k0_off1_inb numel1_S1 (tbl m) i
      = ![(Scalar.addi (Scalar.muli ((tbl m).at 0 (Rect.unit (s := S16) (k0_off1 i) S1.size (k0_off1_inb i)) numel1_S1) 6#32) 0#32).toNat, 0, 0] := rfl
  rw [e, word_apply]
  have key : ∀ a : Fin 16, (![(Scalar.addi (Scalar.muli (BitVec.ofNat 32 (segOf 8 4 a)) 6#32) 0#32).toNat, (0#32 : BitVec 32).toNat, (0#32 : BitVec 32).toNat] : Fin 3 → Nat) = ![segOf 8 4 a * 6 + 0, 0, 0] := by
    decide +kernel
  exact key (i 0)

/-- The blocks that the table chooses lie in the array of modulations. -/
theorem ok : Ok m :=
  ⟨fun i => ⟨by
    rw [index_sc]
    have key : ∀ (a : Fin 16), ∀ x, ((![segOf 8 4 a * 6 + 1, 0, 0] : Fin 3 → Nat) x + 1) * S1x1x2048.size x ≤ S48x1x2048.size x := by
      decide +kernel
    exact key (i 0), .inl rfl⟩,
   fun i => ⟨by
    rw [index_sh]
    have key : ∀ (a : Fin 16), ∀ x, ((![segOf 8 4 a * 6 + 0, 0, 0] : Fin 3 → Nat) x + 1) * S1x1x2048.size x ≤ S48x1x2048.size x := by
      decide +kernel
    exact key (i 0), .inl rfl⟩⟩

end Cert.OddProj.Ideal

end
-- ==== Proof.Odd.Block.lean ====
/- What each grid point leaves in the scratch and in its block of the product, and from it the whole product. -/
module

public import proofs.«01_k».proof.Proof.Odd.TableIdeal
public import proofs.«01_k».proof.Proof.Tok
public import Idealize.ShloMosaic.Lib.Pipeline.ValueKit.Geometry
public import Idealize.ShloMosaic.Lib.Pipeline.ValueKit.Tiles
public import Idealize.ShloMosaic.Lib.Pipeline.ValueKit.Acc
public import Idealize.ShloMosaic.Lib.Pipeline.ReadBack

@[expose] public section

set_option maxRecDepth 16384

noncomputable section

namespace Cert.OddProj.Ideal

open Idealize.ShloMosaic Idealize.ShloMosaic.TcCoe Cert.OddIdeal Cert.OddIdeal.Gen Cert.OddProjIdeal Cert.Seg Cert.Tok
open scoped BigOperators

theorem pay1_apply (x : Vec Ideal S1024x2048 .f32) (g : Vec Ideal S1x2048 .f32) (sc sh : Vec Ideal S1x1x2048 .f32)
    (r : Fin 1024) (n : Fin 2048) :
    (k0_pay1 x g sc sh (ix2 r n) : EReal)
      = norm (fun k => x (ix2 r k)) (g (ix2 0 n)) (sc (ix3 0 0 n)) (sh (ix3 0 0 n)) n := by
  pointwise [k0_pay1]
  rfl

theorem pay2_apply (x : Vec Ideal S1024x2048 .f32) (g : Vec Ideal S1x2048 .f32) (sc sh : Vec Ideal S1x1x2048 .f32)
    (r : Fin 1024) (n : Fin 2048) :
    (k0_pay2 x g sc sh (ix2 r n) : EReal) = k0_pay1 x g sc sh (ix2 r n) := by
  pointwise [k0_pay2]

theorem pay3_apply (h : Vec Ideal S1024x2048 .bf16) (w : Vec Ideal S2048x1024 .bf16) (r n : Fin 1024) :
    (k0_pay3 h w (ix2 r n) : EReal) = ∑ k : Fin 2048, h (ix2 r k) * w (ix2 k n) := by
  pointwise [k0_pay3]

theorem pay2_congr {a a' : Vec Ideal S1024x2048 .f32} {b b' : Vec Ideal S1x2048 .f32} {c c' d d' : Vec Ideal S1x1x2048 .f32}
    (ha : a = a') (hb : b = b') (hc : c = c') (hd : d = d') : k0_pay2 a b c d = k0_pay2 a' b' c' d' := by
  subst ha hb hc hd; rfl

theorem pay3_congr {a a' : Vec Ideal S1024x2048 .bf16} {b b' : Vec Ideal S2048x1024 .bf16} (ha : a = a') (hb : b = b') :
    k0_pay3 a b = k0_pay3 a' b' := by subst ha hb; rfl

theorem eta2 (y : S1024x1024.Idx) : y = ix2 (y 0) (y 1) := funext fun (a : Fin 2) => match a with | 0 => rfl | 1 => rfl

/-- A row of the modulations. -/
def modRow (p : Nat) (r : Fin 16384) : Fin 48 := ⟨(segOf 8 4 (r.val / 1024) * 6 + p) % 48, Nat.mod_lt _ (by decide)⟩

/-- The modulated tokens as a function of the arrays that the windows are blocks of. -/
def hArr (X : Vec Ideal S16384x2048 .f32) (G : Vec Ideal S1x2048 .f32) (M : Vec Ideal S48x1x2048 .f32) (r : Fin 16384) (n : Fin 2048) : EReal :=
  norm (fun k => X (ix2 r k)) (G (ix2 0 n)) (M (ix3 (modRow 1 r) 0 n)) (M (ix3 (modRow 0 r) 0 n)) n

/-- The whole product. -/
def zArr (X : Vec Ideal S16384x2048 .f32) (G : Vec Ideal S1x2048 .f32) (M : Vec Ideal S48x1x2048 .f32) (W : Vec Ideal S2048x6144 .bf16)
    (r : Fin 16384) (n : Fin 6144) : EReal := ∑ k : Fin 2048, hArr X G M r k * W (ix2 k n)

theorem point_h (X : Vec Ideal S16384x2048 .f32) (G : Vec Ideal S1x2048 .f32) (M : Vec Ideal S48x1x2048 .f32)
    (x : Vec Ideal S1024x2048 .f32) (g : Vec Ideal S1x2048 .f32) (sc sh : Vec Ideal S1x1x2048 .f32) (q : Fin 16384) (r : Fin 1024)
    (hx : ∀ k, x (ix2 r k) = X (ix2 q k)) (hg : ∀ n, g (ix2 0 n) = G (ix2 0 n)) (hsc : ∀ n, sc (ix3 0 0 n) = M (ix3 (modRow 1 q) 0 n))
    (hsh : ∀ n, sh (ix3 0 0 n) = M (ix3 (modRow 0 q) 0 n)) (n : Fin 2048) :
    (k0_pay2 x g sc sh (ix2 r n) : EReal) = hArr X G M q n := by
  rw [pay2_apply, pay1_apply, hg, hsc, hsh]
  simp only [hx]
  rfl

theorem point_z (X : Vec Ideal S16384x2048 .f32) (G : Vec Ideal S1x2048 .f32) (M : Vec Ideal S48x1x2048 .f32)
    (W : Vec Ideal S2048x6144 .bf16) (h : Vec Ideal S1024x2048 .bf16) (w : Vec Ideal S2048x1024 .bf16) (q : Fin 16384) (p : Fin 6144)
    (r n : Fin 1024) (hh : ∀ k, h (ix2 r k) = hArr X G M q k) (hw : ∀ k, w (ix2 k n) = W (ix2 k p)) :
    (k0_pay3 h w (ix2 r n) : EReal) = zArr X G M W q p := by
  rw [pay3_apply]
  simp only [hw, hh]
  rfl

section Array
variable (m : (ℓ : Loc nD τ sig) → Buf (Elt Ideal) ℓ)

theorem index_x : ∀ t : Fin grid0.N, cc0_transform_0 (grid0.coords t) = ![t.val / 6, 0] := by decide +kernel
theorem index_g : ∀ t : Fin grid0.N, cc0_transform_1 (grid0.coords t) = ![0, 0] := by decide +kernel
theorem index_w : ∀ t : Fin grid0.N, cc0_transform_4 (grid0.coords t) = ![0, t.val % 6] := by decide +kernel
theorem index_z : ∀ t : Fin grid0.N, cc0_transform_5 (grid0.coords t) = ![t.val / 6, t.val % 6] := by decide +kernel
theorem coord_row : ∀ t : Fin grid0.N, ((grid0.coords t) 0).val = t.val / 6 := by decide +kernel

theorem lt_N (t : Fin grid0.N) : t.val < 96 := t.isLt

/-- The row of the whole array that row `r` of the block of point `t` is. -/
def rowOf (t : Fin grid0.N) (r : Fin 1024) : Fin 16384 := ⟨t.val / 6 * 1024 + r.val, by have := lt_N t; omega⟩

/-- The column of the whole array that column `n` of the block of point `t` is. -/
def colOf (t : Fin grid0.N) (n : Fin 1024) : Fin 6144 := ⟨t.val % 6 * 1024 + n.val, by omega⟩

theorem seg_row (t : Fin grid0.N) (r : Fin 1024) (p : Nat) (hp : p < 6) :
    (modRow p (rowOf t r)).val = segOf 8 4 (t.val / 6) * 6 + p := by
  have h := lt_N t
  have e : (rowOf t r).val / 1024 = t.val / 6 := by show (t.val / 6 * 1024 + r.val) / 1024 = _; omega
  show (segOf 8 4 ((rowOf t r).val / 1024) * 6 + p) % 48 = _
  rw [e, Nat.mod_eq_of_lt]
  unfold segOf
  split <;> omega

theorem emb_x (t : Fin grid0.N) (r : Fin 1024) (n : Fin 2048) :
    (((cfgM m (ok m)).win 0).blk t).view.emb (ix2 r n) = ix2 (rowOf t r) n := by
  refine funext fun (a : Fin 2) => Fin.ext ?_
  match a with
  | 0 => show cc0_transform_0 (grid0.coords t) 0 * 1024 + 1 * r.val = t.val / 6 * 1024 + r.val
         rw [index_x]; show t.val / 6 * 1024 + 1 * r.val = _; omega
  | 1 => show cc0_transform_0 (grid0.coords t) 1 * 2048 + 1 * n.val = n.val
         rw [index_x]; show 0 * 2048 + 1 * n.val = _; omega

theorem emb_z (t : Fin grid0.N) (r n : Fin 1024) :
    (((cfgM m (ok m)).win 5).blk t).view.emb (ix2 r n) = ix2 (rowOf t r) (colOf t n) := by
  refine funext fun (a : Fin 2) => Fin.ext ?_
  match a with
  | 0 => show cc0_transform_5 (grid0.coords t) 0 * 1024 + 1 * r.val = t.val / 6 * 1024 + r.val
         rw [index_z]; show t.val / 6 * 1024 + 1 * r.val = _; omega
  | 1 => show cc0_transform_5 (grid0.coords t) 1 * 1024 + 1 * n.val = t.val % 6 * 1024 + n.val
         rw [index_z]; show t.val % 6 * 1024 + 1 * n.val = _; omega

theorem emb_g (t : Fin grid0.N) (n : Fin 2048) :
    (((cfgM m (ok m)).win 1).blk t).view.emb (ix2 0 n) = ix2 0 n := by
  refine funext fun (a : Fin 2) => Fin.ext ?_
  match a with
  | 0 => show cc0_transform_1 (grid0.coords t) 0 * 1 + 1 * 0 = 0
         rw [index_g]; rfl
  | 1 => show cc0_transform_1 (grid0.coords t) 1 * 2048 + 1 * n.val = n.val
         rw [index_g]; show 0 * 2048 + 1 * n.val = _; omega

theorem emb_w (t : Fin grid0.N) (k : Fin 2048) (n : Fin 1024) :
    (((cfgM m (ok m)).win 4).blk t).view.emb (ix2 k n) = ix2 k (colOf t n) := by
  refine funext fun (a : Fin 2) => Fin.ext ?_
  match a with
  | 0 => show cc0_transform_4 (grid0.coords t) 0 * 2048 + 1 * k.val = k.val
         rw [index_w]; show 0 * 2048 + 1 * k.val = _; omega
  | 1 => show cc0_transform_4 (grid0.coords t) 1 * 1024 + 1 * n.val = t.val % 6 * 1024 + n.val
         rw [index_w]; show t.val % 6 * 1024 + 1 * n.val = _; omega

theorem emb_sc (t : Fin grid0.N) (r : Fin 1024) (n : Fin 2048) :
    (((cfgM m (ok m)).win 2).blk t).view.emb (ix3 0 0 n) = ix3 (modRow 1 (rowOf t r)) 0 n := by
  refine funext fun (a : Fin 3) => Fin.ext ?_
  match a with
  | 0 => show cc0_transform_2 k0_off1_inb numel1_S1 (tbl m) (grid0.coords t) 0 * 1 + 1 * 0 = (modRow 1 (rowOf t r)).val
         rw [index_sc, seg_row t r 1 (by decide), ← coord_row t]; show (segOf 8 4 ((grid0.coords t) 0).val * 6 + 1) * 1 + 1 * 0 = _; omega
  | 1 => show cc0_transform_2 k0_off1_inb numel1_S1 (tbl m) (grid0.coords t) 1 * 1 + 1 * 0 = 0
         rw [index_sc]; rfl
  | 2 => show cc0_transform_2 k0_off1_inb numel1_S1 (tbl m) (grid0.coords t) 2 * 2048 + 1 * n.val = n.val
         rw [index_sc]; show 0 * 2048 + 1 * n.val = _; omega

theorem emb_sh (t : Fin grid0.N) (r : Fin 1024) (n : Fin 2048) :
    (((cfgM m (ok m)).win 3).blk t).view.emb (ix3 0 0 n) = ix3 (modRow 0 (rowOf t r)) 0 n := by
  refine funext fun (a : Fin 3) => Fin.ext ?_
  match a with
  | 0 => show cc0_transform_3 k0_off1_inb numel1_S1 (tbl m) (grid0.coords t) 0 * 1 + 1 * 0 = (modRow 0 (rowOf t r)).val
         rw [index_sh, seg_row t r 0 (by decide), ← coord_row t]; show (segOf 8 4 ((grid0.coords t) 0).val * 6 + 0) * 1 + 1 * 0 = _; omega
  | 1 => show cc0_transform_3 k0_off1_inb numel1_S1 (tbl m) (grid0.coords t) 1 * 1 + 1 * 0 = 0
         rw [index_sh]; rfl
  | 2 => show cc0_transform_3 k0_off1_inb numel1_S1 (tbl m) (grid0.coords t) 2 * 2048 + 1 * n.val = n.val
         rw [index_sh]; show 0 * 2048 + 1 * n.val = _; omega

theorem covers_z : ((cfgM m (ok m)).win 5).Covers := by
  refine ⟨(by decide : ∀ a : Fin 2, 0 < S1024x1024.size a), fun β => ?_⟩
  have h0 : (β (0 : Fin 2)).val < 16 := Nat.lt_of_lt_of_eq (β (0 : Fin 2)).isLt (show (16384 + 1024 - 1) / 1024 = 16 by decide)
  have h1 : (β (1 : Fin 2)).val < 6 := Nat.lt_of_lt_of_eq (β (1 : Fin 2)).isLt (show (6144 + 1024 - 1) / 1024 = 6 by decide)
  have hN : (β (0 : Fin 2)).val * 6 + (β (1 : Fin 2)).val < 96 := by omega
  refine ⟨(⟨(β (0 : Fin 2)).val * 6 + (β (1 : Fin 2)).val, hN⟩ : Fin grid0.N), flush0_5 _ _, fun (a : Fin 2) => ⟨?_, Or.inl rfl⟩⟩
  match a with
  | 0 => show cc0_transform_5 (grid0.coords _) 0 = _
         rw [index_z]; show ((β (0 : Fin 2)).val * 6 + (β (1 : Fin 2)).val) / 6 = (β (0 : Fin 2)).val; omega
  | 1 => show cc0_transform_5 (grid0.coords _) 1 = _
         rw [index_z]; show ((β (0 : Fin 2)).val * 6 + (β (1 : Fin 2)).val) % 6 = (β (1 : Fin 2)).val; omega

theorem blk_x (c : Dev nD) (t : Fin grid0.N) (r : Fin 1024) (k : Fin 2048) :
    (iblk m (ok m) c 0 t : Vec Ideal S1024x2048 .f32) (ix2 r k) = V m c main_v14 (ix2 (rowOf t r) k) := by
  rw [← emb_x m t r k]; rfl

theorem blk_g (c : Dev nD) (t : Fin grid0.N) (n : Fin 2048) :
    (iblk m (ok m) c 1 t : Vec Ideal S1x2048 .f32) (ix2 0 n) = V m c main_v21 (ix2 0 n) := by
  conv_rhs => rw [← emb_g m t n]
  rfl

theorem blk_sc (c : Dev nD) (t : Fin grid0.N) (r : Fin 1024) (n : Fin 2048) :
    (iblk m (ok m) c 2 t : Vec Ideal S1x1x2048 .f32) (ix3 0 0 n) = V m c main_v18 (ix3 (modRow 1 (rowOf t r)) 0 n) := by
  rw [← emb_sc m t r n]; rfl

theorem blk_sh (c : Dev nD) (t : Fin grid0.N) (r : Fin 1024) (n : Fin 2048) :
    (iblk m (ok m) c 3 t : Vec Ideal S1x1x2048 .f32) (ix3 0 0 n) = V m c main_v18 (ix3 (modRow 0 (rowOf t r)) 0 n) := by
  rw [← emb_sh m t r n]; rfl

theorem blk_w (c : Dev nD) (t : Fin grid0.N) (k : Fin 2048) (n : Fin 1024) :
    (iblk m (ok m) c 4 t : Vec Ideal S2048x1024 .bf16) (ix2 k n) = V m c main_v20 (ix2 k (colOf t n)) := by
  rw [← emb_w m t k n]; rfl

theorem leftA_scratch (c : Dev nD) (t : Fin grid0.N) (h0 : t.val % 6 = 0) (y : S1024x2048.Idx) :
    (leftA m (ok m) c t h0).2 y
      = k0_pay2 (F := Ideal) (iblk m (ok m) c 0 t) (iblk m (ok m) c 1 t) (iblk m (ok m) c 2 t) (iblk m (ok m) c 3 t) y := by
  unfold leftA
  frame_out
  exact congrFun (pay2_congr (Memref.IsWhole.read_unread _ _) (Memref.IsWhole.read_unread _ _) (Memref.IsWhole.read_unread _ _)
    (Memref.IsWhole.read_unread _ _)) _

theorem leftA_product (c : Dev nD) (t : Fin grid0.N) (h0 : t.val % 6 = 0) (y : S1024x1024.Idx) :
    (leftA m (ok m) c t h0).1 y
      = k0_pay3 (F := Ideal) (k0_pay2 (iblk m (ok m) c 0 t) (iblk m (ok m) c 1 t) (iblk m (ok m) c 2 t) (iblk m (ok m) c 3 t))
          (iblk m (ok m) c 4 t) y := by
  unfold leftA
  frame_out
  exact congrFun (pay3_congr (pay2_congr (Memref.IsWhole.read_unread _ _) (Memref.IsWhole.read_unread _ _) (Memref.IsWhole.read_unread _ _)
    (Memref.IsWhole.read_unread _ _)) (Memref.IsWhole.read_unread _ _)) _

theorem leftB_scratch (c : Dev nD) (t : Fin grid0.N) (h0 : ¬t.val % 6 = 0) (xs : Vec Ideal S1024x2048 .bf16) :
    (leftB m (ok m) c t h0 xs).2 = xs := by
  unfold leftB sout0_B_0
  rfl

theorem leftB_product (c : Dev nD) (t : Fin grid0.N) (h0 : ¬t.val % 6 = 0) (xs : Vec Ideal S1024x2048 .bf16) (y : S1024x1024.Idx) :
    (leftB m (ok m) c t h0 xs).1 y = k0_pay3 (F := Ideal) xs (iblk m (ok m) c 4 t) y := by
  unfold leftB
  frame_out
  exact congrFun (pay3_congr (Memref.IsWhole.read_unread _ _) (Memref.IsWhole.read_unread _ _)) _

theorem scratch_first (c : Dev nD) (t : Fin grid0.N) (h0 : t.val % 6 = 0) (r : Fin 1024) (k : Fin 2048) :
    ((leftA m (ok m) c t h0).2 (ix2 r k) : EReal) = hArr (V m c main_v14) (V m c main_v21) (V m c main_v18) (rowOf t r) k :=
  (leftA_scratch m c t h0 (ix2 r k)).trans
    (point_h (V m c main_v14) (V m c main_v21) (V m c main_v18) (iblk m (ok m) c 0 t) (iblk m (ok m) c 1 t)
      (iblk m (ok m) c 2 t) (iblk m (ok m) c 3 t) (rowOf t r) r (fun k => blk_x m c t r k)
      (fun n => blk_g m c t n) (fun n => blk_sc m c t r n) (fun n => blk_sh m c t r n) k)

theorem scratch_first_at (c : Dev nD) (n : ℕ) (hn : n < grid0.N) (h0 : n % 6 = 0) :
    (outsAt0 m (ok m) c n hn).2 = (leftA m (ok m) c ⟨n, hn⟩ h0).2 :=
  congrArg Prod.snd (outsAt0_A m (ok m) c ⟨n, hn⟩ h0)

theorem scratch_later (c : Dev nD) (n : ℕ) (hn : n + 1 < grid0.N) (h0 : ¬(n + 1) % 6 = 0) :
    (outsAt0 m (ok m) c (n + 1) hn).2 = (outsAt0 m (ok m) c n (Nat.lt_of_succ_lt hn)).2 :=
  (congrArg Prod.snd ((outsAt0_succ m (ok m) c n hn).trans (dif_neg h0))).trans (leftB_scratch m c ⟨n + 1, hn⟩ h0 _)

theorem row_later (n : ℕ) (hn : n + 1 < grid0.N) (h0 : ¬(n + 1) % 6 = 0) (r : Fin 1024) :
    rowOf ⟨n, Nat.lt_of_succ_lt hn⟩ r = rowOf ⟨n + 1, hn⟩ r := by
  refine Fin.ext ?_
  show n / 6 * 1024 + r.val = (n + 1) / 6 * 1024 + r.val
  omega

/-- What is set at the first point of every row tile, and carried through its later points, is known at every point. -/
theorem carried (S : (n : ℕ) → n < 96 → EReal) (H : Fin 96 → EReal) (first : ∀ n hn, n % 6 = 0 → S n hn = H ⟨n, hn⟩)
    (later : ∀ n hn, ¬(n + 1) % 6 = 0 → S (n + 1) hn = S n (Nat.lt_of_succ_lt hn))
    (same : ∀ n hn, ¬(n + 1) % 6 = 0 → H ⟨n, Nat.lt_of_succ_lt hn⟩ = H ⟨n + 1, hn⟩) (n : ℕ) : ∀ hn, S n hn = H ⟨n, hn⟩ := by
  induction n with
  | zero => exact fun hn => first 0 hn rfl
  | succ n ih =>
    intro hn
    by_cases h0 : (n + 1) % 6 = 0
    · exact first _ hn h0
    · exact (later n hn h0).trans ((ih _).trans (same n hn h0))

theorem scratch_at (c : Dev nD) (r : Fin 1024) (k : Fin 2048) (n : ℕ) (hn : n < grid0.N) (h0 : n % 6 = 0) :
    ((outsAt0 m (ok m) c n hn).2 (ix2 r k) : EReal) = hArr (V m c main_v14) (V m c main_v21) (V m c main_v18) (rowOf ⟨n, hn⟩ r) k :=
  (congrFun (scratch_first_at m c n hn h0) (ix2 r k)).trans (scratch_first m c ⟨n, hn⟩ h0 r k)

/-- At every point the scratch holds the modulated tokens of the point's row tile. -/
theorem scratch_apply (c : Dev nD) (r : Fin 1024) (k : Fin 2048) (n : ℕ) (hn : n < grid0.N) :
    ((outsAt0 m (ok m) c n hn).2 (ix2 r k) : EReal) = hArr (V m c main_v14) (V m c main_v21) (V m c main_v18) (rowOf ⟨n, hn⟩ r) k :=
  carried (fun n hn => (outsAt0 m (ok m) c n hn).2 (ix2 r k)) (fun t => hArr (V m c main_v14) (V m c main_v21) (V m c main_v18) (rowOf t r) k)
    (fun n hn h0 => scratch_at m c r k n hn h0) (fun n hn h0 => congrFun (scratch_later m c n hn h0) (ix2 r k))
    (fun n hn h0 => congrArg (fun q => hArr (V m c main_v14) (V m c main_v21) (V m c main_v18) q k) (row_later n hn h0 r)) n hn

theorem product_first (c : Dev nD) (t : Fin grid0.N) (h0 : t.val % 6 = 0) (r n : Fin 1024) :
    ((leftA m (ok m) c t h0).1 (ix2 r n) : EReal)
      = zArr (V m c main_v14) (V m c main_v21) (V m c main_v18) (V m c main_v20) (rowOf t r) (colOf t n) :=
  (leftA_product m c t h0 (ix2 r n)).trans
    (point_z (V m c main_v14) (V m c main_v21) (V m c main_v18) (V m c main_v20) _ (iblk m (ok m) c 4 t) (rowOf t r) (colOf t n) r n
      (fun k => (leftA_scratch m c t h0 (ix2 r k)).symm.trans (scratch_first m c t h0 r k)) (fun k => blk_w m c t k n))

theorem product_later (c : Dev nD) (t : Fin grid0.N) (h0 : ¬t.val % 6 = 0) (xs : Vec Ideal S1024x2048 .bf16) (r n : Fin 1024)
    (hs : ∀ k, (xs (ix2 r k) : EReal) = hArr (V m c main_v14) (V m c main_v21) (V m c main_v18) (rowOf t r) k) :
    ((leftB m (ok m) c t h0 xs).1 (ix2 r n) : EReal)
      = zArr (V m c main_v14) (V m c main_v21) (V m c main_v18) (V m c main_v20) (rowOf t r) (colOf t n) :=
  (leftB_product m c t h0 xs (ix2 r n)).trans
    (point_z (V m c main_v14) (V m c main_v21) (V m c main_v18) (V m c main_v20) xs (iblk m (ok m) c 4 t) (rowOf t r) (colOf t n) r n
      hs (fun k => blk_w m c t k n))

theorem row_before (t : Fin grid0.N) (h0 : ¬t.val % 6 = 0) (h : t.val - 1 < grid0.N) (r : Fin 1024) : rowOf ⟨t.val - 1, h⟩ r = rowOf t r := by
  refine Fin.ext ?_
  show (t.val - 1) / 6 * 1024 + r.val = t.val / 6 * 1024 + r.val
  omega

theorem product_apply (c : Dev nD) (t : Fin grid0.N) (r n : Fin 1024) :
    ((outsAt0 m (ok m) c t.val t.isLt).1 (ix2 r n) : EReal)
      = zArr (V m c main_v14) (V m c main_v21) (V m c main_v18) (V m c main_v20) (rowOf t r) (colOf t n) :=
  if h0 : t.val % 6 = 0 then
    (congrFun (congrArg Prod.fst (outsAt0_A m (ok m) c t h0)) (ix2 r n)).trans (product_first m c t h0 r n)
  else
    (congrFun (congrArg Prod.fst (outsAt0_B m (ok m) c t h0)) (ix2 r n)).trans
      (product_later m c t h0 _ r n fun k => (scratch_apply m c r k (t.val - 1) (Nat.lt_of_le_of_lt (Nat.sub_le _ _) t.isLt)).trans
        (congrArg (fun q => hArr (V m c main_v14) (V m c main_v21) (V m c main_v18) q k) (row_before t h0 _ r)))

theorem final_z (c : Dev nD) : (dats m (ok m) 0 c).arrAt 5 (cfgM m (ok m)).N
    = fun y : S16384x6144.Idx => zArr (V m c main_v14) (V m c main_v21) (V m c main_v18) (V m c main_v20) (y 0) (y 1) := by
  refine (dats m (ok m) 0 c).arrAt_eq_of_covers 5 _ (covers_z m) fun t hf y => ?_
  blk_simp
  rw [after0_5]
  obtain ⟨r, n, rfl⟩ : ∃ (r n : Fin 1024), y = ix2 r n := ⟨y (0 : Fin 2), y (1 : Fin 2), eta2 y⟩
  refine Eq.trans ?_ (congrArg (fun z : S16384x6144.Idx => zArr (V m c main_v14) (V m c main_v21) (V m c main_v18) (V m c main_v20)
    (z 0) (z 1)) (emb_z m t r n)).symm
  exact product_apply m c t r n
end Array

end Cert.OddProj.Ideal

end
-- ==== Proof.Odd.Args.lean ====
/- The arrays that the windows are blocks of, as the host computes them from the arguments. -/
module

public import proofs.«01_k».proof.Proof.Odd.Block
public import proofs.«01_k».proof.Proof.Tok

@[expose] public section

set_option maxRecDepth 16384

noncomputable section

namespace Cert.OddProj.Ideal

open Idealize.ShloMosaic Idealize.ShloMosaic.TcCoe Cert.OddIdeal Cert.OddIdeal.Gen Cert.OddProjIdeal Cert.Seg Cert.Tok
open scoped BigOperators

theorem h_eq (X : Vec Ideal S16384x2048 .f32) (G : Vec Ideal S1x2048 .f32) (M : Vec Ideal S48x1x2048 .f32) (r : Fin 16384) (n : Fin 2048)
    (x : Fin 2048 → EReal) (g sc sh : EReal) (hx : ∀ k, X (ix2 r k) = x k) (hg : G (ix2 0 n) = g) (hsc : M (ix3 (modRow 1 r) 0 n) = sc)
    (hsh : M (ix3 (modRow 0 r) 0 n) = sh) : hArr X G M r n = norm x g sc sh n := by
  unfold hArr
  rw [hg, hsc, hsh]
  simp only [hx]

theorem z_eq (X : Vec Ideal S16384x2048 .f32) (G : Vec Ideal S1x2048 .f32) (M : Vec Ideal S48x1x2048 .f32) (W : Vec Ideal S2048x6144 .bf16)
    (r : Fin 16384) (n : Fin 6144) (h w : Fin 2048 → EReal) (hh : ∀ k, hArr X G M r k = h k) (hw : ∀ k, W (ix2 k n) = w k) :
    zArr X G M W r n = ∑ k : Fin 2048, h k * w k := by
  unfold zArr
  simp only [hh, hw]

variable (m : (ℓ : Loc nD τ sig) → Buf (Elt Ideal) ℓ) (c : Dev nD)

theorem x_apply (r : Fin 16384) (n : Fin 2048) : (V m c main_v14 (ix2 r n) : EReal)
    = tok (m ((c : Thread nD τ).loc main_arg0)) (m ((c : Thread nD τ).loc main_arg1)) r n := by
  refine Eq.trans ?_ (tok_read _ _ shapeCasts_S32x256x2048_S8192x2048 shapeCasts_S2x4096x2048_S8192x2048
    concatenates_S8192x2048_S8192x2048_S16384x2048_d0 r n)
  unfold V
  after_reads_simp
  rfl

theorem g_apply (n : Fin 2048) : (V m c main_v21 (ix2 0 n) : EReal)
    = (m ((c : Thread nD τ).loc main_arg2) : Vec Ideal S2048 .f32) (ix1 n) := by
  unfold V
  after_reads_at

/-- The weight that multiplies token lane `k` into column `n`. -/
def weight (w : Vec Ideal S1x2048x6144 .f32) (k : Fin 2048) (n : Fin 6144) : EReal := w (ix3 0 k n)

theorem w_apply (k : Fin 2048) (n : Fin 6144) : (V m c main_v20 (ix2 k n) : EReal)
    = weight (m ((c : Thread nD τ).loc main_arg5)) k n := by
  unfold V weight
  after_reads_at

theorem sc_apply (r : Fin 16384) (n : Fin 2048) : (V m c main_v18 (ix3 (modRow 1 r) 0 n) : EReal)
    = modAt (m ((c : Thread nD τ).loc main_arg3)) (m ((c : Thread nD τ).loc main_arg4)) 1 r n := by
  have hq : (modRow 1 r).val = rowSeg r * 6 + (1 : Fin 6).val := by
    show (segOf 8 4 (r.val / 1024) * 6 + 1) % 48 = _
    rw [seg_1024]
    unfold rowSeg
    split <;> omega
  refine Eq.trans ?_ (mod_read _ _ (broadcastInDim S5x12288 ![] bcast_S_S5x12288 (constant (F := Idealize.ShloMosaic.Ideal) S_ .f32 0x00000000#32)) bcast_S12288_S1x12288_1 concatenates_S1x12288_S2x12288_S5x12288_S8x12288_d0
    shapeCasts_S8x12288_S48x1x2048 (modRow 1 r) 1 r n hq)
  unfold V
  after_reads_simp
  rfl

theorem sh_apply (r : Fin 16384) (n : Fin 2048) : (V m c main_v18 (ix3 (modRow 0 r) 0 n) : EReal)
    = modAt (m ((c : Thread nD τ).loc main_arg3)) (m ((c : Thread nD τ).loc main_arg4)) 0 r n := by
  have hq : (modRow 0 r).val = rowSeg r * 6 + (0 : Fin 6).val := by
    show (segOf 8 4 (r.val / 1024) * 6 + 0) % 48 = rowSeg r * 6 + 0
    rw [seg_1024]
    unfold rowSeg
    split <;> omega
  refine Eq.trans ?_ (mod_read _ _ (broadcastInDim S5x12288 ![] bcast_S_S5x12288 (constant (F := Idealize.ShloMosaic.Ideal) S_ .f32 0x00000000#32)) bcast_S12288_S1x12288_1 concatenates_S1x12288_S2x12288_S5x12288_S8x12288_d0
    shapeCasts_S8x12288_S48x1x2048 (modRow 0 r) 0 r n hq)
  unfold V
  after_reads_simp
  rfl

theorem h_apply (r : Fin 16384) (n : Fin 2048) : hArr (V m c main_v14) (V m c main_v21) (V m c main_v18) r n
    = modulated (m ((c : Thread nD τ).loc main_arg0)) (m ((c : Thread nD τ).loc main_arg1)) (m ((c : Thread nD τ).loc main_arg2))
        (m ((c : Thread nD τ).loc main_arg3)) (m ((c : Thread nD τ).loc main_arg4)) 1 0 r n :=
  h_eq _ _ _ r n _ _ _ _ (x_apply m c r) (g_apply m c n) (sc_apply m c r n) (sh_apply m c r n)

/-- The product as a function of the arguments. -/
def spec (xp : Vec Ideal SP .f32) (xs : Vec Ideal SS .f32) (g : Vec Ideal S2048 .f32) (mc : Vec Ideal SM1 .f32)
    (ms : Vec Ideal SM2 .f32) (w : Vec Ideal S1x2048x6144 .f32) (r : Fin 16384) (n : Fin 6144) : EReal :=
  ∑ k : Fin 2048, modulated xp xs g mc ms 1 0 r k * weight w k n

theorem z_apply (r : Fin 16384) (n : Fin 6144) : zArr (V m c main_v14) (V m c main_v21) (V m c main_v18) (V m c main_v20) r n
    = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r n :=
  z_eq _ _ _ _ r n _ _ (h_apply m c r) (fun k => w_apply m c k n)

end Cert.OddProj.Ideal

end
-- ==== Proof.Odd.Ref.lean ====
/- The reference's product, read at an index. -/
module

public import proofs.«01_k».proof.Proof.Odd.Args
public import proofs.«01_k».proof.Proof.Gen.OddRefIdeal.Run
public import proofs.«01_k».proof.Proof.Gen.OddRefIdeal.Read

@[expose] public section

set_option maxRecDepth 16384

noncomputable section

namespace Cert.OddProj.Ref

open Idealize.ShloMosaic Idealize.ShloMosaic.TcCoe Cert.OddRefIdeal Cert.OddRefIdeal.Read Cert.Tok
open scoped BigOperators

theorem prompt_apply (xp : Vec Ideal SP .f32) (g : Vec Ideal S2048 .f32) (mc : Vec Ideal SM1 .f32) (a : Fin 32) (b : Fin 256)
    (n : Fin 2048) : (val_main_v26 (F := Ideal) xp g mc (ix3 a b n) : EReal)
      = norm (fun k => xp (ix3 a b k)) (g (ix1 n)) (mc (ix1 ⟨(1 : Fin 6).val * 2048 + n.val, by omega⟩)) (mc (ix1 ⟨(0 : Fin 6).val * 2048 + n.val, by omega⟩)) n := by
  have e0 : (⟨(0 : Fin 6).val * 2048 + n.val, by omega⟩ : Fin 12288) = ⟨n.val, by omega⟩ := Fin.ext (show 0 * 2048 + n.val = n.val by omega)
  have e1 : (⟨(1 : Fin 6).val * 2048 + n.val, by omega⟩ : Fin 12288) = ⟨2048 + n.val, by omega⟩ := Fin.ext (show 1 * 2048 + n.val = 2048 + n.val by omega)
  rw [e0, e1]
  pointwise [val_main_v26, val_main_v25, val_main_v24, val_main_v23, val_main_v22, val_main_v21, val_main_v20, val_main_v19,
    val_main_cst_2, val_main_v18, val_main_v17, val_main_v16, val_main_v15, val_main_v14, val_main_v13, val_main_v12, val_main_v11,
    val_main_cst_1, val_main_v10, val_main_v9, val_main_cst_0, val_main_v8, val_main_v7, val_main_cst, val_main_v6, val_main_v0, val_main_v1]
  rfl

theorem sample_apply (xs : Vec Ideal SS .f32) (g : Vec Ideal S2048 .f32) (ms : Vec Ideal SM2 .f32) (a : Fin 2) (b : Fin 4096)
    (n : Fin 2048) : (val_main_v54 (F := Ideal) xs g ms (ix3 a b n) : EReal)
      = norm (fun k => xs (ix3 a b k)) (g (ix1 n)) (ms (ix2 a ⟨(1 : Fin 6).val * 2048 + n.val, by omega⟩)) (ms (ix2 a ⟨(0 : Fin 6).val * 2048 + n.val, by omega⟩)) n := by
  have e0 : (⟨(0 : Fin 6).val * 2048 + n.val, by omega⟩ : Fin 12288) = ⟨n.val, by omega⟩ := Fin.ext (show 0 * 2048 + n.val = n.val by omega)
  have e1 : (⟨(1 : Fin 6).val * 2048 + n.val, by omega⟩ : Fin 12288) = ⟨2048 + n.val, by omega⟩ := Fin.ext (show 1 * 2048 + n.val = 2048 + n.val by omega)
  rw [e0, e1]
  pointwise [val_main_v54, val_main_v53, val_main_v52, val_main_v51, val_main_v50, val_main_v49, val_main_cst_6, val_main_v48, val_main_v47, val_main_v46,
    val_main_v45, val_main_v44, val_main_v43, val_main_v42, val_main_v41, val_main_cst_5, val_main_v40, val_main_v39, val_main_cst_4, val_main_v38,
    val_main_v37, val_main_cst_3, val_main_v36, val_main_v31, val_main_v30, val_main_v29]
  rfl

theorem prompt_product (xp : Vec Ideal SP .f32) (g : Vec Ideal S2048 .f32) (mc : Vec Ideal SM1 .f32) (w : Vec Ideal S1x2048x6144 .f32)
    (a : Fin 32) (b : Fin 256) (n : Fin 6144) : (val_main_v28 (F := Ideal) xp g mc w (ix3 a b n) : EReal)
      = ∑ k : Fin 2048, val_main_v26 (F := Ideal) xp g mc (ix3 a b k) * w (ix3 0 k n) := by
  pointwise [val_main_v28, val_main_v27]

theorem sample_product (xs : Vec Ideal SS .f32) (g : Vec Ideal S2048 .f32) (ms : Vec Ideal SM2 .f32) (w : Vec Ideal S1x2048x6144 .f32)
    (a : Fin 2) (b : Fin 4096) (n : Fin 6144) : (val_main_v56 (F := Ideal) xs g ms w (ix3 a b n) : EReal)
      = ∑ k : Fin 2048, val_main_v54 (F := Ideal) xs g ms (ix3 a b k) * w (ix3 0 k n) := by
  pointwise [val_main_v56, val_main_v55]

theorem rows_eq (xp : Vec Ideal SP .f32) (xs : Vec Ideal SS .f32) (g : Vec Ideal S2048 .f32)
    (mc : Vec Ideal SM1 .f32) (ms : Vec Ideal SM2 .f32) (w : Vec Ideal S1x2048x6144 .f32) (r : Fin 16384) (n : Fin 6144) :
    (val_main_v59 (F := Ideal) xp xs g mc ms w (ix2 r n) : EReal) = ∑ k : Fin 2048, modulated xp xs g mc ms 1 0 r k * w (ix3 0 k n) := by
  pointwise [val_main_v59, val_main_v57, val_main_v58]
  unfold modulated tok modAt
  by_cases h : r.val < 8192
  · simp only [dif_pos h]
    rw [prompt_product]
    simp only [prompt_apply]
  · simp only [dif_neg h]
    rw [sample_product]
    simp only [sample_apply]

theorem z_eq (xp : Vec Ideal SP .f32) (xs : Vec Ideal SS .f32) (g : Vec Ideal S2048 .f32)
    (mc : Vec Ideal SM1 .f32) (ms : Vec Ideal SM2 .f32) (w : Vec Ideal S1x2048x6144 .f32) (r : Fin 16384) (n : Fin 6144) :
    (val_main_v59 (F := Ideal) xp xs g mc ms w (ix2 r n) : EReal) = Ideal.spec xp xs g mc ms w r n :=
  rows_eq xp xs g mc ms w r n

end Cert.OddProj.Ref

end
-- ==== Proof.Odd.Claims.lean ====
/- The claims about the odd layer's input projection: its frames, and its result against the reference's over the extended reals. -/
module

public import proofs.«01_k».proof.Defs
public import proofs.«01_k».proof.Proof.Odd.Table
public import proofs.«01_k».proof.Proof.Odd.Ref
public import Idealize.ShloMosaic.Lib.Quiescent
public import Idealize.ShloMosaic.Lib.Pipeline.Cells

@[expose] public section

noncomputable section

namespace Cert.OddProj

open Idealize.ShloMosaic Idealize.ShloMosaic.TcCoe Idealize.SL.Sem

theorem frame_kernel : Cert.quiescent_Odd := fun m ρ _ => Cert.OddProjBits.frame m ρ (Bits.ok m)
theorem frame_ideal : Cert.quiescent_OddIdeal := fun m ρ _ => Cert.OddProjIdeal.frame m ρ (Ideal.ok m)
theorem frame_ref : Cert.quiescent_OddRefIdeal := fun m ρ _ =>
  (θ_run Cert.OddRefIdeal.defs _ _).mono (fun r h => ⟨fun c => (h c).2, Idealize.ShloMosaic.sem_eq_zero_of_no_sems (by decide) r.2⟩)
    (Cert.OddRefIdeal.Value.run (F := Idealize.ShloMosaic.Ideal) m ρ)

/-- What the kernel's result is shown to hold. -/
def product (m : (ℓ : Loc Cert.OddIdeal.nD Cert.OddIdeal.τ Cert.OddIdeal.sig) → Buf (Elt Idealize.ShloMosaic.Ideal) ℓ) (c : Dev Cert.OddIdeal.nD) :
    Cert.OddIdeal.S16384x6144.Idx → EReal := fun y =>
  Ideal.spec (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg4)) (m ((c.tc : Thread Cert.OddIdeal.nD Cert.OddIdeal.τ).loc Cert.OddIdeal.main_arg5)) (y 0) (y 1)

/-- The product's array after the run. Only the array of tokens is left unnamed. -/
theorem product_end (m : (ℓ : Loc Cert.OddIdeal.nD Cert.OddIdeal.τ Cert.OddIdeal.sig) → Buf (Elt Idealize.ShloMosaic.Ideal) ℓ) (c : Dev Cert.OddIdeal.nD)
    (f : Buf (Elt Idealize.ShloMosaic.Ideal) ((c.tc : Thread Cert.OddIdeal.nD Cert.OddIdeal.τ).loc Cert.OddIdeal.main_v22_0))
    (h : ((Cert.OddProjIdeal.dats m (Ideal.ok m) 0 c).toRForget Cert.OddProjIdeal.forgets0).ArrAt 5 (Cert.OddProjIdeal.cfgM m (Ideal.ok m)).N f) :
    f = product m c :=
  (((Cert.OddProjIdeal.dats m (Ideal.ok m) 0 c).toRForget_arrAt_iff (w := 5) Cert.OddProjIdeal.forgets0_5 _ f).mp h).trans
    ((Ideal.final_z m c).trans (funext fun y => Ideal.z_apply m c (y 0) (y 1)))

theorem algebraic : Cert.algebraic_OddIdeal_OddRefIdeal := by
  intro m ρ m' ρ' _ hagree
  refine ⟨fun c => product m c, ?_, ?_⟩
  · exact (θ_run Cert.OddIdeal.defs _ _).mono (fun _ h c => ⟨product_end m c _ ((h.1 c).1 5), h.2 c⟩)
      (θ_run_and (Cert.OddProjIdeal.run_main m ρ (Ideal.ok m)) (Cert.OddProjIdeal.unchanged m ρ (Ideal.ok m)))
  · obtain H := Cert.OddRefIdeal.Value.run (F := Idealize.ShloMosaic.Ideal) m' ρ'
    refine (θ_run Cert.OddRefIdeal.defs _ _).mono (fun _ h c => ⟨(h c).1.trans ?_, (h c).2⟩) H
    refine (Cert.OddRefIdeal.Read.val_main_v59_eq _ _ _ _ _ _).trans ?_
    obtain ⟨e0, e1, e2, e3, e4, e5⟩ := hagree c
    rw [e0, e1, e2, e3, e4, e5]
    refine funext fun y : Cert.OddIdeal.S16384x6144.Idx => ?_
    obtain ⟨r, n, rfl⟩ : ∃ (r : Fin 16384) (n : Fin 6144), y = ix2 r n := ⟨y 0, y 1, eq_ix2 y⟩
    exact Ref.z_eq _ _ _ _ _ _ r n

end Cert.OddProj

end
-- ==== Proof.Even.Ideal.Points.lean ====
module

public import proofs.«01_k».proof.Proof.Gen.EvenIdeal
public import Idealize.ShloMosaic.Lib.Pipeline.Kit

/-!
When each window is fetched and written back, point by point of the grid.
-/

@[expose] public section

noncomputable section

namespace Cert.EvenProjIdeal

open Cert.EvenIdeal Cert.EvenIdeal.Gen

open Idealize.ShloMosaic Idealize.ShloMosaic.TcCoe
open Idealize.SL Idealize.SL.Sem

variable {F : FTy → Type} [FloatOps F]

theorem fetch0_0 (a : (pcfg0 (F := F)).Adm) : ∀ t : Fin (cfg0 a).N, ((cfg0 a).win 0).fetch t = true ↔ t.val % 5 = 0 :=
  (fun t => Pipeline.Window.fetchOf_reads cc0_transform_0 reads0_0 hreads0_0 0 (by decide) (by decide) (Pipeline.Window.sep_of_coord cc0_transform_0 0 0 (fun _ => rfl) (by decide)) (P := 5) (by decide) t : ∀ t : Fin grid0.N, Pipeline.Window.fetchOf grid0 false cc0_transform_0 t = true ↔ t.val % 5 = 0)

theorem fetch0_1 (a : (pcfg0 (F := F)).Adm) : ∀ t : Fin (cfg0 a).N, ((cfg0 a).win 1).fetch t = true ↔ t.val % 80 = 0 :=
  (fun t => Pipeline.Window.fetchOf_const cc0_transform_1 (fun _ _ => rfl) (n := 80) (by decide) t : ∀ t : Fin grid0.N, Pipeline.Window.fetchOf grid0 false cc0_transform_1 t = true ↔ t.val % 80 = 0)

theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)

theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

theorem flush0_6 (a : (pcfg0 (F := F)).Adm) : ∀ t : Fin (cfg0 a).N, ((cfg0 a).win 6).flush t = true ↔ t.val % 5 = 4 :=
  (fun t => Pipeline.Window.flushOf_reads cc0_transform_6 reads0_6 hreads0_6 0 (by decide) (by decide) (Pipeline.Window.sep_of_coord cc0_transform_6 0 0 (fun _ => rfl) (by decide)) (P := 5) (m := 4) (by decide) rfl t : ∀ t : Fin grid0.N, Pipeline.Window.flushOf grid0 true cc0_transform_6 t = true ↔ t.val % 5 = 4)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

abbrev bodyAt0 (a : (pcfg0 (F := F)).Adm) (t : Fin (cfg0 a).N) : Prog (TpuEff nD τ sig (Elt F) Λ₀ .tc) PUnit :=
  cc0_norm_mod_matmul (grid0.coords t) (Memref.whole main_v11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)

end Cert.EvenProjIdeal

end
-- ==== Proof.Even.Ideal.Runs.lean ====
module

public import proofs.«01_k».proof.Proof.Gen.EvenIdeal.Launch
public import proofs.«01_k».proof.Proof.Gen.EvenIdeal.Skeleton
public import proofs.«01_k».proof.Proof.Even.Ideal.Points
public import Idealize.ShloMosaic.Lib.Pipeline.FrameBody
public import Idealize.ShloMosaic.Lib.Ring
public import Idealize.ShloMosaic.Lib.Tactic
public import Idealize.ShloMosaic.Lib.WordCmp

/-!
What the runs of the body are stated over: the arrays as the call finds them, the blocks, the condition of the body, the staging buffers and the scratch.
-/

@[expose] public section

set_option maxRecDepth 16384

noncomputable section

namespace Cert.EvenProjIdeal

open Cert.EvenIdeal Cert.EvenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def tbl : pre0.Contents (Elt F) := fun j => V m (0 : Dev nD) (pre0.ref j)

theorem V_pre (c : Dev nD) (j : Fin 1) : V m c (pre0.ref j) = tbl m j := by
  obtain rfl : c = 0 := Subsingleton.elim _ _; rfl

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbM0_0 : Memref sig .tc .smem S16 .i32 := Memref.whole main_v11
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

abbrev cond0_0 (i : grid0.Coords) : Prop := k0_cond1 i = 1#1

theorem hcond0_0 : ∀ t : Fin grid0.N, cond0_0 (grid0.coords t) ↔ t.val % 5 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

theorem liveAt0_0 (hO : Ok m) : ∀ t : Fin (cfgM m hO).N, (cfgM m hO).idle 0 (grid0.coords t) = false :=
  (fun _ => rfl : ∀ t : Fin grid0.N, idle0 0 (grid0.coords t) = false)

theorem liveAt0_1 (hO : Ok m) : ∀ t : Fin (cfgM m hO).N, (cfgM m hO).idle 1 (grid0.coords t) = false :=
  (fun _ => rfl : ∀ t : Fin grid0.N, idle0 1 (grid0.coords t) = false)

theorem liveAt0_2 (hO : Ok m) : ∀ t : Fin (cfgM m hO).N, (cfgM m hO).idle 2 (grid0.coords t) = false :=
  (fun _ => rfl : ∀ t : Fin grid0.N, idle0 2 (grid0.coords t) = false)

theorem liveAt0_3 (hO : Ok m) : ∀ t : Fin (cfgM m hO).N, (cfgM m hO).idle 3 (grid0.coords t) = false :=
  (fun _ => rfl : ∀ t : Fin grid0.N, idle0 3 (grid0.coords t) = false)

theorem liveAt0_4 (hO : Ok m) : ∀ t : Fin (cfgM m hO).N, (cfgM m hO).idle 4 (grid0.coords t) = false :=
  (fun _ => rfl : ∀ t : Fin grid0.N, idle0 4 (grid0.coords t) = false)

theorem liveAt0_5 (hO : Ok m) : ∀ t : Fin (cfgM m hO).N, (cfgM m hO).idle 5 (grid0.coords t) = false :=
  (fun _ => rfl : ∀ t : Fin grid0.N, idle0 5 (grid0.coords t) = false)

abbrev VO0_5 : View sig .tc .vmem S1024x1024 .f32 := (Memref.whole cc0_stg5_0 : Memref sig .tc .vmem S1024x1024 .f32).view

abbrev ms0_0 (hO : Ok m) (t : Fin (cfgM m hO).N) : Memref sig .tc .vmem S1024x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2048x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1024x2048 .bf16 := spec0_6.stage ((cfgM m hO).slots t 6)
abbrev hs0_6 (hO : Ok m) (t : Fin (cfgM m hO).N) : (ms0_6 m hO t).IsWhole := hstage0_6 (((cfgM m hO).slots t 6).cast nbuf0_6)

abbrev scM0_0 : Memref sig .tc .vmem S1024x2048 .bf16 := Memref.whole cc0_scratch0

abbrev VS0_0 : View sig .tc .vmem S1024x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.EvenProjIdeal

end
-- ==== Proof.Even.Ideal.RunA.lean ====
module

public import proofs.«01_k».proof.Proof.Even.Ideal.Runs

/-!
The run of the body at the first column tile of a row tile, where the modulated tokens are computed and kept.
-/

@[expose] public section

set_option maxRecDepth 16384

noncomputable section

namespace Cert.EvenProjIdeal

open Cert.EvenIdeal Cert.EvenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) :
    Σ' (L5 : List (View.Piece (Elt F) S1024x1024 .f32)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ f, arg10.view.loc (c : Thread nD τ) ↦[arg10.view.set]{fullShare} arg10.view.writes (Elt F) f LS0) ∗ tbPt0 c tbM0_0 xt0) -∗ K ⟨⟩))
          ⊢ wp frame (wpE (defs₀ (F := F)) Variants.none c none) E (cc0_norm_mod_matmul i tbM0_0 htbM0_0 arg3 harg3 arg4 harg4 arg5 harg5 arg6 harg6 arg7 harg7 arg8 harg8 arg9 harg9 arg10 harg10) K } := by
  refine ⟨?_, ?_, fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _, _; isplitr; swap; · iexact H6
      ipureintro; rfl
    isplitl [HS0]; · iexists _; iexact HS0
    iexact HT0

end Cert.EvenProjIdeal

end
-- ==== Proof.Even.Ideal.RunB.lean ====
module

public import proofs.«01_k».proof.Proof.Even.Ideal.RunA

/-!
The run of the body at a later column tile, where the modulated tokens kept in the scratch are used.
-/

@[expose] public section

set_option maxRecDepth 16384

noncomputable section

namespace Cert.EvenProjIdeal

open Cert.EvenIdeal Cert.EvenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_B (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (xs0 : Vec F S1024x2048 .bf16) :
    Σ' (L5 : List (View.Piece (Elt F) S1024x1024 .f32)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ owns (c : Thread nD τ) arg10 fullShare xs0 ∗ tbPt0 c tbM0_0 xt0) -∗ K ⟨⟩))
          ⊢ wp frame (wpE (defs₀ (F := F)) Variants.none c none) E (cc0_norm_mod_matmul i tbM0_0 htbM0_0 arg3 harg3 arg4 harg4 arg5 harg5 arg6 harg6 arg7 harg7 arg8 harg8 arg9 harg9 arg10 harg10) K } := by
  refine ⟨?_, [], fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _, _; isplitr; swap; · iexact H6
      ipureintro; rfl
    isplitl [HS0]
    · iexists _; isplitr; · ipureintro; exact harg10.read_unread _
      iexact HS0
    iexact HT0

end Cert.EvenProjIdeal

end
-- ==== Proof.Even.Ideal.Frame.lean ====
module

public import proofs.«01_k».proof.Proof.Even.Ideal.RunB
public import Idealize.ShloMosaic.Lib.Claim

/-!
The frame of the call: what each point leaves in the product's buffer and in the scratch, the obligation of the body, and the run of the whole program.
Of the tokens that the call writes back nothing is named, as the program does not return them.
-/

@[expose] public section

set_option maxRecDepth 16384

noncomputable section

namespace Cert.EvenProjIdeal

open Cert.EvenIdeal Cert.EvenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (y : S1024x1024.Idx) :
    ∃ pc ∈ (kernelRun0_A c i arg3 harg3 arg4 harg4 arg5 harg5 arg6 harg6 arg7 harg7 arg8 harg8 arg9 harg9 arg10 harg10 hc0 x0 x1 x2 x3 x4 xt0).1, y ∈ pc.1.set :=
  View.cover_of_tiledL (kernelRun0_A c i arg3 harg3 arg4 harg4 arg5 harg5 arg6 harg6 arg7 harg7 arg8 harg8 arg9 harg9 arg10 harg10 hc0 x0 x1 x2 x3 x4 xt0).1 S1024x1024.size (by sl_kernel_rfl) y

def out0_A_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) : Vec F S1024x1024 .f32 :=
  VO0_5.read (Elt F) (VO0_5.writes (Elt F) VO0_5.junk (kernelRun0_A c i arg3 harg3 arg4 harg4 arg5 harg5 arg6 harg6 arg7 harg7 arg8 harg8 arg9 harg9 arg10 harg10 hc0 x0 x1 x2 x3 x4 xt0).1)

theorem scover0_A_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (y : S1024x2048.Idx) :
    ∃ pc ∈ (kernelRun0_A c i arg3 harg3 arg4 harg4 arg5 harg5 arg6 harg6 arg7 harg7 arg8 harg8 arg9 harg9 arg10 harg10 hc0 x0 x1 x2 x3 x4 xt0).2.1, y ∈ pc.1.set :=
  View.cover_of_tiledL (kernelRun0_A c i arg3 harg3 arg4 harg4 arg5 harg5 arg6 harg6 arg7 harg7 arg8 harg8 arg9 harg9 arg10 harg10 hc0 x0 x1 x2 x3 x4 xt0).2.1 S1024x2048.size (by sl_kernel_rfl) y

def sout0_A_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) : Vec F S1024x2048 .bf16 :=
  VS0_0.read (Elt F) (VS0_0.writes (Elt F) VS0_0.junk (kernelRun0_A c i arg3 harg3 arg4 harg4 arg5 harg5 arg6 harg6 arg7 harg7 arg8 harg8 arg9 harg9 arg10 harg10 hc0 x0 x1 x2 x3 x4 xt0).2.1)

theorem cover0_B_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (xs0 : Vec F S1024x2048 .bf16) (y : S1024x1024.Idx) :
    ∃ pc ∈ (kernelRun0_B c i arg3 harg3 arg4 harg4 arg5 harg5 arg6 harg6 arg7 harg7 arg8 harg8 arg9 harg9 arg10 harg10 hc0 x0 x1 x2 x3 x4 xt0 xs0).1, y ∈ pc.1.set :=
  View.cover_of_tiledL (kernelRun0_B c i arg3 harg3 arg4 harg4 arg5 harg5 arg6 harg6 arg7 harg7 arg8 harg8 arg9 harg9 arg10 harg10 hc0 x0 x1 x2 x3 x4 xt0 xs0).1 S1024x1024.size (by sl_kernel_rfl) y

def out0_B_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (xs0 : Vec F S1024x2048 .bf16) : Vec F S1024x1024 .f32 :=
  VO0_5.read (Elt F) (VO0_5.writes (Elt F) VO0_5.junk (kernelRun0_B c i arg3 harg3 arg4 harg4 arg5 harg5 arg6 harg6 arg7 harg7 arg8 harg8 arg9 harg9 arg10 harg10 hc0 x0 x1 x2 x3 x4 xt0 xs0).1)

def sout0_B_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (xt0 : TbBuf0 (F := F) c tbM0_0) (xs0 : Vec F S1024x2048 .bf16) : Vec F S1024x2048 .bf16 := xs0

/-- What the body leaves, in the product's buffer and in the scratch, at the first column tile of a row tile. -/
def leftA (hO : Ok m) (c : Dev nD) (t : Fin (cfgM m hO).N) (h0 : t.val % 5 = 0) : Vec F S1024x1024 .f32 × Vec F S1024x2048 .bf16 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (iblk m hO c 0 t) (iblk m hO c 1 t) (iblk m hO c 2 t) (iblk m hO c 3 t) (iblk m hO c 4 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (iblk m hO c 0 t) (iblk m hO c 1 t) (iblk m hO c 2 t) (iblk m hO c 3 t) (iblk m hO c 4 t) (tbl m 0))

/-- What the body leaves at a later column tile, from what the scratch holds. -/
def leftB (hO : Ok m) (c : Dev nD) (t : Fin (cfgM m hO).N) (h0 : ¬t.val % 5 = 0) (xs : Vec F S1024x2048 .bf16) : Vec F S1024x1024 .f32 × Vec F S1024x2048 .bf16 :=
  (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) (iblk m hO c 0 t) (iblk m hO c 1 t) (iblk m hO c 2 t) (iblk m hO c 3 t) (iblk m hO c 4 t) (tbl m 0) xs, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) (iblk m hO c 0 t) (iblk m hO c 1 t) (iblk m hO c 2 t) (iblk m hO c 3 t) (iblk m hO c 4 t) (tbl m 0) xs)

/-- What the body leaves, point by point. -/
def outsAt0 (hO : Ok m) (c : Dev nD) : (n : ℕ) → n < (cfgM m hO).N → Vec F S1024x1024 .f32 × Vec F S1024x2048 .bf16
  | 0, hn => leftA m hO c ⟨0, hn⟩ (Nat.zero_mod _)
  | n + 1, hn =>
    if h0 : (n + 1) % 5 = 0 then leftA m hO c ⟨n + 1, hn⟩ h0
    else leftB m hO c ⟨n + 1, hn⟩ h0 (outsAt0 hO c n (Nat.lt_of_succ_lt hn)).2

theorem outsAt0_succ (hO : Ok m) (c : Dev nD) (n : ℕ) (hn : n + 1 < (cfgM m hO).N) :
    outsAt0 m hO c (n + 1) hn = if h0 : (n + 1) % 5 = 0 then leftA m hO c ⟨n + 1, hn⟩ h0
      else leftB m hO c ⟨n + 1, hn⟩ h0 (outsAt0 m hO c n (Nat.lt_of_succ_lt hn)).2 := by
  rw [outsAt0]

theorem outsAt0_A (hO : Ok m) (c : Dev nD) (t : Fin (cfgM m hO).N) (h0 : t.val % 5 = 0) :
    outsAt0 m hO c t.val t.isLt = leftA m hO c t h0 := by
  obtain ⟨n, hn⟩ := t
  cases n with
  | zero => rw [outsAt0]
  | succ n =>
    rw [outsAt0_succ]
    exact dif_pos h0

theorem outsAt0_B (hO : Ok m) (c : Dev nD) (t : Fin (cfgM m hO).N) (h0 : ¬t.val % 5 = 0) :
    outsAt0 m hO c t.val t.isLt = leftB m hO c t h0 (outsAt0 m hO c (t.val - 1) (Nat.lt_of_le_of_lt (Nat.sub_le _ _) t.isLt)).2 := by
  obtain ⟨n, hn⟩ := t
  cases n with
  | zero => exact absurd (Nat.zero_mod _) h0
  | succ n =>
    rw [outsAt0_succ]
    exact dif_neg h0

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

def forgets0 : Fin 7 → Bool := fun w => w.val == 6
theorem forgets0_5 : forgets0 (5 : Fin 7) = false := by decide

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
    | ⟨6, h⟩ => Pipeline.Dat.unnamed (cfg := (cfgM m hO)) ⟨6, h⟩ t
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (∃ d, owns (c : Thread nD τ) (ms0_6 m hO t) fullShare d))

set_option maxHeartbeats 6400000 in

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 80 := lt_of_lt_of_eq t.isLt (show (cfgM m hO).N = 80 from N_0)
  by_cases h0 : t.val % 5 = 0
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    by_cases hz : t.val = 0
    · rw [PhiS_castSucc m hO c t, PhiS_zero m hO c _ _ hz, PhiT0_eq, PhiA0_eq]
      rw [outsAt0_A m hO c t h0]
      unfold leftA
      unfold out0_A_5 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m hO c 0 t) (iblk m hO c 1 t) (iblk m hO c 2 t) (iblk m hO c 3 t) (iblk m hO c 4 t) (tbl m 0)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HT0]; · iexact HT0
      iintro ⟨H0, H1, H2, H3, H4, ⟨%e5, H5⟩, H6, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexact H6
    · rw [PhiS_castSucc m hO c t, PhiS_pos m hO c _ _ hz, PhiT0_eq]
      rw [outsAt0_A m hO c t h0]
      unfold leftA
      unfold out0_A_5 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m hO c 0 t) (iblk m hO c 1 t) (iblk m hO c 2 t) (iblk m hO c 3 t) (iblk m hO c 4 t) (tbl m 0)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      isplitl [HT0]; · iexact HT0
      iintro ⟨H0, H1, H2, H3, H4, ⟨%e5, H5⟩, H6, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexact H6
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    by_cases hz : t.val = 0
    · exfalso; have hN : t.val < 80 := lt_of_lt_of_eq t.isLt (show (cfgM m hO).N = 80 from N_0); omega
    · rw [PhiS_castSucc m hO c t, PhiS_pos m hO c _ _ hz, PhiT0_eq]
      rw [outsAt0_B m hO c t h0]
      unfold leftB
      unfold out0_B_5 sout0_B_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m hO c 0 t) (iblk m hO c 1 t) (iblk m hO c 2 t) (iblk m hO c 3 t) (iblk m hO c 4 t) (tbl m 0) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HT0]; · iexact HT0
      iintro ⟨H0, H1, H2, H3, H4, ⟨%e5, H5⟩, H6, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      iexact H6

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 80 := N_0; omega)

set_option backward.isDefEq.respectTransparency.types false in

theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget_shared (Q' := _) pcfgs (fun _ => adm m hO) (dats m hO) (0 : Fin 1) launch₀0 defs₀ Variants.none forgets0 m ρ main
    (hbody := fun c => (body_obligation m hO c).loose) (hq := fun _ _ _ => rfl)
    (howed := fun _ _ => rfl) (V := V m) (hmain := hmain m Variants.none) (hA := A_eq m hO) (hpf := V_pre m) (hin := hin m hO) (hout := hout m hO)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO 0 c).toRForget forgets0) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.EvenProjIdeal

end
-- ==== Proof.Even.TableIdeal.lean ====
/- The table of segments, as the host computes it. -/
module

public import proofs.«01_k».proof.Proof.Even.Ideal.Frame
public import proofs.«01_k».proof.Proof.Seg
public import Idealize.ShloMosaic.Lib.StableHlo.ReadAt
public import Idealize.ShloMosaic.Lib.Pointwise
public import Idealize.ShloMosaic.Lib.Pipeline.ValueKit.Geometry

@[expose] public section

set_option maxRecDepth 16384

noncomputable section

namespace Cert.EvenProj.Ideal

open Idealize.ShloMosaic Idealize.ShloMosaic.TcCoe Cert.EvenIdeal Cert.EvenIdeal.Gen Cert.EvenProjIdeal Cert.Seg

variable {F : FTy → Type} [FloatOps F] (m : (ℓ : Loc nD τ sig) → Buf (Elt F) ℓ) (c : Dev nD)

theorem table_apply (i : Fin 16) : (V m c main_v11 (ix1 i) : BitVec 32) = BitVec.ofNat 32 (segOf 8 4 i) := by
  unfold V
  after_reads_at
  simp only [id, constantI]
  exact segWord_1024 i

theorem word_apply (i : grid0.Coords) :
    (tbl m).at 0 (Rect.unit (s := S16) (k0_off1 i) S1.size (k0_off1_inb i)) numel1_S1 = BitVec.ofNat 32 (segOf 8 4 (i 0)) := by
  refine Eq.trans ?_ (table_apply m 0 (i 0))
  refine congrArg (V m 0 main_v11) (funext fun (a : Fin 1) => ?_)
  obtain rfl : a = 0 := Subsingleton.elim _ _
  exact Fin.ext (coord_word 16 (by decide) (i 0))

theorem index_sc (i : grid0.Coords) :
    cc0_transform_2 k0_off1_inb numel1_S1 (tbl m) i = ![segOf 8 4 (i 0) * 6 + 1, 0, 0] := by
  have e : cc0_transform_2 k0_off1_inb numel1_S1 (tbl m) i
      = ![(Scalar.addi (Scalar.muli ((tbl m).at 0 (Rect.unit (s := S16) (k0_off1 i) S1.size (k0_off1_inb i)) numel1_S1) 6#32) 1#32).toNat, 0, 0] := rfl
  rw [e, word_apply]
  have key : ∀ a : Fin 16, (![(Scalar.addi (Scalar.muli (BitVec.ofNat 32 (segOf 8 4 a)) 6#32) 1#32).toNat, (0#32 : BitVec 32).toNat, (0#32 : BitVec 32).toNat] : Fin 3 → Nat) = ![segOf 8 4 a * 6 + 1, 0, 0] := by
    decide +kernel
  exact key (i 0)

theorem index_sh (i : grid0.Coords) :
    cc0_transform_3 k0_off1_inb numel1_S1 (tbl m) i = ![segOf 8 4 (i 0) * 6 + 0, 0, 0] := by
  have e : cc0_transform_3 k0_off1_inb numel1_S1 (tbl m) i
      = ![(Scalar.addi (Scalar.muli ((tbl m).at 0 (Rect.unit (s := S16) (k0_off1 i) S1.size (k0_off1_inb i)) numel1_S1) 6#32) 0#32).toNat, 0, 0] := rfl
  rw [e, word_apply]
  have key : ∀ a : Fin 16, (![(Scalar.addi (Scalar.muli (BitVec.ofNat 32 (segOf 8 4 a)) 6#32) 0#32).toNat, (0#32 : BitVec 32).toNat, (0#32 : BitVec 32).toNat] : Fin 3 → Nat) = ![segOf 8 4 a * 6 + 0, 0, 0] := by
    decide +kernel
  exact key (i 0)

/-- The blocks that the table chooses lie in the array of modulations. -/
theorem ok : Ok m :=
  ⟨fun i => ⟨by
    rw [index_sc]
    have key : ∀ (a : Fin 16), ∀ x, ((![segOf 8 4 a * 6 + 1, 0, 0] : Fin 3 → Nat) x + 1) * S1x1x2048.size x ≤ S48x1x2048.size x := by
      decide +kernel
    exact key (i 0), .inl rfl⟩,
   fun i => ⟨by
    rw [index_sh]
    have key : ∀ (a : Fin 16), ∀ x, ((![segOf 8 4 a * 6 + 0, 0, 0] : Fin 3 → Nat) x + 1) * S1x1x2048.size x ≤ S48x1x2048.size x := by
      decide +kernel
    exact key (i 0), .inl rfl⟩⟩

end Cert.EvenProj.Ideal

end
-- ==== Proof.Even.Block.lean ====
/- What each grid point leaves in the scratch and in its block of the product, and from it the whole product. -/
module

public import proofs.«01_k».proof.Proof.Even.TableIdeal
public import proofs.«01_k».proof.Proof.Tok
public import Idealize.ShloMosaic.Lib.Pipeline.ValueKit.Geometry
public import Idealize.ShloMosaic.Lib.Pipeline.ValueKit.Tiles
public import Idealize.ShloMosaic.Lib.Pipeline.ValueKit.Acc
public import Idealize.ShloMosaic.Lib.Pipeline.ReadBack

@[expose] public section

set_option maxRecDepth 16384

noncomputable section

namespace Cert.EvenProj.Ideal

open Idealize.ShloMosaic Idealize.ShloMosaic.TcCoe Cert.EvenIdeal Cert.EvenIdeal.Gen Cert.EvenProjIdeal Cert.Seg Cert.Tok
open scoped BigOperators

theorem pay1_apply (x : Vec Ideal S1024x2048 .f32) (g : Vec Ideal S1x2048 .f32) (sc sh : Vec Ideal S1x1x2048 .f32)
    (r : Fin 1024) (n : Fin 2048) :
    (k0_pay1 x g sc sh (ix2 r n) : EReal)
      = norm (fun k => x (ix2 r k)) (g (ix2 0 n)) (sc (ix3 0 0 n)) (sh (ix3 0 0 n)) n := by
  pointwise [k0_pay1]
  rfl

theorem pay2_apply (x : Vec Ideal S1024x2048 .f32) (g : Vec Ideal S1x2048 .f32) (sc sh : Vec Ideal S1x1x2048 .f32)
    (r : Fin 1024) (n : Fin 2048) :
    (k0_pay2 x g sc sh (ix2 r n) : EReal) = k0_pay1 x g sc sh (ix2 r n) := by
  pointwise [k0_pay2]

theorem pay3_apply (h : Vec Ideal S1024x2048 .bf16) (w : Vec Ideal S2048x1024 .bf16) (r n : Fin 1024) :
    (k0_pay3 h w (ix2 r n) : EReal) = ∑ k : Fin 2048, h (ix2 r k) * w (ix2 k n) := by
  pointwise [k0_pay3]

theorem pay2_congr {a a' : Vec Ideal S1024x2048 .f32} {b b' : Vec Ideal S1x2048 .f32} {c c' d d' : Vec Ideal S1x1x2048 .f32}
    (ha : a = a') (hb : b = b') (hc : c = c') (hd : d = d') : k0_pay2 a b c d = k0_pay2 a' b' c' d' := by
  subst ha hb hc hd; rfl

theorem pay3_congr {a a' : Vec Ideal S1024x2048 .bf16} {b b' : Vec Ideal S2048x1024 .bf16} (ha : a = a') (hb : b = b') :
    k0_pay3 a b = k0_pay3 a' b' := by subst ha hb; rfl

theorem eta2 (y : S1024x1024.Idx) : y = ix2 (y 0) (y 1) := funext fun (a : Fin 2) => match a with | 0 => rfl | 1 => rfl

/-- A row of the modulations. -/
def modRow (p : Nat) (r : Fin 16384) : Fin 48 := ⟨(segOf 8 4 (r.val / 1024) * 6 + p) % 48, Nat.mod_lt _ (by decide)⟩

/-- The modulated tokens as a function of the arrays that the windows are blocks of. -/
def hArr (X : Vec Ideal S16384x2048 .f32) (G : Vec Ideal S1x2048 .f32) (M : Vec Ideal S48x1x2048 .f32) (r : Fin 16384) (n : Fin 2048) : EReal :=
  norm (fun k => X (ix2 r k)) (G (ix2 0 n)) (M (ix3 (modRow 1 r) 0 n)) (M (ix3 (modRow 0 r) 0 n)) n

/-- The whole product. -/
def zArr (X : Vec Ideal S16384x2048 .f32) (G : Vec Ideal S1x2048 .f32) (M : Vec Ideal S48x1x2048 .f32) (W : Vec Ideal S2048x5120 .bf16)
    (r : Fin 16384) (n : Fin 5120) : EReal := ∑ k : Fin 2048, hArr X G M r k * W (ix2 k n)

theorem point_h (X : Vec Ideal S16384x2048 .f32) (G : Vec Ideal S1x2048 .f32) (M : Vec Ideal S48x1x2048 .f32)
    (x : Vec Ideal S1024x2048 .f32) (g : Vec Ideal S1x2048 .f32) (sc sh : Vec Ideal S1x1x2048 .f32) (q : Fin 16384) (r : Fin 1024)
    (hx : ∀ k, x (ix2 r k) = X (ix2 q k)) (hg : ∀ n, g (ix2 0 n) = G (ix2 0 n)) (hsc : ∀ n, sc (ix3 0 0 n) = M (ix3 (modRow 1 q) 0 n))
    (hsh : ∀ n, sh (ix3 0 0 n) = M (ix3 (modRow 0 q) 0 n)) (n : Fin 2048) :
    (k0_pay2 x g sc sh (ix2 r n) : EReal) = hArr X G M q n := by
  rw [pay2_apply, pay1_apply, hg, hsc, hsh]
  simp only [hx]
  rfl

theorem point_z (X : Vec Ideal S16384x2048 .f32) (G : Vec Ideal S1x2048 .f32) (M : Vec Ideal S48x1x2048 .f32)
    (W : Vec Ideal S2048x5120 .bf16) (h : Vec Ideal S1024x2048 .bf16) (w : Vec Ideal S2048x1024 .bf16) (q : Fin 16384) (p : Fin 5120)
    (r n : Fin 1024) (hh : ∀ k, h (ix2 r k) = hArr X G M q k) (hw : ∀ k, w (ix2 k n) = W (ix2 k p)) :
    (k0_pay3 h w (ix2 r n) : EReal) = zArr X G M W q p := by
  rw [pay3_apply]
  simp only [hw, hh]
  rfl

section Array
variable (m : (ℓ : Loc nD τ sig) → Buf (Elt Ideal) ℓ)

theorem index_x : ∀ t : Fin grid0.N, cc0_transform_0 (grid0.coords t) = ![t.val / 5, 0] := by decide +kernel
theorem index_g : ∀ t : Fin grid0.N, cc0_transform_1 (grid0.coords t) = ![0, 0] := by decide +kernel
theorem index_w : ∀ t : Fin grid0.N, cc0_transform_4 (grid0.coords t) = ![0, t.val % 5] := by decide +kernel
theorem index_z : ∀ t : Fin grid0.N, cc0_transform_5 (grid0.coords t) = ![t.val / 5, t.val % 5] := by decide +kernel
theorem coord_row : ∀ t : Fin grid0.N, ((grid0.coords t) 0).val = t.val / 5 := by decide +kernel

theorem lt_N (t : Fin grid0.N) : t.val < 80 := t.isLt

/-- The row of the whole array that row `r` of the block of point `t` is. -/
def rowOf (t : Fin grid0.N) (r : Fin 1024) : Fin 16384 := ⟨t.val / 5 * 1024 + r.val, by have := lt_N t; omega⟩

/-- The column of the whole array that column `n` of the block of point `t` is. -/
def colOf (t : Fin grid0.N) (n : Fin 1024) : Fin 5120 := ⟨t.val % 5 * 1024 + n.val, by omega⟩

theorem seg_row (t : Fin grid0.N) (r : Fin 1024) (p : Nat) (hp : p < 6) :
    (modRow p (rowOf t r)).val = segOf 8 4 (t.val / 5) * 6 + p := by
  have h := lt_N t
  have e : (rowOf t r).val / 1024 = t.val / 5 := by show (t.val / 5 * 1024 + r.val) / 1024 = _; omega
  show (segOf 8 4 ((rowOf t r).val / 1024) * 6 + p) % 48 = _
  rw [e, Nat.mod_eq_of_lt]
  unfold segOf
  split <;> omega

theorem emb_x (t : Fin grid0.N) (r : Fin 1024) (n : Fin 2048) :
    (((cfgM m (ok m)).win 0).blk t).view.emb (ix2 r n) = ix2 (rowOf t r) n := by
  refine funext fun (a : Fin 2) => Fin.ext ?_
  match a with
  | 0 => show cc0_transform_0 (grid0.coords t) 0 * 1024 + 1 * r.val = t.val / 5 * 1024 + r.val
         rw [index_x]; show t.val / 5 * 1024 + 1 * r.val = _; omega
  | 1 => show cc0_transform_0 (grid0.coords t) 1 * 2048 + 1 * n.val = n.val
         rw [index_x]; show 0 * 2048 + 1 * n.val = _; omega

theorem emb_z (t : Fin grid0.N) (r n : Fin 1024) :
    (((cfgM m (ok m)).win 5).blk t).view.emb (ix2 r n) = ix2 (rowOf t r) (colOf t n) := by
  refine funext fun (a : Fin 2) => Fin.ext ?_
  match a with
  | 0 => show cc0_transform_5 (grid0.coords t) 0 * 1024 + 1 * r.val = t.val / 5 * 1024 + r.val
         rw [index_z]; show t.val / 5 * 1024 + 1 * r.val = _; omega
  | 1 => show cc0_transform_5 (grid0.coords t) 1 * 1024 + 1 * n.val = t.val % 5 * 1024 + n.val
         rw [index_z]; show t.val % 5 * 1024 + 1 * n.val = _; omega

theorem emb_g (t : Fin grid0.N) (n : Fin 2048) :
    (((cfgM m (ok m)).win 1).blk t).view.emb (ix2 0 n) = ix2 0 n := by
  refine funext fun (a : Fin 2) => Fin.ext ?_
  match a with
  | 0 => show cc0_transform_1 (grid0.coords t) 0 * 1 + 1 * 0 = 0
         rw [index_g]; rfl
  | 1 => show cc0_transform_1 (grid0.coords t) 1 * 2048 + 1 * n.val = n.val
         rw [index_g]; show 0 * 2048 + 1 * n.val = _; omega

theorem emb_w (t : Fin grid0.N) (k : Fin 2048) (n : Fin 1024) :
    (((cfgM m (ok m)).win 4).blk t).view.emb (ix2 k n) = ix2 k (colOf t n) := by
  refine funext fun (a : Fin 2) => Fin.ext ?_
  match a with
  | 0 => show cc0_transform_4 (grid0.coords t) 0 * 2048 + 1 * k.val = k.val
         rw [index_w]; show 0 * 2048 + 1 * k.val = _; omega
  | 1 => show cc0_transform_4 (grid0.coords t) 1 * 1024 + 1 * n.val = t.val % 5 * 1024 + n.val
         rw [index_w]; show t.val % 5 * 1024 + 1 * n.val = _; omega

theorem emb_sc (t : Fin grid0.N) (r : Fin 1024) (n : Fin 2048) :
    (((cfgM m (ok m)).win 2).blk t).view.emb (ix3 0 0 n) = ix3 (modRow 1 (rowOf t r)) 0 n := by
  refine funext fun (a : Fin 3) => Fin.ext ?_
  match a with
  | 0 => show cc0_transform_2 k0_off1_inb numel1_S1 (tbl m) (grid0.coords t) 0 * 1 + 1 * 0 = (modRow 1 (rowOf t r)).val
         rw [index_sc, seg_row t r 1 (by decide), ← coord_row t]; show (segOf 8 4 ((grid0.coords t) 0).val * 6 + 1) * 1 + 1 * 0 = _; omega
  | 1 => show cc0_transform_2 k0_off1_inb numel1_S1 (tbl m) (grid0.coords t) 1 * 1 + 1 * 0 = 0
         rw [index_sc]; rfl
  | 2 => show cc0_transform_2 k0_off1_inb numel1_S1 (tbl m) (grid0.coords t) 2 * 2048 + 1 * n.val = n.val
         rw [index_sc]; show 0 * 2048 + 1 * n.val = _; omega

theorem emb_sh (t : Fin grid0.N) (r : Fin 1024) (n : Fin 2048) :
    (((cfgM m (ok m)).win 3).blk t).view.emb (ix3 0 0 n) = ix3 (modRow 0 (rowOf t r)) 0 n := by
  refine funext fun (a : Fin 3) => Fin.ext ?_
  match a with
  | 0 => show cc0_transform_3 k0_off1_inb numel1_S1 (tbl m) (grid0.coords t) 0 * 1 + 1 * 0 = (modRow 0 (rowOf t r)).val
         rw [index_sh, seg_row t r 0 (by decide), ← coord_row t]; show (segOf 8 4 ((grid0.coords t) 0).val * 6 + 0) * 1 + 1 * 0 = _; omega
  | 1 => show cc0_transform_3 k0_off1_inb numel1_S1 (tbl m) (grid0.coords t) 1 * 1 + 1 * 0 = 0
         rw [index_sh]; rfl
  | 2 => show cc0_transform_3 k0_off1_inb numel1_S1 (tbl m) (grid0.coords t) 2 * 2048 + 1 * n.val = n.val
         rw [index_sh]; show 0 * 2048 + 1 * n.val = _; omega

theorem covers_z : ((cfgM m (ok m)).win 5).Covers := by
  refine ⟨(by decide : ∀ a : Fin 2, 0 < S1024x1024.size a), fun β => ?_⟩
  have h0 : (β (0 : Fin 2)).val < 16 := Nat.lt_of_lt_of_eq (β (0 : Fin 2)).isLt (show (16384 + 1024 - 1) / 1024 = 16 by decide)
  have h1 : (β (1 : Fin 2)).val < 5 := Nat.lt_of_lt_of_eq (β (1 : Fin 2)).isLt (show (5120 + 1024 - 1) / 1024 = 5 by decide)
  have hN : (β (0 : Fin 2)).val * 5 + (β (1 : Fin 2)).val < 80 := by omega
  refine ⟨(⟨(β (0 : Fin 2)).val * 5 + (β (1 : Fin 2)).val, hN⟩ : Fin grid0.N), flush0_5 _ _, fun (a : Fin 2) => ⟨?_, Or.inl rfl⟩⟩
  match a with
  | 0 => show cc0_transform_5 (grid0.coords _) 0 = _
         rw [index_z]; show ((β (0 : Fin 2)).val * 5 + (β (1 : Fin 2)).val) / 5 = (β (0 : Fin 2)).val; omega
  | 1 => show cc0_transform_5 (grid0.coords _) 1 = _
         rw [index_z]; show ((β (0 : Fin 2)).val * 5 + (β (1 : Fin 2)).val) % 5 = (β (1 : Fin 2)).val; omega

theorem blk_x (c : Dev nD) (t : Fin grid0.N) (r : Fin 1024) (k : Fin 2048) :
    (iblk m (ok m) c 0 t : Vec Ideal S1024x2048 .f32) (ix2 r k) = V m c main_v21 (ix2 (rowOf t r) k) := by
  rw [← emb_x m t r k]; rfl

theorem blk_g (c : Dev nD) (t : Fin grid0.N) (n : Fin 2048) :
    (iblk m (ok m) c 1 t : Vec Ideal S1x2048 .f32) (ix2 0 n) = V m c main_v26 (ix2 0 n) := by
  conv_rhs => rw [← emb_g m t n]
  rfl

theorem blk_sc (c : Dev nD) (t : Fin grid0.N) (r : Fin 1024) (n : Fin 2048) :
    (iblk m (ok m) c 2 t : Vec Ideal S1x1x2048 .f32) (ix3 0 0 n) = V m c main_v25 (ix3 (modRow 1 (rowOf t r)) 0 n) := by
  rw [← emb_sc m t r n]; rfl

theorem blk_sh (c : Dev nD) (t : Fin grid0.N) (r : Fin 1024) (n : Fin 2048) :
    (iblk m (ok m) c 3 t : Vec Ideal S1x1x2048 .f32) (ix3 0 0 n) = V m c main_v25 (ix3 (modRow 0 (rowOf t r)) 0 n) := by
  rw [← emb_sh m t r n]; rfl

theorem blk_w (c : Dev nD) (t : Fin grid0.N) (k : Fin 2048) (n : Fin 1024) :
    (iblk m (ok m) c 4 t : Vec Ideal S2048x1024 .bf16) (ix2 k n) = V m c main_v18 (ix2 k (colOf t n)) := by
  rw [← emb_w m t k n]; rfl

theorem leftA_scratch (c : Dev nD) (t : Fin grid0.N) (h0 : t.val % 5 = 0) (y : S1024x2048.Idx) :
    (leftA m (ok m) c t h0).2 y
      = k0_pay2 (F := Ideal) (iblk m (ok m) c 0 t) (iblk m (ok m) c 1 t) (iblk m (ok m) c 2 t) (iblk m (ok m) c 3 t) y := by
  unfold leftA
  frame_out
  exact congrFun (pay2_congr (Memref.IsWhole.read_unread _ _) (Memref.IsWhole.read_unread _ _) (Memref.IsWhole.read_unread _ _)
    (Memref.IsWhole.read_unread _ _)) _

theorem leftA_product (c : Dev nD) (t : Fin grid0.N) (h0 : t.val % 5 = 0) (y : S1024x1024.Idx) :
    (leftA m (ok m) c t h0).1 y
      = k0_pay3 (F := Ideal) (k0_pay2 (iblk m (ok m) c 0 t) (iblk m (ok m) c 1 t) (iblk m (ok m) c 2 t) (iblk m (ok m) c 3 t))
          (iblk m (ok m) c 4 t) y := by
  unfold leftA
  frame_out
  exact congrFun (pay3_congr (pay2_congr (Memref.IsWhole.read_unread _ _) (Memref.IsWhole.read_unread _ _) (Memref.IsWhole.read_unread _ _)
    (Memref.IsWhole.read_unread _ _)) (Memref.IsWhole.read_unread _ _)) _

theorem leftB_scratch (c : Dev nD) (t : Fin grid0.N) (h0 : ¬t.val % 5 = 0) (xs : Vec Ideal S1024x2048 .bf16) :
    (leftB m (ok m) c t h0 xs).2 = xs := by
  unfold leftB sout0_B_0
  rfl

theorem leftB_product (c : Dev nD) (t : Fin grid0.N) (h0 : ¬t.val % 5 = 0) (xs : Vec Ideal S1024x2048 .bf16) (y : S1024x1024.Idx) :
    (leftB m (ok m) c t h0 xs).1 y = k0_pay3 (F := Ideal) xs (iblk m (ok m) c 4 t) y := by
  unfold leftB
  frame_out
  exact congrFun (pay3_congr (Memref.IsWhole.read_unread _ _) (Memref.IsWhole.read_unread _ _)) _

theorem scratch_first (c : Dev nD) (t : Fin grid0.N) (h0 : t.val % 5 = 0) (r : Fin 1024) (k : Fin 2048) :
    ((leftA m (ok m) c t h0).2 (ix2 r k) : EReal) = hArr (V m c main_v21) (V m c main_v26) (V m c main_v25) (rowOf t r) k :=
  (leftA_scratch m c t h0 (ix2 r k)).trans
    (point_h (V m c main_v21) (V m c main_v26) (V m c main_v25) (iblk m (ok m) c 0 t) (iblk m (ok m) c 1 t)
      (iblk m (ok m) c 2 t) (iblk m (ok m) c 3 t) (rowOf t r) r (fun k => blk_x m c t r k)
      (fun n => blk_g m c t n) (fun n => blk_sc m c t r n) (fun n => blk_sh m c t r n) k)

theorem scratch_first_at (c : Dev nD) (n : ℕ) (hn : n < grid0.N) (h0 : n % 5 = 0) :
    (outsAt0 m (ok m) c n hn).2 = (leftA m (ok m) c ⟨n, hn⟩ h0).2 :=
  congrArg Prod.snd (outsAt0_A m (ok m) c ⟨n, hn⟩ h0)

theorem scratch_later (c : Dev nD) (n : ℕ) (hn : n + 1 < grid0.N) (h0 : ¬(n + 1) % 5 = 0) :
    (outsAt0 m (ok m) c (n + 1) hn).2 = (outsAt0 m (ok m) c n (Nat.lt_of_succ_lt hn)).2 :=
  (congrArg Prod.snd ((outsAt0_succ m (ok m) c n hn).trans (dif_neg h0))).trans (leftB_scratch m c ⟨n + 1, hn⟩ h0 _)

theorem row_later (n : ℕ) (hn : n + 1 < grid0.N) (h0 : ¬(n + 1) % 5 = 0) (r : Fin 1024) :
    rowOf ⟨n, Nat.lt_of_succ_lt hn⟩ r = rowOf ⟨n + 1, hn⟩ r := by
  refine Fin.ext ?_
  show n / 5 * 1024 + r.val = (n + 1) / 5 * 1024 + r.val
  omega

/-- What is set at the first point of every row tile, and carried through its later points, is known at every point. -/
theorem carried (S : (n : ℕ) → n < 80 → EReal) (H : Fin 80 → EReal) (first : ∀ n hn, n % 5 = 0 → S n hn = H ⟨n, hn⟩)
    (later : ∀ n hn, ¬(n + 1) % 5 = 0 → S (n + 1) hn = S n (Nat.lt_of_succ_lt hn))
    (same : ∀ n hn, ¬(n + 1) % 5 = 0 → H ⟨n, Nat.lt_of_succ_lt hn⟩ = H ⟨n + 1, hn⟩) (n : ℕ) : ∀ hn, S n hn = H ⟨n, hn⟩ := by
  induction n with
  | zero => exact fun hn => first 0 hn rfl
  | succ n ih =>
    intro hn
    by_cases h0 : (n + 1) % 5 = 0
    · exact first _ hn h0
    · exact (later n hn h0).trans ((ih _).trans (same n hn h0))

theorem scratch_at (c : Dev nD) (r : Fin 1024) (k : Fin 2048) (n : ℕ) (hn : n < grid0.N) (h0 : n % 5 = 0) :
    ((outsAt0 m (ok m) c n hn).2 (ix2 r k) : EReal) = hArr (V m c main_v21) (V m c main_v26) (V m c main_v25) (rowOf ⟨n, hn⟩ r) k :=
  (congrFun (scratch_first_at m c n hn h0) (ix2 r k)).trans (scratch_first m c ⟨n, hn⟩ h0 r k)

/-- At every point the scratch holds the modulated tokens of the point's row tile. -/
theorem scratch_apply (c : Dev nD) (r : Fin 1024) (k : Fin 2048) (n : ℕ) (hn : n < grid0.N) :
    ((outsAt0 m (ok m) c n hn).2 (ix2 r k) : EReal) = hArr (V m c main_v21) (V m c main_v26) (V m c main_v25) (rowOf ⟨n, hn⟩ r) k :=
  carried (fun n hn => (outsAt0 m (ok m) c n hn).2 (ix2 r k)) (fun t => hArr (V m c main_v21) (V m c main_v26) (V m c main_v25) (rowOf t r) k)
    (fun n hn h0 => scratch_at m c r k n hn h0) (fun n hn h0 => congrFun (scratch_later m c n hn h0) (ix2 r k))
    (fun n hn h0 => congrArg (fun q => hArr (V m c main_v21) (V m c main_v26) (V m c main_v25) q k) (row_later n hn h0 r)) n hn

theorem product_first (c : Dev nD) (t : Fin grid0.N) (h0 : t.val % 5 = 0) (r n : Fin 1024) :
    ((leftA m (ok m) c t h0).1 (ix2 r n) : EReal)
      = zArr (V m c main_v21) (V m c main_v26) (V m c main_v25) (V m c main_v18) (rowOf t r) (colOf t n) :=
  (leftA_product m c t h0 (ix2 r n)).trans
    (point_z (V m c main_v21) (V m c main_v26) (V m c main_v25) (V m c main_v18) _ (iblk m (ok m) c 4 t) (rowOf t r) (colOf t n) r n
      (fun k => (leftA_scratch m c t h0 (ix2 r k)).symm.trans (scratch_first m c t h0 r k)) (fun k => blk_w m c t k n))

theorem product_later (c : Dev nD) (t : Fin grid0.N) (h0 : ¬t.val % 5 = 0) (xs : Vec Ideal S1024x2048 .bf16) (r n : Fin 1024)
    (hs : ∀ k, (xs (ix2 r k) : EReal) = hArr (V m c main_v21) (V m c main_v26) (V m c main_v25) (rowOf t r) k) :
    ((leftB m (ok m) c t h0 xs).1 (ix2 r n) : EReal)
      = zArr (V m c main_v21) (V m c main_v26) (V m c main_v25) (V m c main_v18) (rowOf t r) (colOf t n) :=
  (leftB_product m c t h0 xs (ix2 r n)).trans
    (point_z (V m c main_v21) (V m c main_v26) (V m c main_v25) (V m c main_v18) xs (iblk m (ok m) c 4 t) (rowOf t r) (colOf t n) r n
      hs (fun k => blk_w m c t k n))

theorem row_before (t : Fin grid0.N) (h0 : ¬t.val % 5 = 0) (h : t.val - 1 < grid0.N) (r : Fin 1024) : rowOf ⟨t.val - 1, h⟩ r = rowOf t r := by
  refine Fin.ext ?_
  show (t.val - 1) / 5 * 1024 + r.val = t.val / 5 * 1024 + r.val
  omega

theorem product_apply (c : Dev nD) (t : Fin grid0.N) (r n : Fin 1024) :
    ((outsAt0 m (ok m) c t.val t.isLt).1 (ix2 r n) : EReal)
      = zArr (V m c main_v21) (V m c main_v26) (V m c main_v25) (V m c main_v18) (rowOf t r) (colOf t n) :=
  if h0 : t.val % 5 = 0 then
    (congrFun (congrArg Prod.fst (outsAt0_A m (ok m) c t h0)) (ix2 r n)).trans (product_first m c t h0 r n)
  else
    (congrFun (congrArg Prod.fst (outsAt0_B m (ok m) c t h0)) (ix2 r n)).trans
      (product_later m c t h0 _ r n fun k => (scratch_apply m c r k (t.val - 1) (Nat.lt_of_le_of_lt (Nat.sub_le _ _) t.isLt)).trans
        (congrArg (fun q => hArr (V m c main_v21) (V m c main_v26) (V m c main_v25) q k) (row_before t h0 _ r)))

theorem final_z (c : Dev nD) : (dats m (ok m) 0 c).arrAt 5 (cfgM m (ok m)).N
    = fun y : S16384x5120.Idx => zArr (V m c main_v21) (V m c main_v26) (V m c main_v25) (V m c main_v18) (y 0) (y 1) := by
  refine (dats m (ok m) 0 c).arrAt_eq_of_covers 5 _ (covers_z m) fun t hf y => ?_
  blk_simp
  rw [after0_5]
  obtain ⟨r, n, rfl⟩ : ∃ (r n : Fin 1024), y = ix2 r n := ⟨y (0 : Fin 2), y (1 : Fin 2), eta2 y⟩
  refine Eq.trans ?_ (congrArg (fun z : S16384x5120.Idx => zArr (V m c main_v21) (V m c main_v26) (V m c main_v25) (V m c main_v18)
    (z 0) (z 1)) (emb_z m t r n)).symm
  exact product_apply m c t r n
end Array

end Cert.EvenProj.Ideal

end
-- ==== Proof.Even.Args.lean ====
/- The arrays that the windows are blocks of, as the host computes them from the arguments. -/
module

public import proofs.«01_k».proof.Proof.Even.Block
public import proofs.«01_k».proof.Proof.Tok

@[expose] public section

set_option maxRecDepth 16384

noncomputable section

namespace Cert.EvenProj.Ideal

open Idealize.ShloMosaic Idealize.ShloMosaic.TcCoe Cert.EvenIdeal Cert.EvenIdeal.Gen Cert.EvenProjIdeal Cert.Seg Cert.Tok
open scoped BigOperators

theorem h_eq (X : Vec Ideal S16384x2048 .f32) (G : Vec Ideal S1x2048 .f32) (M : Vec Ideal S48x1x2048 .f32) (r : Fin 16384) (n : Fin 2048)
    (x : Fin 2048 → EReal) (g sc sh : EReal) (hx : ∀ k, X (ix2 r k) = x k) (hg : G (ix2 0 n) = g) (hsc : M (ix3 (modRow 1 r) 0 n) = sc)
    (hsh : M (ix3 (modRow 0 r) 0 n) = sh) : hArr X G M r n = norm x g sc sh n := by
  unfold hArr
  rw [hg, hsc, hsh]
  simp only [hx]

theorem z_eq (X : Vec Ideal S16384x2048 .f32) (G : Vec Ideal S1x2048 .f32) (M : Vec Ideal S48x1x2048 .f32) (W : Vec Ideal S2048x5120 .bf16)
    (r : Fin 16384) (n : Fin 5120) (h w : Fin 2048 → EReal) (hh : ∀ k, hArr X G M r k = h k) (hw : ∀ k, W (ix2 k n) = w k) :
    zArr X G M W r n = ∑ k : Fin 2048, h k * w k := by
  unfold zArr
  simp only [hh, hw]

variable (m : (ℓ : Loc nD τ sig) → Buf (Elt Ideal) ℓ) (c : Dev nD)

theorem x_apply (r : Fin 16384) (n : Fin 2048) : (V m c main_v21 (ix2 r n) : EReal)
    = tok (m ((c : Thread nD τ).loc main_arg0)) (m ((c : Thread nD τ).loc main_arg1)) r n := by
  refine Eq.trans ?_ (tok_read _ _ shapeCasts_S32x256x2048_S8192x2048 shapeCasts_S2x4096x2048_S8192x2048
    concatenates_S8192x2048_S8192x2048_S16384x2048_d0 r n)
  unfold V
  after_reads_simp
  rfl

theorem g_apply (n : Fin 2048) : (V m c main_v26 (ix2 0 n) : EReal)
    = (m ((c : Thread nD τ).loc main_arg2) : Vec Ideal S2048 .f32) (ix1 n) := by
  unfold V
  after_reads_at

/-- The weight that multiplies token lane `k` into column `n`: the first 3072 columns of the argument, then its last 1536, then the
    384 between them, then zeros. -/
def weight (w : Vec Ideal S1x2048x4992 .f32) (k : Fin 2048) (n : Fin 5120) : EReal :=
  if h : n.val < 3072 then w (ix3 0 k ⟨n.val, by omega⟩)
  else if h : n.val < 4608 then w (ix3 0 k ⟨n.val + 384, by omega⟩)
  else if h : n.val < 4992 then w (ix3 0 k ⟨n.val - 1536, by omega⟩)
  else 0

theorem pad_zero (f : FTy) : (FloatOps.sitofp (F := Ideal) f (0#32 : BitVec 32) : EReal) = 0 := by
  show (((0#32 : BitVec 32).toInt : ℝ) : EReal) = 0
  norm_num

theorem weight_read (w : Vec Ideal S1x2048x4992 .f32) (k : Fin 2048) (n : Fin 5120) :
    (pad S2048x5120 ![0, 0] ![0, 128] ![0, 0]
      (truncf (F := Idealize.ShloMosaic.Ideal) .bf16 (concatenate S2048x4992 1
        [⟨S2048x3072, extractStridedSlice S2048x3072 ![0, 0] (shapeCast S2048x4992 w shapeCasts_S1x2048x4992_S2048x4992) slices_S2048x4992_S2048x3072_0_0⟩,
         ⟨S2048x1536, extractStridedSlice S2048x1536 ![0, 3456] (shapeCast S2048x4992 w shapeCasts_S1x2048x4992_S2048x4992) slices_S2048x4992_S2048x1536_0_3456⟩,
         ⟨S2048x384, extractStridedSlice S2048x384 ![0, 3072] (shapeCast S2048x4992 w shapeCasts_S1x2048x4992_S2048x4992) slices_S2048x4992_S2048x384_0_3072⟩]
        concatenates_S2048x3072_S2048x1536_S2048x384_S2048x4992_d1 : FVec Idealize.ShloMosaic.Ideal S2048x4992 .f32) bitsLt_bf16_f32 : FVec Idealize.ShloMosaic.Ideal S2048x4992 .bf16)
      (sitofp (F := Idealize.ShloMosaic.Ideal) .bf16 (constantI S_ 32 0#32) : FVec Idealize.ShloMosaic.Ideal S_ .bf16) pads_S2048x4992_S2048x5120_000_01280 h_S_ (ix2 k n) : EReal) = weight w k n := by
  pointwise
  unfold weight
  by_cases h1 : n.val < 3072
  · rw [dif_pos (show n.val < 4992 by omega), dif_pos h1, dif_pos h1]
  · by_cases h2 : n.val < 4608
    · rw [dif_pos (show n.val < 4992 by omega), dif_neg h1, dif_pos (show n.val - 3072 < 1536 by omega), dif_neg h1, dif_pos h2]
      exact congrArg (fun i => w (ix3 0 k i)) (Fin.ext (show 3456 + (n.val - 3072) = n.val + 384 by omega))
    · by_cases h3 : n.val < 4992
      · rw [dif_pos h3, dif_neg h1, dif_neg (show ¬n.val - 3072 < 1536 by omega), dif_neg h1, dif_neg h2, dif_pos h3]
        exact congrArg (fun i => w (ix3 0 k i)) (Fin.ext (show 3072 + (n.val - 3072 - 1536) = n.val - 1536 by omega))
      · rw [dif_neg h3, dif_neg h1, dif_neg h2, dif_neg h3]
        exact pad_zero _

theorem w_apply (k : Fin 2048) (n : Fin 5120) : (V m c main_v18 (ix2 k n) : EReal)
    = weight (m ((c : Thread nD τ).loc main_arg5)) k n := by
  refine Eq.trans ?_ (weight_read _ k n)
  unfold V
  after_reads_simp
  rfl

theorem sc_apply (r : Fin 16384) (n : Fin 2048) : (V m c main_v25 (ix3 (modRow 1 r) 0 n) : EReal)
    = modAt (m ((c : Thread nD τ).loc main_arg3)) (m ((c : Thread nD τ).loc main_arg4)) 1 r n := by
  have hq : (modRow 1 r).val = rowSeg r * 6 + (1 : Fin 6).val := by
    show (segOf 8 4 (r.val / 1024) * 6 + 1) % 48 = _
    rw [seg_1024]
    unfold rowSeg
    split <;> omega
  refine Eq.trans ?_ (mod_read _ _ (broadcastInDim S5x12288 ![] bcast_S_S5x12288 (constant (F := Idealize.ShloMosaic.Ideal) S_ .f32 0x00000000#32)) bcast_S12288_S1x12288_1 concatenates_S1x12288_S2x12288_S5x12288_S8x12288_d0
    shapeCasts_S8x12288_S48x1x2048 (modRow 1 r) 1 r n hq)
  unfold V
  after_reads_simp
  rfl

theorem sh_apply (r : Fin 16384) (n : Fin 2048) : (V m c main_v25 (ix3 (modRow 0 r) 0 n) : EReal)
    = modAt (m ((c : Thread nD τ).loc main_arg3)) (m ((c : Thread nD τ).loc main_arg4)) 0 r n := by
  have hq : (modRow 0 r).val = rowSeg r * 6 + (0 : Fin 6).val := by
    show (segOf 8 4 (r.val / 1024) * 6 + 0) % 48 = rowSeg r * 6 + 0
    rw [seg_1024]
    unfold rowSeg
    split <;> omega
  refine Eq.trans ?_ (mod_read _ _ (broadcastInDim S5x12288 ![] bcast_S_S5x12288 (constant (F := Idealize.ShloMosaic.Ideal) S_ .f32 0x00000000#32)) bcast_S12288_S1x12288_1 concatenates_S1x12288_S2x12288_S5x12288_S8x12288_d0
    shapeCasts_S8x12288_S48x1x2048 (modRow 0 r) 0 r n hq)
  unfold V
  after_reads_simp
  rfl

theorem h_apply (r : Fin 16384) (n : Fin 2048) : hArr (V m c main_v21) (V m c main_v26) (V m c main_v25) r n
    = modulated (m ((c : Thread nD τ).loc main_arg0)) (m ((c : Thread nD τ).loc main_arg1)) (m ((c : Thread nD τ).loc main_arg2))
        (m ((c : Thread nD τ).loc main_arg3)) (m ((c : Thread nD τ).loc main_arg4)) 1 0 r n :=
  h_eq _ _ _ r n _ _ _ _ (x_apply m c r) (g_apply m c n) (sc_apply m c r n) (sh_apply m c r n)

/-- The product as a function of the arguments. -/
def spec (xp : Vec Ideal SP .f32) (xs : Vec Ideal SS .f32) (g : Vec Ideal S2048 .f32) (mc : Vec Ideal SM1 .f32)
    (ms : Vec Ideal SM2 .f32) (w : Vec Ideal S1x2048x4992 .f32) (r : Fin 16384) (n : Fin 5120) : EReal :=
  ∑ k : Fin 2048, modulated xp xs g mc ms 1 0 r k * weight w k n

theorem z_apply (r : Fin 16384) (n : Fin 5120) : zArr (V m c main_v21) (V m c main_v26) (V m c main_v25) (V m c main_v18) r n
    = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r n :=
  z_eq _ _ _ _ r n _ _ (h_apply m c r) (fun k => w_apply m c k n)

end Cert.EvenProj.Ideal

end
-- ==== Proof.Even.Ref.lean ====
/- The reference's product, read at an index. -/
module

public import proofs.«01_k».proof.Proof.Even.Args
public import proofs.«01_k».proof.Proof.Gen.EvenRefIdeal.Run
public import proofs.«01_k».proof.Proof.Gen.EvenRefIdeal.Read

@[expose] public section

set_option maxRecDepth 16384

noncomputable section

namespace Cert.EvenProj.Ref

open Idealize.ShloMosaic Idealize.ShloMosaic.TcCoe Cert.EvenRefIdeal Cert.EvenRefIdeal.Read Cert.Tok
open scoped BigOperators

theorem prompt_apply (xp : Vec Ideal SP .f32) (g : Vec Ideal S2048 .f32) (mc : Vec Ideal SM1 .f32) (a : Fin 32) (b : Fin 256)
    (n : Fin 2048) : (val_main_v26 (F := Ideal) xp g mc (ix3 a b n) : EReal)
      = norm (fun k => xp (ix3 a b k)) (g (ix1 n)) (mc (ix1 ⟨(1 : Fin 6).val * 2048 + n.val, by omega⟩)) (mc (ix1 ⟨(0 : Fin 6).val * 2048 + n.val, by omega⟩)) n := by
  have e0 : (⟨(0 : Fin 6).val * 2048 + n.val, by omega⟩ : Fin 12288) = ⟨n.val, by omega⟩ := Fin.ext (show 0 * 2048 + n.val = n.val by omega)
  have e1 : (⟨(1 : Fin 6).val * 2048 + n.val, by omega⟩ : Fin 12288) = ⟨2048 + n.val, by omega⟩ := Fin.ext (show 1 * 2048 + n.val = 2048 + n.val by omega)
  rw [e0, e1]
  pointwise [val_main_v26, val_main_v25, val_main_v24, val_main_v23, val_main_v22, val_main_v21, val_main_v20, val_main_v19,
    val_main_cst_2, val_main_v18, val_main_v17, val_main_v16, val_main_v15, val_main_v14, val_main_v13, val_main_v12, val_main_v11,
    val_main_cst_1, val_main_v10, val_main_v9, val_main_cst_0, val_main_v8, val_main_v7, val_main_cst, val_main_v6, val_main_v0, val_main_v1]
  rfl

theorem sample_apply (xs : Vec Ideal SS .f32) (g : Vec Ideal S2048 .f32) (ms : Vec Ideal SM2 .f32) (a : Fin 2) (b : Fin 4096)
    (n : Fin 2048) : (val_main_v54 (F := Ideal) xs g ms (ix3 a b n) : EReal)
      = norm (fun k => xs (ix3 a b k)) (g (ix1 n)) (ms (ix2 a ⟨(1 : Fin 6).val * 2048 + n.val, by omega⟩)) (ms (ix2 a ⟨(0 : Fin 6).val * 2048 + n.val, by omega⟩)) n := by
  have e0 : (⟨(0 : Fin 6).val * 2048 + n.val, by omega⟩ : Fin 12288) = ⟨n.val, by omega⟩ := Fin.ext (show 0 * 2048 + n.val = n.val by omega)
  have e1 : (⟨(1 : Fin 6).val * 2048 + n.val, by omega⟩ : Fin 12288) = ⟨2048 + n.val, by omega⟩ := Fin.ext (show 1 * 2048 + n.val = 2048 + n.val by omega)
  rw [e0, e1]
  pointwise [val_main_v54, val_main_v53, val_main_v52, val_main_v51, val_main_v50, val_main_v49, val_main_cst_6, val_main_v48, val_main_v47, val_main_v46,
    val_main_v45, val_main_v44, val_main_v43, val_main_v42, val_main_v41, val_main_cst_5, val_main_v40, val_main_v39, val_main_cst_4, val_main_v38,
    val_main_v37, val_main_cst_3, val_main_v36, val_main_v31, val_main_v30, val_main_v29]
  rfl

theorem prompt_product (xp : Vec Ideal SP .f32) (g : Vec Ideal S2048 .f32) (mc : Vec Ideal SM1 .f32) (w : Vec Ideal S1x2048x4992 .f32)
    (a : Fin 32) (b : Fin 256) (n : Fin 4992) : (val_main_v28 (F := Ideal) xp g mc w (ix3 a b n) : EReal)
      = ∑ k : Fin 2048, val_main_v26 (F := Ideal) xp g mc (ix3 a b k) * w (ix3 0 k n) := by
  pointwise [val_main_v28, val_main_v27]

theorem sample_product (xs : Vec Ideal SS .f32) (g : Vec Ideal S2048 .f32) (ms : Vec Ideal SM2 .f32) (w : Vec Ideal S1x2048x4992 .f32)
    (a : Fin 2) (b : Fin 4096) (n : Fin 4992) : (val_main_v56 (F := Ideal) xs g ms w (ix3 a b n) : EReal)
      = ∑ k : Fin 2048, val_main_v54 (F := Ideal) xs g ms (ix3 a b k) * w (ix3 0 k n) := by
  pointwise [val_main_v56, val_main_v55]

theorem rows_eq (xp : Vec Ideal SP .f32) (xs : Vec Ideal SS .f32) (g : Vec Ideal S2048 .f32)
    (mc : Vec Ideal SM1 .f32) (ms : Vec Ideal SM2 .f32) (w : Vec Ideal S1x2048x4992 .f32) (r : Fin 16384) (n : Fin 4992) :
    (val_main_v59 (F := Ideal) xp xs g mc ms w (ix2 r n) : EReal) = ∑ k : Fin 2048, modulated xp xs g mc ms 1 0 r k * w (ix3 0 k n) := by
  pointwise [val_main_v59, val_main_v57, val_main_v58]
  unfold modulated tok modAt
  by_cases h : r.val < 8192
  · simp only [dif_pos h]
    rw [prompt_product]
    simp only [prompt_apply]
  · simp only [dif_neg h]
    rw [sample_product]
    simp only [sample_apply]

theorem cols_eq (xp : Vec Ideal SP .f32) (xs : Vec Ideal SS .f32) (g : Vec Ideal S2048 .f32)
    (mc : Vec Ideal SM1 .f32) (ms : Vec Ideal SM2 .f32) (w : Vec Ideal S1x2048x4992 .f32) (r : Fin 16384) (n : Fin 5120) (q : Fin 4992)
    (hw : ∀ k, Ideal.weight w k n = w (ix3 0 k q)) :
    (val_main_v59 (F := Ideal) xp xs g mc ms w (ix2 r q) : EReal) = Ideal.spec xp xs g mc ms w r n :=
  (rows_eq xp xs g mc ms w r q).trans (Finset.sum_congr rfl fun k _ => congrArg (fun a : EReal => modulated xp xs g mc ms 1 0 r k * a) (hw k).symm)

theorem z_eq (xp : Vec Ideal SP .f32) (xs : Vec Ideal SS .f32) (g : Vec Ideal S2048 .f32)
    (mc : Vec Ideal SM1 .f32) (ms : Vec Ideal SM2 .f32) (w : Vec Ideal S1x2048x4992 .f32) (r : Fin 16384) (n : Fin 5120) :
    (val_main_v65 (F := Ideal) xp xs g mc ms w (ix2 r n) : EReal) = Ideal.spec xp xs g mc ms w r n := by
  pointwise [val_main_v65, val_main_v64, val_main_v63, val_main_v62, val_main_v61, val_main_v60, val_main_call0_v0, val_main_c]
  by_cases h1 : n.val < 3072
  · rw [dif_pos (show n.val < 4992 by omega), dif_pos h1]
    exact cols_eq xp xs g mc ms w r n _ fun k => by unfold Ideal.weight; rw [dif_pos h1]
  · by_cases h2 : n.val < 4608
    · rw [dif_pos (show n.val < 4992 by omega), dif_neg h1, dif_pos (show n.val - 3072 < 1536 by omega)]
      refine cols_eq xp xs g mc ms w r n _ fun k => ?_
      unfold Ideal.weight
      rw [dif_neg h1, dif_pos h2]
      exact congrArg (fun i => w (ix3 0 k i)) (Fin.ext (show n.val + 384 = 3456 + (n.val - 3072) by omega))
    · by_cases h3 : n.val < 4992
      · rw [dif_pos h3, dif_neg h1, dif_neg (show ¬n.val - 3072 < 1536 by omega)]
        refine cols_eq xp xs g mc ms w r n _ fun k => ?_
        unfold Ideal.weight
        rw [dif_neg h1, dif_neg h2, dif_pos h3]
        exact congrArg (fun i => w (ix3 0 k i)) (Fin.ext (show n.val - 1536 = 3072 + (n.val - 3072 - 1536) by omega))
      · rw [dif_neg h3]
        refine (Ideal.pad_zero _).trans (Finset.sum_eq_zero fun k _ => ?_).symm
        unfold Ideal.weight
        rw [dif_neg h1, dif_neg h2, dif_neg h3]
        exact mul_zero _

end Cert.EvenProj.Ref

end
-- ==== Proof.Even.Claims.lean ====
/- The claims about the even layer's input projection: its frames, and its result against the reference's over the extended reals. -/
module

public import proofs.«01_k».proof.Defs
public import proofs.«01_k».proof.Proof.Even.Table
public import proofs.«01_k».proof.Proof.Even.Ref
public import Idealize.ShloMosaic.Lib.Quiescent
public import Idealize.ShloMosaic.Lib.Pipeline.Cells

@[expose] public section

noncomputable section

namespace Cert.EvenProj

open Idealize.ShloMosaic Idealize.ShloMosaic.TcCoe Idealize.SL.Sem

theorem frame_kernel : Cert.quiescent_Even := fun m ρ _ => Cert.EvenProjBits.frame m ρ (Bits.ok m)
theorem frame_ideal : Cert.quiescent_EvenIdeal := fun m ρ _ => Cert.EvenProjIdeal.frame m ρ (Ideal.ok m)
theorem frame_ref : Cert.quiescent_EvenRefIdeal := fun m ρ _ =>
  (θ_run Cert.EvenRefIdeal.defs _ _).mono (fun r h => ⟨fun c => (h c).2, Idealize.ShloMosaic.sem_eq_zero_of_no_sems (by decide) r.2⟩)
    (Cert.EvenRefIdeal.Value.run (F := Idealize.ShloMosaic.Ideal) m ρ)

/-- What the kernel's result is shown to hold. -/
def product (m : (ℓ : Loc Cert.EvenIdeal.nD Cert.EvenIdeal.τ Cert.EvenIdeal.sig) → Buf (Elt Idealize.ShloMosaic.Ideal) ℓ) (c : Dev Cert.EvenIdeal.nD) :
    Cert.EvenIdeal.S16384x5120.Idx → EReal := fun y =>
  Ideal.spec (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (y 0) (y 1)

/-- The product's array after the run. Only the array of tokens is left unnamed. -/
theorem product_end (m : (ℓ : Loc Cert.EvenIdeal.nD Cert.EvenIdeal.τ Cert.EvenIdeal.sig) → Buf (Elt Idealize.ShloMosaic.Ideal) ℓ) (c : Dev Cert.EvenIdeal.nD)
    (f : Buf (Elt Idealize.ShloMosaic.Ideal) ((c.tc : Thread Cert.EvenIdeal.nD Cert.EvenIdeal.τ).loc Cert.EvenIdeal.main_v27_0))
    (h : ((Cert.EvenProjIdeal.dats m (Ideal.ok m) 0 c).toRForget Cert.EvenProjIdeal.forgets0).ArrAt 5 (Cert.EvenProjIdeal.cfgM m (Ideal.ok m)).N f) :
    f = product m c :=
  (((Cert.EvenProjIdeal.dats m (Ideal.ok m) 0 c).toRForget_arrAt_iff (w := 5) Cert.EvenProjIdeal.forgets0_5 _ f).mp h).trans
    ((Ideal.final_z m c).trans (funext fun y => Ideal.z_apply m c (y 0) (y 1)))

theorem algebraic : Cert.algebraic_EvenIdeal_EvenRefIdeal := by
  intro m ρ m' ρ' _ hagree
  refine ⟨fun c => product m c, ?_, ?_⟩
  · exact (θ_run Cert.EvenIdeal.defs _ _).mono (fun _ h c => ⟨product_end m c _ ((h.1 c).1 5), h.2 c⟩)
      (θ_run_and (Cert.EvenProjIdeal.run_main m ρ (Ideal.ok m)) (Cert.EvenProjIdeal.unchanged m ρ (Ideal.ok m)))
  · obtain H := Cert.EvenRefIdeal.Value.run (F := Idealize.ShloMosaic.Ideal) m' ρ'
    refine (θ_run Cert.EvenRefIdeal.defs _ _).mono (fun _ h c => ⟨(h c).1.trans ?_, (h c).2⟩) H
    refine (Cert.EvenRefIdeal.Read.val_main_v65_eq _ _).trans ?_
    obtain ⟨e0, e1, e2, e3, e4, e5⟩ := hagree c
    rw [e0, e1, e2, e3, e4, e5]
    refine funext fun y : Cert.EvenIdeal.S16384x5120.Idx => ?_
    obtain ⟨r, n, rfl⟩ : ∃ (r : Fin 16384) (n : Fin 5120), y = ix2 r n := ⟨y 0, y 1, eq_ix2 y⟩
    exact Ref.z_eq _ _ _ _ _ _ r n

end Cert.EvenProj

end
-- ==== Proof.Expert.Ideal.Frame.lean ====
module

public import proofs.«01_k».proof.Proof.Gen.ExpertIdeal.Frame.RunC
public import Idealize.ShloMosaic.Lib.Claim

/-!
The frame of the call: what each point leaves in the output's buffer and in the scratch, the obligation of the body, and the run of the whole program.
-/

@[expose] public section

set_option maxRecDepth 16384

noncomputable section

namespace Cert.PeerCallIdeal

open Cert.ExpertIdeal Cert.ExpertIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
def out0_A_6 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x2048 .bf16) (x1 : Vec F S512x1024 .bf16) (x2 : Vec F S1024x2048 .bf16) (x3 : Vec F S1024x2048 .bf16) (x4 : Vec F S512x2048 .f32) (x5 : Vec F S1x1x2048 .f32) (xt0 : TbBuf0 (F := F) c tbM0_0) : Vec F S512x2048 .f32 :=
  VO0_6.read (Elt F) (VO0_6.writes (Elt F) VO0_6.junk (kernelRun0_A c i arg3 harg3 arg4 harg4 arg5 harg5 arg6 harg6 arg7 harg7 arg8 harg8 arg9 harg9 arg10 harg10 hc0 hc1 x0 x1 x2 x3 x4 x5 xt0).1)

theorem scover0_A_0 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x2048 .bf16) (x1 : Vec F S512x1024 .bf16) (x2 : Vec F S1024x2048 .bf16) (x3 : Vec F S1024x2048 .bf16) (x4 : Vec F S512x2048 .f32) (x5 : Vec F S1x1x2048 .f32) (xt0 : TbBuf0 (F := F) c tbM0_0) (y : S512x2048.Idx) :
    ∃ pc ∈ (kernelRun0_A c i arg3 harg3 arg4 harg4 arg5 harg5 arg6 harg6 arg7 harg7 arg8 harg8 arg9 harg9 arg10 harg10 hc0 hc1 x0 x1 x2 x3 x4 x5 xt0).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4 x5 xt0).2.1 S512x2048.size (by sl_kernel_rfl) y

def sout0_A_0 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x2048 .bf16) (x1 : Vec F S512x1024 .bf16) (x2 : Vec F S1024x2048 .bf16) (x3 : Vec F S1024x2048 .bf16) (x4 : Vec F S512x2048 .f32) (x5 : Vec F S1x1x2048 .f32) (xt0 : TbBuf0 (F := F) c tbM0_0) : Vec F S512x2048 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4 x5 xt0).2.1)

def out0_B_6 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x2048 .bf16) (x1 : Vec F S512x1024 .bf16) (x2 : Vec F S1024x2048 .bf16) (x3 : Vec F S1024x2048 .bf16) (x4 : Vec F S512x2048 .f32) (x5 : Vec F S1x1x2048 .f32) (xt0 : TbBuf0 (F := F) c tbM0_0) (xs0 : Vec F S512x2048 .f32) : Vec F S512x2048 .f32 :=
  VO0_6.read (Elt F) (VO0_6.writes (Elt F) VO0_6.junk (kernelRun0_B c i arg3 harg3 arg4 harg4 arg5 harg5 arg6 harg6 arg7 harg7 arg8 harg8 arg9 harg9 arg10 harg10 hc0 hc1 x0 x1 x2 x3 x4 x5 xt0 xs0).1)

theorem scover0_B_0 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x2048 .bf16) (x1 : Vec F S512x1024 .bf16) (x2 : Vec F S1024x2048 .bf16) (x3 : Vec F S1024x2048 .bf16) (x4 : Vec F S512x2048 .f32) (x5 : Vec F S1x1x2048 .f32) (xt0 : TbBuf0 (F := F) c tbM0_0) (xs0 : Vec F S512x2048 .f32) (y : S512x2048.Idx) :
    ∃ pc ∈ (kernelRun0_B c i arg3 harg3 arg4 harg4 arg5 harg5 arg6 harg6 arg7 harg7 arg8 harg8 arg9 harg9 arg10 harg10 hc0 hc1 x0 x1 x2 x3 x4 x5 xt0 xs0).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 x5 xt0 xs0).2.1 S512x2048.size (by sl_kernel_rfl) y

def sout0_B_0 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x2048 .bf16) (x1 : Vec F S512x1024 .bf16) (x2 : Vec F S1024x2048 .bf16) (x3 : Vec F S1024x2048 .bf16) (x4 : Vec F S512x2048 .f32) (x5 : Vec F S1x1x2048 .f32) (xt0 : TbBuf0 (F := F) c tbM0_0) (xs0 : Vec F S512x2048 .f32) : Vec F S512x2048 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 x5 xt0 xs0).2.1)

theorem cover0_C_6 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x1024 .bf16) (x2 : Vec F S1024x2048 .bf16) (x3 : Vec F S1024x2048 .bf16) (x4 : Vec F S512x2048 .f32) (x5 : Vec F S1x1x2048 .f32) (xt0 : TbBuf0 (F := F) c tbM0_0) (xs0 : Vec F S512x2048 .f32) (y : S512x2048.Idx) :
    ∃ pc ∈ (kernelRun0_C c i arg3 harg3 arg4 harg4 arg5 harg5 arg6 harg6 arg7 harg7 arg8 harg8 arg9 harg9 arg10 harg10 hc0 hc1 x0 x1 x2 x3 x4 x5 xt0 xs0).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 x5 xt0 xs0).1 S512x2048.size (by sl_kernel_rfl) y

def out0_C_6 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x1024 .bf16) (x2 : Vec F S1024x2048 .bf16) (x3 : Vec F S1024x2048 .bf16) (x4 : Vec F S512x2048 .f32) (x5 : Vec F S1x1x2048 .f32) (xt0 : TbBuf0 (F := F) c tbM0_0) (xs0 : Vec F S512x2048 .f32) : Vec F S512x2048 .f32 :=
  VO0_6.read (Elt F) (VO0_6.writes (Elt F) VO0_6.junk (kernelRun0_C c i arg3 harg3 arg4 harg4 arg5 harg5 arg6 harg6 arg7 harg7 arg8 harg8 arg9 harg9 arg10 harg10 hc0 hc1 x0 x1 x2 x3 x4 x5 xt0 xs0).1)

theorem scover0_C_0 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x1024 .bf16) (x2 : Vec F S1024x2048 .bf16) (x3 : Vec F S1024x2048 .bf16) (x4 : Vec F S512x2048 .f32) (x5 : Vec F S1x1x2048 .f32) (xt0 : TbBuf0 (F := F) c tbM0_0) (xs0 : Vec F S512x2048 .f32) (y : S512x2048.Idx) :
    ∃ pc ∈ (kernelRun0_C c i arg3 harg3 arg4 harg4 arg5 harg5 arg6 harg6 arg7 harg7 arg8 harg8 arg9 harg9 arg10 harg10 hc0 hc1 x0 x1 x2 x3 x4 x5 xt0 xs0).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 x5 xt0 xs0).2.1 S512x2048.size (by sl_kernel_rfl) y

def sout0_C_0 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x1024 .bf16) (x2 : Vec F S1024x2048 .bf16) (x3 : Vec F S1024x2048 .bf16) (x4 : Vec F S512x2048 .f32) (x5 : Vec F S1x1x2048 .f32) (xt0 : TbBuf0 (F := F) c tbM0_0) (xs0 : Vec F S512x2048 .f32) : Vec F S512x2048 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 x5 xt0 xs0).2.1)

/-- What the body leaves, in the output's buffer and in the scratch, at the first block of experts. -/
def leftA (hO : Ok m) (c : Dev nD) (t : Fin (cfgM m hO).N) (h0 : t.val % 16 = 0) (h1 : ¬t.val % 16 = 15) : Vec F S512x2048 .f32 × Vec F S512x2048 .f32 :=
  (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0))

/-- What the body leaves, in the output's buffer and in the scratch, at a later block of experts, from what the scratch holds. -/
def leftB (hO : Ok m) (c : Dev nD) (t : Fin (cfgM m hO).N) (h0 : ¬t.val % 16 = 0) (h1 : ¬t.val % 16 = 15) (xs : Vec F S512x2048 .f32) : Vec F S512x2048 .f32 × Vec F S512x2048 .f32 :=
  (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (tbl m 0) xs, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (tbl m 0) xs)

/-- What the body leaves, in the output's buffer and in the scratch, at the last block of experts, from what the scratch holds. -/
def leftC (hO : Ok m) (c : Dev nD) (t : Fin (cfgM m hO).N) (h0 : ¬t.val % 16 = 0) (h1 : t.val % 16 = 15) (xs : Vec F S512x2048 .f32) : Vec F S512x2048 .f32 × Vec F S512x2048 .f32 :=
  (out0_C_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) xs, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) xs)

/-- What the body leaves, point by point. -/
def outsAt0 (hO : Ok m) (c : Dev nD) : (n : ℕ) → n < (cfgM m hO).N → Vec F S512x2048 .f32 × Vec F S512x2048 .f32
  | 0, hn => leftA m hO c ⟨0, hn⟩ (Nat.zero_mod _) (fun h => by (try dsimp only at h); omega)
  | n + 1, hn =>
    if h0 : (n + 1) % 16 = 0 then
      leftA m hO c ⟨n + 1, hn⟩ h0 (fun h => by (try dsimp only at h); omega)
    else
      if h1 : (n + 1) % 16 = 15 then leftC m hO c ⟨n + 1, hn⟩ h0 h1 (outsAt0 hO c n (Nat.lt_of_succ_lt hn)).2
      else leftB m hO c ⟨n + 1, hn⟩ h0 h1 (outsAt0 hO c n (Nat.lt_of_succ_lt hn)).2

theorem outsAt0_succ (hO : Ok m) (c : Dev nD) (n : ℕ) (hn : n + 1 < (cfgM m hO).N) :
    outsAt0 m hO c (n + 1) hn = if h0 : (n + 1) % 16 = 0 then leftA m hO c ⟨n + 1, hn⟩ h0 (fun h => by (try dsimp only at h); omega)
      else if h1 : (n + 1) % 16 = 15 then leftC m hO c ⟨n + 1, hn⟩ h0 h1 (outsAt0 m hO c n (Nat.lt_of_succ_lt hn)).2
      else leftB m hO c ⟨n + 1, hn⟩ h0 h1 (outsAt0 m hO c n (Nat.lt_of_succ_lt hn)).2 := by
  rw [outsAt0]

theorem outsAt0_A (hO : Ok m) (c : Dev nD) (t : Fin (cfgM m hO).N) (h0 : t.val % 16 = 0) (h1 : ¬t.val % 16 = 15) :
    outsAt0 m hO c t.val t.isLt = leftA m hO c t h0 h1 := by
  obtain ⟨n, hn⟩ := t
  cases n with
  | zero => rw [outsAt0]
  | succ n =>
    rw [outsAt0_succ]
    exact dif_pos h0

theorem outsAt0_B (hO : Ok m) (c : Dev nD) (t : Fin (cfgM m hO).N) (h0 : ¬t.val % 16 = 0) (h1 : ¬t.val % 16 = 15) :
    outsAt0 m hO c t.val t.isLt = leftB m hO c t h0 h1 (outsAt0 m hO c (t.val - 1) (Nat.lt_of_le_of_lt (Nat.sub_le _ _) t.isLt)).2 := by
  obtain ⟨n, hn⟩ := t
  cases n with
  | zero => exact absurd (Nat.zero_mod _) h0
  | succ n =>
    rw [outsAt0_succ]
    exact (dif_neg h0).trans (dif_neg h1)

theorem outsAt0_C (hO : Ok m) (c : Dev nD) (t : Fin (cfgM m hO).N) (h0 : ¬t.val % 16 = 0) (h1 : t.val % 16 = 15) :
    outsAt0 m hO c t.val t.isLt = leftC m hO c t h0 h1 (outsAt0 m hO c (t.val - 1) (Nat.lt_of_le_of_lt (Nat.sub_le _ _) t.isLt)).2 := by
  obtain ⟨n, hn⟩ := t
  cases n with
  | zero => exact absurd (Nat.zero_mod _) h0
  | succ n =>
    rw [outsAt0_succ]
    exact (dif_neg h0).trans (dif_pos h1)

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

set_option maxHeartbeats 9600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 256 := lt_of_lt_of_eq t.isLt (show (cfgM m hO).N = 256 from N_0)
  by_cases h0 : t.val % 16 = 0
  · by_cases h1 : t.val % 16 = 15
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [Dat.leavesExact_idle (dats m hO 0 c) 6 t (idleAt0_6_A m hO t ((hcond0_0 t).mpr h0) (fun h => h1 ((hcond0_1 t).mp h))) (noFlush0_6_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold leftA
        unfold sout0_A_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HT0]; · iexact HT0
        iintro ⟨H0, H1, H2, H3, H4, H5, H6, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m hO c t, PhiS_pos m hO c _ _ hz, PhiT0_eq]
        rw [outsAt0_A m hO c t h0 h1]
        unfold leftA
        unfold sout0_A_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HT0]; · iexact HT0
        iintro ⟨H0, H1, H2, H3, H4, H5, H6, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 16 = 15
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6_C m hO t (fun h => h0 ((hcond0_0 t).mp h)) ((hcond0_1 t).mpr h1)]; try rfl, after0_6]
      by_cases hz : t.val = 0
      · exfalso; have hN : t.val < 256 := lt_of_lt_of_eq t.isLt (show (cfgM m hO).N = 256 from N_0); omega
      · rw [PhiS_castSucc m hO c t, PhiS_pos m hO c _ _ hz, PhiT0_eq]
        rw [outsAt0_C m hO c t h0 h1]
        unfold leftC
        unfold out0_C_6 sout0_C_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HT0]; · iexact HT0
        iintro ⟨H0, H1, H2, H3, H4, H5, ⟨%e6, H6⟩, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [Dat.leavesExact_idle (dats m hO 0 c) 6 t (idleAt0_6_B m hO t (fun h => h0 ((hcond0_0 t).mp h)) (fun h => h1 ((hcond0_1 t).mp h))) (noFlush0_6_B m hO t (fun h => h0 ((hcond0_0 t).mp h)) (fun h => h1 ((hcond0_1 t).mp h)))]
      by_cases hz : t.val = 0
      · exfalso; have hN : t.val < 256 := lt_of_lt_of_eq t.isLt (show (cfgM m hO).N = 256 from N_0); omega
      · rw [PhiS_castSucc m hO c t, PhiS_pos m hO c _ _ hz, PhiT0_eq]
        rw [outsAt0_B m hO c t h0 h1]
        unfold leftB
        unfold sout0_B_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (tbl m 0) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HT0]; · iexact HT0
        iintro ⟨H0, H1, H2, H3, H4, H5, H6, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 256 := N_0; omega)
set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.PeerCallIdeal

end
-- ==== Proof.Expert.TableIdeal.lean ====
/- The table of segments, as the host computes it. -/
module

public import proofs.«01_k».proof.Proof.Expert.Ideal.Frame
public import proofs.«01_k».proof.Proof.Seg
public import Idealize.ShloMosaic.Lib.StableHlo.ReadAt
public import Idealize.ShloMosaic.Lib.Pointwise
public import Idealize.ShloMosaic.Lib.Pipeline.ValueKit.Geometry

@[expose] public section

set_option maxRecDepth 16384

noncomputable section

namespace Cert.Peer.Ideal

open Idealize.ShloMosaic Idealize.ShloMosaic.TcCoe Cert.ExpertIdeal Cert.ExpertIdeal.Gen Cert.Seg

variable {F : FTy → Type} [FloatOps F] (m : (ℓ : Loc nD τ sig) → Buf (Elt F) ℓ) (c : Dev nD)

theorem table_apply (i : Fin 32) : (V m c main_v5 (ix1 i) : BitVec 32) = BitVec.ofNat 32 (segOf 16 8 i) := by
  unfold V
  after_reads_at
  simp only [id, constantI]
  exact segWord_512 i

theorem off_eq : ∀ i : grid0.Coords, k0_off1 i = ![(i 0).val] := fun i => by
  have h : ∀ a : Fin 16, (![(Scalar.indexCast (Scalar.addi (0#32 : BitVec 32) (BitVec.ofNat 32 a.val)) : Index).toNat] : Fin 1 → Nat) = ![a.val] := by
    decide +kernel
  exact h (i 0)

theorem word_apply (i : grid0.Coords) :
    (tbl m).at 0 (Rect.unit (s := S32) (k0_off1 i) S1.size (k0_off1_inb i)) numel1_S1 = BitVec.ofNat 32 (segOf 16 8 (i 0)) := by
  refine Eq.trans ?_ (table_apply m 0 ⟨(i 0).val, Nat.lt_trans (i 0).isLt (by decide)⟩)
  refine congrArg (V m 0 main_v5) (funext fun (a : Fin 1) => ?_)
  obtain rfl : a = 0 := Subsingleton.elim _ _
  refine Fin.ext ?_
  show k0_off1 i 0 + 1 * 0 = (i 0).val
  rw [off_eq]
  rfl

theorem index_gate (i : grid0.Coords) :
    cc0_transform_5 k0_off1_inb numel1_S1 (tbl m) i = ![segOf 16 8 (i 0) * 6 + 5, 0, 0] := by
  have e : cc0_transform_5 k0_off1_inb numel1_S1 (tbl m) i
      = ![(Scalar.addi (Scalar.muli ((tbl m).at 0 (Rect.unit (s := S32) (k0_off1 i) S1.size (k0_off1_inb i)) numel1_S1) 6#32) 5#32).toNat, 0, 0] := rfl
  rw [e, word_apply]
  have key : ∀ a : Fin 16, (![(Scalar.addi (Scalar.muli (BitVec.ofNat 32 (segOf 16 8 a)) 6#32) 5#32).toNat, (0#32 : BitVec 32).toNat, (0#32 : BitVec 32).toNat] : Fin 3 → Nat) = ![segOf 16 8 a * 6 + 5, 0, 0] := by
    decide +kernel
  exact key (i 0)

/-- The blocks that the table chooses lie in the array of modulations. -/
theorem ok : Ok m := fun i =>
  ⟨by
    rw [index_gate]
    have key : ∀ (a : Fin 16), ∀ x, ((![segOf 16 8 a * 6 + 5, 0, 0] : Fin 3 → Nat) x + 1) * S1x1x2048.size x ≤ S48x1x2048.size x := by
      decide +kernel
    exact key (i 0), .inl rfl⟩

end Cert.Peer.Ideal

end
-- ==== Proof.Expert.Math.lean ====
/- The sum over all experts of gated values is the sum over the chosen ones: the gate of an expert is the sum of the gates of the
   choices that name it. -/
module

public import Idealize.ShloMosaic.Lib.Pointwise
public import Idealize.ShloMosaic.PureOps.Ideal.Laws

@[expose] public section

noncomputable section

namespace Cert.PeerMath

open Idealize.ShloMosaic
open scoped BigOperators

/-- Expert `e` of block `b` of the experts. -/
def expertOf (b : ℕ) (e : Fin 1024) : Fin 16384 := ⟨(b * 1024 + e.val) % 16384, Nat.mod_lt _ (by decide)⟩

/-- The gate of expert `e`, where `ids` are the experts chosen and `g` the gates of the choices. -/
def gateSum (ids : Fin 128 → BitVec 32) (g : Fin 128 → EReal) (e : Fin 16384) : EReal :=
  ∑ j : Fin 128, if ids j = BitVec.ofNat 32 e.val then g j else 0

/-- The activation of a score. -/
def act (h : EReal) : EReal :=
  Ideal.ofBits .f32 0x3F000000#32 * h * (1 + Ideal.erf (h * Ideal.ofBits .f32 0x3F3504F3#32))

theorem sum_mul_nonneg {ι : Type} (s : Finset ι) (f : ι → EReal) (hf : ∀ i, 0 ≤ f i) (c : EReal) :
    (∑ i ∈ s, f i) * c = ∑ i ∈ s, f i * c := by
  classical
  induction s using Finset.induction_on with
  | empty => rw [Finset.sum_empty, Finset.sum_empty, zero_mul]
  | insert a s ha ih =>
    rw [Finset.sum_insert ha, Finset.sum_insert ha, EReal.right_distrib_of_nonneg (hf a) (Finset.sum_nonneg fun i _ => hf i), ih]

theorem sum_blocks (f : Fin 16384 → EReal) :
    ∑ b ∈ Finset.range 16, ∑ e : Fin 1024, f (expertOf b e) = ∑ e : Fin 16384, f e := by
  rw [Finset.sum_range (fun b => ∑ e : Fin 1024, f (expertOf b e)), ← Fintype.sum_prod_type' (fun (b : Fin 16) (e : Fin 1024) => f (expertOf b.val e))]
  refine Fintype.sum_equiv (finProdFinEquiv (m := 16) (n := 1024)) _ _ fun x => congrArg f (Fin.ext ?_)
  obtain ⟨b, e⟩ := x
  show (b.val * 1024 + e.val) % 16384 = e.val + 1024 * b.val
  omega

theorem word_eq {a : BitVec 32} (ha : a.toNat < 16384) (e : Fin 16384) : a = BitVec.ofNat 32 e.val ↔ e = ⟨a.toNat, ha⟩ := by
  constructor
  · intro h
    refine Fin.ext ?_
    have := e.isLt
    show e.val = a.toNat
    rw [h, BitVec.toNat_ofNat]
    omega
  · rintro rfl
    exact (BitVec.ofNat_toNat _ _).symm ▸ (BitVec.setWidth_eq _).symm

/-- The sum over the blocks of experts is the sum over the choices. -/
theorem gated (ids : Fin 128 → BitVec 32) (g : Fin 128 → EReal) (A V : Fin 16384 → EReal) (hid : ∀ j, (ids j).toNat < 16384)
    (hg : ∀ j, 0 ≤ g j) :
    ∑ b ∈ Finset.range 16, ∑ e : Fin 1024, A (expertOf b e) * gateSum ids g (expertOf b e) * V (expertOf b e)
      = ∑ j : Fin 128, g j * A ⟨(ids j).toNat, hid j⟩ * V ⟨(ids j).toNat, hid j⟩ := by
  rw [sum_blocks (fun e => A e * gateSum ids g e * V e)]
  have h : ∀ e : Fin 16384, A e * gateSum ids g e * V e
      = ∑ j : Fin 128, (if ids j = BitVec.ofNat 32 e.val then g j else 0) * (A e * V e) := fun e => by
    rw [mul_comm (A e), mul_assoc]
    refine sum_mul_nonneg _ _ (fun j => ?_) _
    split
    · exact hg j
    · exact le_refl _
  rw [Finset.sum_congr rfl fun e _ => h e, Finset.sum_comm]
  refine Finset.sum_congr rfl fun j _ => ?_
  rw [Finset.sum_eq_single (⟨(ids j).toNat, hid j⟩ : Fin 16384)]
  · rw [if_pos ((word_eq (hid j) _).mpr rfl), mul_assoc]
  · intro e _ he
    rw [if_neg fun h => he ((word_eq (hid j) e).mp h), zero_mul]
  · exact fun h => absurd (Finset.mem_univ _) h

end Cert.PeerMath

end
-- ==== Proof.Expert.Block.lean ====
/- What each grid point leaves in the scratch: the sum over the blocks of experts so far. From it, the whole output. -/
module

public import proofs.«01_k».proof.Proof.Expert.TableIdeal
public import proofs.«01_k».proof.Proof.Expert.Math
public import proofs.«01_k».proof.Proof.Tok
public import Idealize.ShloMosaic.Lib.Pipeline.ValueKit.Geometry
public import Idealize.ShloMosaic.Lib.Pipeline.ValueKit.Tiles
public import Idealize.ShloMosaic.Lib.Pipeline.ValueKit.Acc
public import Idealize.ShloMosaic.Lib.Pipeline.ReadBack

@[expose] public section

set_option maxRecDepth 16384

noncomputable section

namespace Cert.Peer.Ideal

open Idealize.ShloMosaic Idealize.ShloMosaic.TcCoe Cert.ExpertIdeal Cert.ExpertIdeal.Gen Cert.PeerCallIdeal Cert.Seg Cert.Tok Cert.PeerMath
open scoped BigOperators

theorem pay1_apply (r : Fin 512) (n : Fin 2048) : (k0_pay1 (F := Idealize.ShloMosaic.Ideal) (ix2 r n) : EReal) = 0 := by
  pointwise [k0_pay1]

theorem pay2_apply (x : Vec Ideal S512x2048 .bf16) (u : Vec Ideal S1024x2048 .bf16) (g : Vec Ideal S512x1024 .bf16)
    (a : Vec Ideal S512x2048 .f32) (v : Vec Ideal S1024x2048 .bf16) (r : Fin 512) (n : Fin 2048) :
    (k0_pay2 x u g a v (ix2 r n) : EReal)
      = a (ix2 r n) + ∑ e : Fin 1024, act (∑ k : Fin 2048, x (ix2 r k) * u (ix2 e k)) * g (ix2 r e) * v (ix2 e n) := by
  pointwise [k0_pay2]
  rfl

theorem pay3_apply (x : Vec Ideal S512x2048 .f32) (g : Vec Ideal S1x1x2048 .f32) (a : Vec Ideal S512x2048 .f32) (r : Fin 512) (n : Fin 2048) :
    (k0_pay3 x g a (ix2 r n) : EReal) = x (ix2 r n) + g (ix3 0 0 n) * a (ix2 r n) := by
  pointwise [k0_pay3]

theorem pay2_congr {a a' : Vec Ideal S512x2048 .bf16} {b b' : Vec Ideal S1024x2048 .bf16} {c c' : Vec Ideal S512x1024 .bf16}
    {d d' : Vec Ideal S512x2048 .f32} {e e' : Vec Ideal S1024x2048 .bf16}
    (ha : a = a') (hb : b = b') (hc : c = c') (hd : d = d') (he : e = e') : k0_pay2 a b c d e = k0_pay2 a' b' c' d' e' := by
  subst ha hb hc hd he; rfl

theorem pay3_congr {a a' : Vec Ideal S512x2048 .f32} {b b' : Vec Ideal S1x1x2048 .f32} {c c' : Vec Ideal S512x2048 .f32}
    (ha : a = a') (hb : b = b') (hc : c = c') : k0_pay3 a b c = k0_pay3 a' b' c' := by subst ha hb hc; rfl

theorem eta2 (y : S512x2048.Idx) : y = ix2 (y 0) (y 1) := funext fun (a : Fin 2) => match a with | 0 => rfl | 1 => rfl

section Left
variable (m : (ℓ : Loc nD τ sig) → Buf (Elt Ideal) ℓ)

theorem leftA_scratch (c : Dev nD) (t : Fin grid0.N) (h0 : t.val % 16 = 0) (h1 : ¬t.val % 16 = 15) (y : S512x2048.Idx) :
    (leftA m (ok m) c t h0 h1).2 y
      = k0_pay2 (F := Ideal) (iblk m (ok m) c 0 t) (iblk m (ok m) c 2 t) (iblk m (ok m) c 1 t) (k0_pay1 (F := Ideal)) (iblk m (ok m) c 3 t) y := by
  unfold leftA
  frame_out
  exact congrFun (pay2_congr (Memref.IsWhole.read_unread _ _) (Memref.IsWhole.read_unread _ _) (Memref.IsWhole.read_unread _ _)
    rfl (Memref.IsWhole.read_unread _ _)) _

theorem leftB_scratch (c : Dev nD) (t : Fin grid0.N) (h0 : ¬t.val % 16 = 0) (h1 : ¬t.val % 16 = 15) (xs : Vec Ideal S512x2048 .f32) (y : S512x2048.Idx) :
    (leftB m (ok m) c t h0 h1 xs).2 y
      = k0_pay2 (F := Ideal) (iblk m (ok m) c 0 t) (iblk m (ok m) c 2 t) (iblk m (ok m) c 1 t) xs (iblk m (ok m) c 3 t) y := by
  unfold leftB
  frame_out
  exact congrFun (pay2_congr (Memref.IsWhole.read_unread _ _) (Memref.IsWhole.read_unread _ _) (Memref.IsWhole.read_unread _ _)
    (Memref.IsWhole.read_unread _ _) (Memref.IsWhole.read_unread _ _)) _

theorem leftC_scratch (c : Dev nD) (t : Fin grid0.N) (h0 : ¬t.val % 16 = 0) (h1 : t.val % 16 = 15) (xs : Vec Ideal S512x2048 .f32) (y : S512x2048.Idx) :
    (leftC m (ok m) c t h0 h1 xs).2 y
      = k0_pay2 (F := Ideal) (iblk m (ok m) c 0 t) (iblk m (ok m) c 2 t) (iblk m (ok m) c 1 t) xs (iblk m (ok m) c 3 t) y := by
  unfold leftC
  frame_out
  exact congrFun (pay2_congr (Memref.IsWhole.read_unread _ _) (Memref.IsWhole.read_unread _ _) (Memref.IsWhole.read_unread _ _)
    (Memref.IsWhole.read_unread _ _) (Memref.IsWhole.read_unread _ _)) _

theorem leftC_out (c : Dev nD) (t : Fin grid0.N) (h0 : ¬t.val % 16 = 0) (h1 : t.val % 16 = 15) (xs : Vec Ideal S512x2048 .f32) (y : S512x2048.Idx) :
    (leftC m (ok m) c t h0 h1 xs).1 y
      = k0_pay3 (F := Ideal) (iblk m (ok m) c 4 t) (iblk m (ok m) c 5 t)
          (k0_pay2 (F := Ideal) (iblk m (ok m) c 0 t) (iblk m (ok m) c 2 t) (iblk m (ok m) c 1 t) xs (iblk m (ok m) c 3 t)) y := by
  unfold leftC
  frame_out
  exact congrFun (pay3_congr (Memref.IsWhole.read_unread _ _) (Memref.IsWhole.read_unread _ _)
    (pay2_congr (Memref.IsWhole.read_unread _ _) (Memref.IsWhole.read_unread _ _) (Memref.IsWhole.read_unread _ _)
    (Memref.IsWhole.read_unread _ _) (Memref.IsWhole.read_unread _ _))) _

theorem index_x : ∀ t : Fin grid0.N, cc0_transform_0 (grid0.coords t) = ![t.val / 16, 0] := by decide +kernel
theorem index_g : ∀ t : Fin grid0.N, cc0_transform_1 (grid0.coords t) = ![t.val / 16, t.val % 16] := by decide +kernel
theorem index_u : ∀ t : Fin grid0.N, cc0_transform_2 (grid0.coords t) = ![t.val % 16, 0] := by decide +kernel
theorem index_v : ∀ t : Fin grid0.N, cc0_transform_3 (grid0.coords t) = ![t.val % 16, 0] := by decide +kernel
theorem index_r : ∀ t : Fin grid0.N, cc0_transform_4 (grid0.coords t) = ![t.val / 16, 0] := by decide +kernel
theorem index_o : ∀ t : Fin grid0.N, cc0_transform_6 (grid0.coords t) = ![t.val / 16, 0] := by decide +kernel
theorem coord_row : ∀ t : Fin grid0.N, ((grid0.coords t) 0).val = t.val / 16 := by decide +kernel

theorem lt_N (t : Fin grid0.N) : t.val < 256 := t.isLt

/-- A row of the modulations. -/
def modRow (p : Nat) (r : Fin 16384) : Fin 48 := ⟨(segOf 16 8 (r.val / 512) * 6 + p) % 48, Nat.mod_lt _ (by decide)⟩

/-- Row `r` of the row tile `a`. -/
def rowOf (a : ℕ) (r : Fin 512) : Fin 16384 := ⟨(a * 512 + r.val) % 16384, Nat.mod_lt _ (by decide)⟩

/-- A row of the output, as a row of all tokens. -/
def up (r : Fin 8192) : Fin 16384 := ⟨r.val, by omega⟩

/-- Row `r` of the block of the output at point `t`. -/
def outRow (t : Fin grid0.N) (r : Fin 512) : Fin 8192 := ⟨t.val / 16 * 512 + r.val, by have := lt_N t; omega⟩

theorem rowOf_val (t : Fin grid0.N) (r : Fin 512) : (rowOf (t.val / 16) r).val = t.val / 16 * 512 + r.val := by
  have := lt_N t
  show (t.val / 16 * 512 + r.val) % 16384 = _
  omega

theorem up_outRow (t : Fin grid0.N) (r : Fin 512) : up (outRow t r) = rowOf (t.val / 16) r := Fin.ext (rowOf_val t r).symm

theorem expertOf_val (t : Fin grid0.N) (e : Fin 1024) : (expertOf (t.val % 16) e).val = t.val % 16 * 1024 + e.val := by
  show (t.val % 16 * 1024 + e.val) % 16384 = _
  omega

/-- What the block `b` of experts adds to the row `q`. -/
def blockSum (X : Vec Ideal S16384x2048 .bf16) (G : Vec Ideal S16384x16384 .bf16) (U W : Vec Ideal S16384x2048 .bf16) (q : Fin 16384)
    (n : Fin 2048) (b : ℕ) : EReal :=
  ∑ e : Fin 1024, act (∑ k : Fin 2048, X (ix2 q k) * U (ix2 (expertOf b e) k)) * G (ix2 q (expertOf b e)) * W (ix2 (expertOf b e) n)

/-- The whole output. -/
def outArr (X : Vec Ideal S16384x2048 .bf16) (G : Vec Ideal S16384x16384 .bf16) (U W : Vec Ideal S16384x2048 .bf16)
    (R : Vec Ideal S16384x2048 .f32) (M : Vec Ideal S48x1x2048 .f32) (q : Fin 16384) (n : Fin 2048) : EReal :=
  R (ix2 q n) + M (ix3 (modRow 5 q) 0 n) * ∑ b ∈ Finset.range 16, blockSum X G U W q n b

theorem point_block (X : Vec Ideal S16384x2048 .bf16) (G : Vec Ideal S16384x16384 .bf16) (U W : Vec Ideal S16384x2048 .bf16)
    (x : Vec Ideal S512x2048 .bf16) (u : Vec Ideal S1024x2048 .bf16) (g : Vec Ideal S512x1024 .bf16)
    (a : Vec Ideal S512x2048 .f32) (w : Vec Ideal S1024x2048 .bf16) (q : Fin 16384) (b : ℕ) (r : Fin 512) (n : Fin 2048)
    (hx : ∀ k, x (ix2 r k) = X (ix2 q k)) (hu : ∀ e k, u (ix2 e k) = U (ix2 (expertOf b e) k))
    (hg : ∀ e, g (ix2 r e) = G (ix2 q (expertOf b e))) (hw : ∀ e, w (ix2 e n) = W (ix2 (expertOf b e) n)) :
    (k0_pay2 x u g a w (ix2 r n) : EReal) = a (ix2 r n) + blockSum X G U W q n b := by
  rw [pay2_apply]
  simp only [hx, hu, hg, hw]
  rfl

theorem point_out (X : Vec Ideal S16384x2048 .bf16) (G : Vec Ideal S16384x16384 .bf16) (U W : Vec Ideal S16384x2048 .bf16)
    (R : Vec Ideal S16384x2048 .f32) (M : Vec Ideal S48x1x2048 .f32) (x : Vec Ideal S512x2048 .f32) (g : Vec Ideal S1x1x2048 .f32)
    (a : Vec Ideal S512x2048 .f32) (q : Fin 16384) (r : Fin 512) (n : Fin 2048) (hx : x (ix2 r n) = R (ix2 q n))
    (hg : g (ix3 0 0 n) = M (ix3 (modRow 5 q) 0 n)) (ha : a (ix2 r n) = ∑ b ∈ Finset.range 16, blockSum X G U W q n b) :
    (k0_pay3 x g a (ix2 r n) : EReal) = outArr X G U W R M q n := by
  rw [pay3_apply, hx, hg, ha]
  rfl

theorem seg_row (t : Fin grid0.N) (r : Fin 512) : (modRow 5 (rowOf (t.val / 16) r)).val = segOf 16 8 (t.val / 16) * 6 + 5 := by
  have h := lt_N t
  have e : (rowOf (t.val / 16) r).val / 512 = t.val / 16 := by rw [rowOf_val]; omega
  show (segOf 16 8 ((rowOf (t.val / 16) r).val / 512) * 6 + 5) % 48 = _
  rw [e, Nat.mod_eq_of_lt]
  unfold segOf
  split <;> omega

theorem emb_x (t : Fin grid0.N) (r : Fin 512) (n : Fin 2048) :
    (((cfgM m (ok m)).win 0).blk t).view.emb (ix2 r n) = ix2 (rowOf (t.val / 16) r) (n) := by
  refine funext fun (a : Fin 2) => Fin.ext ?_
  match a with
  | 0 => show cc0_transform_0 (grid0.coords t) 0 * 512 + 1 * r.val = (rowOf (t.val / 16) r).val
         rw [index_x, rowOf_val]; show t.val / 16 * 512 + 1 * r.val = _; omega
  | 1 => show cc0_transform_0 (grid0.coords t) 1 * 2048 + 1 * n.val = (n).val
         rw [index_x]; show 0 * 2048 + 1 * n.val = _; omega

theorem emb_g (t : Fin grid0.N) (r : Fin 512) (n : Fin 1024) :
    (((cfgM m (ok m)).win 1).blk t).view.emb (ix2 r n) = ix2 (rowOf (t.val / 16) r) (expertOf (t.val % 16) n) := by
  refine funext fun (a : Fin 2) => Fin.ext ?_
  match a with
  | 0 => show cc0_transform_1 (grid0.coords t) 0 * 512 + 1 * r.val = (rowOf (t.val / 16) r).val
         rw [index_g, rowOf_val]; show t.val / 16 * 512 + 1 * r.val = _; omega
  | 1 => show cc0_transform_1 (grid0.coords t) 1 * 1024 + 1 * n.val = (expertOf (t.val % 16) n).val
         rw [index_g, expertOf_val]; show t.val % 16 * 1024 + 1 * n.val = _; omega

theorem emb_u (t : Fin grid0.N) (r : Fin 1024) (n : Fin 2048) :
    (((cfgM m (ok m)).win 2).blk t).view.emb (ix2 r n) = ix2 (expertOf (t.val % 16) r) (n) := by
  refine funext fun (a : Fin 2) => Fin.ext ?_
  match a with
  | 0 => show cc0_transform_2 (grid0.coords t) 0 * 1024 + 1 * r.val = (expertOf (t.val % 16) r).val
         rw [index_u, expertOf_val]; show t.val % 16 * 1024 + 1 * r.val = _; omega
  | 1 => show cc0_transform_2 (grid0.coords t) 1 * 2048 + 1 * n.val = (n).val
         rw [index_u]; show 0 * 2048 + 1 * n.val = _; omega

theorem emb_v (t : Fin grid0.N) (r : Fin 1024) (n : Fin 2048) :
    (((cfgM m (ok m)).win 3).blk t).view.emb (ix2 r n) = ix2 (expertOf (t.val % 16) r) (n) := by
  refine funext fun (a : Fin 2) => Fin.ext ?_
  match a with
  | 0 => show cc0_transform_3 (grid0.coords t) 0 * 1024 + 1 * r.val = (expertOf (t.val % 16) r).val
         rw [index_v, expertOf_val]; show t.val % 16 * 1024 + 1 * r.val = _; omega
  | 1 => show cc0_transform_3 (grid0.coords t) 1 * 2048 + 1 * n.val = (n).val
         rw [index_v]; show 0 * 2048 + 1 * n.val = _; omega

theorem emb_r (t : Fin grid0.N) (r : Fin 512) (n : Fin 2048) :
    (((cfgM m (ok m)).win 4).blk t).view.emb (ix2 r n) = ix2 (rowOf (t.val / 16) r) (n) := by
  refine funext fun (a : Fin 2) => Fin.ext ?_
  match a with
  | 0 => show cc0_transform_4 (grid0.coords t) 0 * 512 + 1 * r.val = (rowOf (t.val / 16) r).val
         rw [index_r, rowOf_val]; show t.val / 16 * 512 + 1 * r.val = _; omega
  | 1 => show cc0_transform_4 (grid0.coords t) 1 * 2048 + 1 * n.val = (n).val
         rw [index_r]; show 0 * 2048 + 1 * n.val = _; omega

theorem emb_o (t : Fin grid0.N) (r : Fin 512) (n : Fin 2048) :
    (((cfgM m (ok m)).win 6).blk t).view.emb (ix2 r n) = ix2 (outRow t r) (n) := by
  refine funext fun (a : Fin 2) => Fin.ext ?_
  match a with
  | 0 => show cc0_transform_6 (grid0.coords t) 0 * 512 + 1 * r.val = (outRow t r).val
         rw [index_o]; show t.val / 16 * 512 + 1 * r.val = t.val / 16 * 512 + r.val; omega
  | 1 => show cc0_transform_6 (grid0.coords t) 1 * 2048 + 1 * n.val = (n).val
         rw [index_o]; show 0 * 2048 + 1 * n.val = _; omega

theorem emb_m (t : Fin grid0.N) (r : Fin 512) (n : Fin 2048) :
    (((cfgM m (ok m)).win 5).blk t).view.emb (ix3 0 0 n) = ix3 (modRow 5 (rowOf (t.val / 16) r)) 0 n := by
  refine funext fun (a : Fin 3) => Fin.ext ?_
  match a with
  | 0 => show cc0_transform_5 k0_off1_inb numel1_S1 (tbl m) (grid0.coords t) 0 * 1 + 1 * 0 = (modRow 5 (rowOf (t.val / 16) r)).val
         rw [index_gate, seg_row t r, ← coord_row t]; show (segOf 16 8 ((grid0.coords t) 0).val * 6 + 5) * 1 + 1 * 0 = _; omega
  | 1 => show cc0_transform_5 k0_off1_inb numel1_S1 (tbl m) (grid0.coords t) 1 * 1 + 1 * 0 = 0
         rw [index_gate]; rfl
  | 2 => show cc0_transform_5 k0_off1_inb numel1_S1 (tbl m) (grid0.coords t) 2 * 2048 + 1 * n.val = n.val
         rw [index_gate]; show 0 * 2048 + 1 * n.val = _; omega

theorem covers_o : ((cfgM m (ok m)).win 6).Covers := by
  refine ⟨(by decide : ∀ a : Fin 2, 0 < S512x2048.size a), fun β => ?_⟩
  have h0 : (β (0 : Fin 2)).val < 16 := Nat.lt_of_lt_of_eq (β (0 : Fin 2)).isLt (show (8192 + 512 - 1) / 512 = 16 by decide)
  have h1 : (β (1 : Fin 2)).val < 1 := Nat.lt_of_lt_of_eq (β (1 : Fin 2)).isLt (show (2048 + 2048 - 1) / 2048 = 1 by decide)
  have hN : (β (0 : Fin 2)).val * 16 + 15 < 256 := by omega
  refine ⟨(⟨(β (0 : Fin 2)).val * 16 + 15, hN⟩ : Fin grid0.N), (flush0_6 _ _).2 (show ((β (0 : Fin 2)).val * 16 + 15) % 16 = 15 by omega),
    fun (a : Fin 2) => ⟨?_, Or.inl rfl⟩⟩
  match a with
  | 0 => show cc0_transform_6 (grid0.coords _) 0 = _
         rw [index_o]; show ((β (0 : Fin 2)).val * 16 + 15) / 16 = (β (0 : Fin 2)).val; omega
  | 1 => show cc0_transform_6 (grid0.coords (⟨(β (0 : Fin 2)).val * 16 + 15, hN⟩ : Fin grid0.N)) 1 = _
         rw [index_o]; show 0 = (β (1 : Fin 2)).val; omega

theorem blk_x (c : Dev nD) (t : Fin grid0.N) (r : Fin 512) (n : Fin 2048) :
    (iblk m (ok m) c 0 t : Vec Ideal S512x2048 .bf16) (ix2 r n) = V m c main_v26 (ix2 (rowOf (t.val / 16) r) (n)) := by
  rw [← emb_x m t r n]; rfl

theorem blk_g (c : Dev nD) (t : Fin grid0.N) (r : Fin 512) (n : Fin 1024) :
    (iblk m (ok m) c 1 t : Vec Ideal S512x1024 .bf16) (ix2 r n) = V m c main_v21 (ix2 (rowOf (t.val / 16) r) (expertOf (t.val % 16) n)) := by
  rw [← emb_g m t r n]; rfl

theorem blk_u (c : Dev nD) (t : Fin grid0.N) (r : Fin 1024) (n : Fin 2048) :
    (iblk m (ok m) c 2 t : Vec Ideal S1024x2048 .bf16) (ix2 r n) = V m c main_v27 (ix2 (expertOf (t.val % 16) r) (n)) := by
  rw [← emb_u m t r n]; rfl

theorem blk_v (c : Dev nD) (t : Fin grid0.N) (r : Fin 1024) (n : Fin 2048) :
    (iblk m (ok m) c 3 t : Vec Ideal S1024x2048 .bf16) (ix2 r n) = V m c main_v28 (ix2 (expertOf (t.val % 16) r) (n)) := by
  rw [← emb_v m t r n]; rfl

theorem blk_r (c : Dev nD) (t : Fin grid0.N) (r : Fin 512) (n : Fin 2048) :
    (iblk m (ok m) c 4 t : Vec Ideal S512x2048 .f32) (ix2 r n) = V m c main_v31 (ix2 (rowOf (t.val / 16) r) (n)) := by
  rw [← emb_r m t r n]; rfl

theorem blk_m (c : Dev nD) (t : Fin grid0.N) (r : Fin 512) (n : Fin 2048) :
    (iblk m (ok m) c 5 t : Vec Ideal S1x1x2048 .f32) (ix3 0 0 n) = V m c main_v35 (ix3 (modRow 5 (rowOf (t.val / 16) r)) 0 n) := by
  rw [← emb_m m t r n]; rfl

/-- What a point's sum is, of what the scratch held before. -/
theorem step (c : Dev nD) (t : Fin grid0.N) (xs : Vec Ideal S512x2048 .f32) (r : Fin 512) (n : Fin 2048) :
    (k0_pay2 (F := Ideal) (iblk m (ok m) c 0 t) (iblk m (ok m) c 2 t) (iblk m (ok m) c 1 t) xs (iblk m (ok m) c 3 t) (ix2 r n) : EReal)
      = xs (ix2 r n) + blockSum (V m c main_v26) (V m c main_v21) (V m c main_v27) (V m c main_v28) (rowOf (t.val / 16) r) n (t.val % 16) :=
  point_block (V m c main_v26) (V m c main_v21) (V m c main_v27) (V m c main_v28) (iblk m (ok m) c 0 t) (iblk m (ok m) c 2 t)
    (iblk m (ok m) c 1 t) xs (iblk m (ok m) c 3 t) (rowOf (t.val / 16) r) (t.val % 16) r n (fun k => blk_x m c t r k)
    (fun e k => blk_u m c t e k) (fun e => blk_g m c t r e) (fun e => blk_v m c t e n)

end Left

end Cert.Peer.Ideal

end
-- ==== Proof.Expert.Sum.lean ====
/- The scratch after every grid point, and the whole output. -/
module

public import proofs.«01_k».proof.Proof.Expert.Block

@[expose] public section

set_option maxRecDepth 16384

noncomputable section

namespace Cert.Peer.Ideal

open Idealize.ShloMosaic Idealize.ShloMosaic.TcCoe Cert.ExpertIdeal Cert.ExpertIdeal.Gen Cert.PeerCallIdeal Cert.Seg Cert.Tok Cert.PeerMath
open scoped BigOperators

section Left
variable (m : (ℓ : Loc nD τ sig) → Buf (Elt Ideal) ℓ)

attribute [local irreducible] outsAt0

/-- A sum that starts at the first point of every row tile and gains a term at each of its later points. -/
theorem carried (S : (n : ℕ) → n < 256 → EReal) (B : ℕ → ℕ → EReal) (first : ∀ n hn, n % 16 = 0 → S n hn = 0 + B (n / 16) (n % 16))
    (later : ∀ n hn, ¬(n + 1) % 16 = 0 → S (n + 1) hn = S n (Nat.lt_of_succ_lt hn) + B ((n + 1) / 16) ((n + 1) % 16)) (n : ℕ) :
    ∀ hn, S n hn = ∑ b ∈ Finset.range (n % 16 + 1), B (n / 16) b := by
  have start : ∀ k, k % 16 = 0 → (0 : EReal) + B (k / 16) (k % 16) = ∑ b ∈ Finset.range (k % 16 + 1), B (k / 16) b := by
    intro k hk
    rw [hk, Finset.sum_range_one, zero_add]
  induction n with
  | zero => exact fun hn => (first 0 hn rfl).trans (start 0 rfl)
  | succ n ih =>
    intro hn
    by_cases h0 : (n + 1) % 16 = 0
    · exact (first _ hn h0).trans (start _ h0)
    · have e1 : (n + 1) % 16 = n % 16 + 1 := by omega
      have e2 : (n + 1) / 16 = n / 16 := by omega
      rw [later n hn h0, ih _, e1, e2, Finset.sum_range_succ _ (n % 16 + 1)]

/-- What the scratch holds at row `r` and lane `k` after a point. -/
def held (c : Dev nD) (r : Fin 512) (k : Fin 2048) (n : ℕ) (hn : n < grid0.N) : EReal := (outsAt0 m (ok m) c n hn).2 (ix2 r k)

theorem held_first (c : Dev nD) (r : Fin 512) (k : Fin 2048) (n : ℕ) (hn : n < grid0.N) (h0 : n % 16 = 0) :
    held m c r k n hn = 0 + blockSum (V m c main_v26) (V m c main_v21) (V m c main_v27) (V m c main_v28) (rowOf (n / 16) r) k (n % 16) :=
  (congrFun (congrArg Prod.snd (outsAt0_A m (ok m) c ⟨n, hn⟩ h0 (by show ¬n % 16 = 15; omega))) (ix2 r k)).trans
    ((leftA_scratch m c ⟨n, hn⟩ h0 (by show ¬n % 16 = 15; omega) (ix2 r k)).trans
      ((step m c ⟨n, hn⟩ (k0_pay1 (F := Ideal)) r k).trans (congrArg (· + _) (pay1_apply r k))))

theorem later_C (c : Dev nD) (n : ℕ) (hn : n + 1 < grid0.N) (h0 : ¬(n + 1) % 16 = 0) (h1 : (n + 1) % 16 = 15) :
    outsAt0 m (ok m) c (n + 1) hn = leftC m (ok m) c ⟨n + 1, hn⟩ h0 h1 (outsAt0 m (ok m) c n (Nat.lt_of_succ_lt hn)).2 :=
  ((outsAt0_succ m (ok m) c n hn).trans (dif_neg h0)).trans (dif_pos h1)

theorem later_B (c : Dev nD) (n : ℕ) (hn : n + 1 < grid0.N) (h0 : ¬(n + 1) % 16 = 0) (h1 : ¬(n + 1) % 16 = 15) :
    outsAt0 m (ok m) c (n + 1) hn = leftB m (ok m) c ⟨n + 1, hn⟩ h0 h1 (outsAt0 m (ok m) c n (Nat.lt_of_succ_lt hn)).2 :=
  ((outsAt0_succ m (ok m) c n hn).trans (dif_neg h0)).trans (dif_neg h1)

theorem step_C (c : Dev nD) (t : Fin grid0.N) (h0 : ¬t.val % 16 = 0) (h1 : t.val % 16 = 15) (xs : Vec Ideal S512x2048 .f32) (r : Fin 512)
    (k : Fin 2048) : ((leftC m (ok m) c t h0 h1 xs).2 (ix2 r k) : EReal) = xs (ix2 r k)
      + blockSum (V m c main_v26) (V m c main_v21) (V m c main_v27) (V m c main_v28) (rowOf (t.val / 16) r) k (t.val % 16) :=
  (leftC_scratch m c t h0 h1 xs (ix2 r k)).trans (step m c t xs r k)

theorem step_B (c : Dev nD) (t : Fin grid0.N) (h0 : ¬t.val % 16 = 0) (h1 : ¬t.val % 16 = 15) (xs : Vec Ideal S512x2048 .f32) (r : Fin 512)
    (k : Fin 2048) : ((leftB m (ok m) c t h0 h1 xs).2 (ix2 r k) : EReal) = xs (ix2 r k)
      + blockSum (V m c main_v26) (V m c main_v21) (V m c main_v27) (V m c main_v28) (rowOf (t.val / 16) r) k (t.val % 16) :=
  (leftB_scratch m c t h0 h1 xs (ix2 r k)).trans (step m c t xs r k)

theorem glue_C (c : Dev nD) (t : Fin grid0.N) (h0 : ¬t.val % 16 = 0) (h1 : t.val % 16 = 15)
    (o : Vec Ideal S512x2048 .f32 × Vec Ideal S512x2048 .f32) (xs : Vec Ideal S512x2048 .f32) (e : o = leftC m (ok m) c t h0 h1 xs)
    (r : Fin 512) (k : Fin 2048) : (o.2 (ix2 r k) : EReal) = xs (ix2 r k) + blockSum (V m c main_v26) (V m c main_v21) (V m c main_v27) (V m c main_v28) (rowOf (t.val / 16) r) k (t.val % 16) := by
  rw [e]
  exact step_C m c t h0 h1 xs r k

theorem held_C (c : Dev nD) (r : Fin 512) (k : Fin 2048) (n : ℕ) (hn : n + 1 < grid0.N) (h0 : ¬(n + 1) % 16 = 0) (h1 : (n + 1) % 16 = 15) :
    held m c r k (n + 1) hn = held m c r k n (Nat.lt_of_succ_lt hn) + blockSum (V m c main_v26) (V m c main_v21) (V m c main_v27) (V m c main_v28) (rowOf ((n + 1) / 16) r) k ((n + 1) % 16) := by
  have e := later_C m c n hn h0 h1
  unfold held
  generalize outsAt0 m (ok m) c (n + 1) hn = o at e ⊢
  generalize outsAt0 m (ok m) c n _ = o' at e ⊢
  exact glue_C m c ⟨n + 1, hn⟩ h0 h1 o o'.2 e r k

theorem glue_B (c : Dev nD) (t : Fin grid0.N) (h0 : ¬t.val % 16 = 0) (h1 : ¬t.val % 16 = 15)
    (o : Vec Ideal S512x2048 .f32 × Vec Ideal S512x2048 .f32) (xs : Vec Ideal S512x2048 .f32) (e : o = leftB m (ok m) c t h0 h1 xs)
    (r : Fin 512) (k : Fin 2048) : (o.2 (ix2 r k) : EReal) = xs (ix2 r k) + blockSum (V m c main_v26) (V m c main_v21) (V m c main_v27) (V m c main_v28) (rowOf (t.val / 16) r) k (t.val % 16) := by
  rw [e]
  exact step_B m c t h0 h1 xs r k

theorem held_B (c : Dev nD) (r : Fin 512) (k : Fin 2048) (n : ℕ) (hn : n + 1 < grid0.N) (h0 : ¬(n + 1) % 16 = 0) (h1 : ¬(n + 1) % 16 = 15) :
    held m c r k (n + 1) hn = held m c r k n (Nat.lt_of_succ_lt hn) + blockSum (V m c main_v26) (V m c main_v21) (V m c main_v27) (V m c main_v28) (rowOf ((n + 1) / 16) r) k ((n + 1) % 16) := by
  have e := later_B m c n hn h0 h1
  unfold held
  generalize outsAt0 m (ok m) c (n + 1) hn = o at e ⊢
  generalize outsAt0 m (ok m) c n _ = o' at e ⊢
  exact glue_B m c ⟨n + 1, hn⟩ h0 h1 o o'.2 e r k

theorem held_later (c : Dev nD) (r : Fin 512) (k : Fin 2048) (n : ℕ) (hn : n + 1 < grid0.N) (h0 : ¬(n + 1) % 16 = 0) :
    held m c r k (n + 1) hn = held m c r k n (Nat.lt_of_succ_lt hn) + blockSum (V m c main_v26) (V m c main_v21) (V m c main_v27) (V m c main_v28) (rowOf ((n + 1) / 16) r) k ((n + 1) % 16) :=
  if h1 : (n + 1) % 16 = 15 then held_C m c r k n hn h0 h1 else held_B m c r k n hn h0 h1

/-- At every point the scratch holds the sum over the blocks of experts up to the point's. -/
theorem held_apply (c : Dev nD) (r : Fin 512) (k : Fin 2048) (n : ℕ) (hn : n < grid0.N) :
    held m c r k n hn = ∑ b ∈ Finset.range (n % 16 + 1), blockSum (V m c main_v26) (V m c main_v21) (V m c main_v27) (V m c main_v28) (rowOf (n / 16) r) k b :=
  carried (held m c r k) (fun a b => blockSum (V m c main_v26) (V m c main_v21) (V m c main_v27) (V m c main_v28) (rowOf a r) k b)
    (fun n hn h0 => held_first m c r k n hn h0) (fun n hn h0 => held_later m c r k n hn h0) n hn

theorem out_apply (c : Dev nD) (t : Fin grid0.N) (h1 : t.val % 16 = 15) (r : Fin 512) (n : Fin 2048) :
    ((outsAt0 m (ok m) c t.val t.isLt).1 (ix2 r n) : EReal) = outArr (V m c main_v26) (V m c main_v21) (V m c main_v27) (V m c main_v28) (V m c main_v31) (V m c main_v35) (rowOf (t.val / 16) r) n := by
  have h0 : ¬t.val % 16 = 0 := by omega
  have hs := held_apply m c r n t.val t.isLt
  unfold held at hs
  rw [congrFun (congrArg Prod.snd (outsAt0_C m (ok m) c t h0 h1)) (ix2 r n), leftC_scratch m c t h0 h1 _ (ix2 r n), h1] at hs
  refine (congrFun (congrArg Prod.fst (outsAt0_C m (ok m) c t h0 h1)) (ix2 r n)).trans ((leftC_out m c t h0 h1 _ (ix2 r n)).trans ?_)
  exact point_out (V m c main_v26) (V m c main_v21) (V m c main_v27) (V m c main_v28) (V m c main_v31) (V m c main_v35)
    (iblk m (ok m) c 4 t) (iblk m (ok m) c 5 t) _ (rowOf (t.val / 16) r) r n (blk_r m c t r n) (blk_m m c t r n) hs

theorem final (c : Dev nD) : (dats m (ok m) 0 c).arrAt 6 (cfgM m (ok m)).N
    = fun y : S8192x2048.Idx => outArr (V m c main_v26) (V m c main_v21) (V m c main_v27) (V m c main_v28) (V m c main_v31) (V m c main_v35) (up (y 0)) (y 1) := by
  refine (dats m (ok m) 0 c).arrAt_eq_of_covers 6 _ (covers_o m) fun t hf y => ?_
  blk_simp
  rw [after0_6]
  obtain ⟨r, n, rfl⟩ : ∃ (r : Fin 512) (n : Fin 2048), y = ix2 r n := ⟨y (0 : Fin 2), y (1 : Fin 2), eta2 y⟩
  refine Eq.trans ?_ (congrArg (fun z : S8192x2048.Idx => outArr (V m c main_v26) (V m c main_v21) (V m c main_v27) (V m c main_v28) (V m c main_v31) (V m c main_v35)
    (up (z 0)) (z 1)) (emb_o m t r n)).symm
  refine (out_apply m c t ((flush0_6 _ t).1 hf) r n).trans ?_
  exact congrArg (fun q => outArr (V m c main_v26) (V m c main_v21) (V m c main_v27) (V m c main_v28) (V m c main_v31) (V m c main_v35) q n) (up_outRow t r).symm

end Left

end Cert.Peer.Ideal

end
-- ==== Proof.Expert.Args.lean ====
/- The arrays that the windows are blocks of, as the host computes them from the arguments. -/
module

public import proofs.«01_k».proof.Proof.Expert.Sum

@[expose] public section

set_option maxRecDepth 16384

noncomputable section

namespace Cert.Peer.Ideal

open Idealize.ShloMosaic Idealize.ShloMosaic.TcCoe Cert.ExpertIdeal Cert.ExpertIdeal.Gen Cert.Seg Cert.Tok Cert.PeerMath
open scoped BigOperators

variable (m : (ℓ : Loc nD τ sig) → Buf (Elt Ideal) ℓ) (c : Dev nD)

theorem x_apply (r : Fin 16384) (n : Fin 2048) : (V m c main_v26 (ix2 r n) : EReal)
    = tok (m ((c : Thread nD τ).loc main_arg0)) (m ((c : Thread nD τ).loc main_arg1)) r n := by
  refine Eq.trans ?_ (tok_read _ _ shapeCasts_S32x256x2048_S8192x2048 shapeCasts_S2x4096x2048_S8192x2048
    concatenates_S8192x2048_S8192x2048_S16384x2048_d0 r n)
  unfold V
  after_reads_simp
  rfl

theorem res_apply (r : Fin 16384) (n : Fin 2048) : (V m c main_v31 (ix2 r n) : EReal)
    = tok (m ((c : Thread nD τ).loc main_arg4)) (m ((c : Thread nD τ).loc main_arg5)) r n := by
  refine Eq.trans ?_ (tok_read _ _ shapeCasts_S32x256x2048_S8192x2048 shapeCasts_S2x4096x2048_S8192x2048
    concatenates_S8192x2048_S8192x2048_S16384x2048_d0 r n)
  unfold V
  after_reads_simp
  rfl

theorem u_apply (e : Fin 16384) (n : Fin 2048) : (V m c main_v27 (ix2 e n) : EReal)
    = (m ((c : Thread nD τ).loc main_arg8) : Vec Ideal S16384x2048 .f32) (ix2 e n) := by
  unfold V
  after_reads_at

theorem v_apply (e : Fin 16384) (n : Fin 2048) : (V m c main_v28 (ix2 e n) : EReal)
    = (m ((c : Thread nD τ).loc main_arg9) : Vec Ideal S16384x2048 .f32) (ix2 e n) := by
  unfold V
  after_reads_at

theorem mod_apply (r : Fin 16384) (n : Fin 2048) : (V m c main_v35 (ix3 (modRow 5 r) 0 n) : EReal)
    = modAt (m ((c : Thread nD τ).loc main_arg6)) (m ((c : Thread nD τ).loc main_arg7)) 5 r n := by
  have hq : (modRow 5 r).val = rowSeg r * 6 + (5 : Fin 6).val := by
    show (segOf 16 8 (r.val / 512) * 6 + 5) % 48 = _
    rw [seg_512]
    unfold rowSeg
    split <;> omega
  refine Eq.trans ?_ (mod_read _ _ (broadcastInDim S5x12288 ![] bcast_S_S5x12288 (constant (F := Idealize.ShloMosaic.Ideal) S_ .f32 0x00000000#32)) bcast_S12288_S1x12288_1 concatenates_S1x12288_S2x12288_S5x12288_S8x12288_d0
    shapeCasts_S8x12288_S48x1x2048 (modRow 5 r) 5 r n hq)
  unfold V
  after_reads_simp
  rfl

theorem select_eq (a b : BitVec 32) (g : EReal) :
    Scalar.select (IntOp.cmpi .eq a b) g (Ideal.ofBits .f32 0#32) = if a = b then g else 0 := by
  by_cases h : a = b
  · simp [Scalar.select, IntOp.cmpi, h]
  · have e : (a == b) = false := beq_eq_false_iff_ne.2 h
    simp [Scalar.select, IntOp.cmpi, h, e]

theorem gate_apply (r e : Fin 16384) : (V m c main_v21 (ix2 r e) : EReal)
    = gateSum (fun j => (m ((c : Thread nD τ).loc main_arg2) : IVec S16384x128 32) (ix2 r j))
        (fun j => (m ((c : Thread nD τ).loc main_arg3) : Vec Ideal S16384x128 .f32) (ix2 r j)) e := by
  unfold V
  after_reads_at
  exact Finset.sum_congr rfl fun j _ => select_eq _ _ _

/-- The output as a function of the arguments. -/
def spec (hp : Vec Ideal SP .f32) (hs : Vec Ideal SS .f32) (ids : IVec S16384x128 32) (g : Vec Ideal S16384x128 .f32)
    (xp : Vec Ideal SP .f32) (xs : Vec Ideal SS .f32) (mc : Vec Ideal SM1 .f32) (ms : Vec Ideal SM2 .f32)
    (u v : Vec Ideal S16384x2048 .f32) (r : Fin 16384) (n : Fin 2048) : EReal :=
  tok xp xs r n + modAt mc ms 5 r n * ∑ b ∈ Finset.range 16, ∑ e : Fin 1024,
    act (∑ k : Fin 2048, tok hp hs r k * u (ix2 (expertOf b e) k))
      * gateSum (fun j => ids (ix2 r j)) (fun j => g (ix2 r j)) (expertOf b e) * v (ix2 (expertOf b e) n)

theorem out_eq (X : Vec Ideal S16384x2048 .bf16) (G : Vec Ideal S16384x16384 .bf16) (U W : Vec Ideal S16384x2048 .bf16)
    (R : Vec Ideal S16384x2048 .f32) (M : Vec Ideal S48x1x2048 .f32) (r : Fin 16384) (n : Fin 2048) (x : Fin 2048 → EReal)
    (g w : Fin 16384 → EReal) (u : Fin 16384 → Fin 2048 → EReal) (y z : EReal)
    (hx : ∀ k, X (ix2 r k) = x k) (hg : ∀ e, G (ix2 r e) = g e) (hu : ∀ e k, U (ix2 e k) = u e k) (hw : ∀ e, W (ix2 e n) = w e)
    (hr : R (ix2 r n) = y) (hm : M (ix3 (modRow 5 r) 0 n) = z) :
    outArr X G U W R M r n = y + z * ∑ b ∈ Finset.range 16, ∑ e : Fin 1024,
      act (∑ k : Fin 2048, x k * u (expertOf b e) k) * g (expertOf b e) * w (expertOf b e) := by
  unfold outArr
  rw [hr, hm]
  refine congrArg (fun s => y + z * s) (Finset.sum_congr rfl fun b _ => Finset.sum_congr rfl fun e _ => ?_)
  rw [hg, hw]
  simp only [hx, hu]

theorem final_apply (r : Fin 16384) (n : Fin 2048) :
    outArr (V m c main_v26) (V m c main_v21) (V m c main_v27) (V m c main_v28) (V m c main_v31) (V m c main_v35) r n
      = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) r n :=
  out_eq (V m c main_v26) (V m c main_v21) (V m c main_v27) (V m c main_v28) (V m c main_v31) (V m c main_v35) r n
    (tok (m ((c : Thread nD τ).loc main_arg0)) (m ((c : Thread nD τ).loc main_arg1)) r)
    (gateSum (fun j => (m ((c : Thread nD τ).loc main_arg2) : IVec S16384x128 32) (ix2 r j))
      (fun j => (m ((c : Thread nD τ).loc main_arg3) : Vec Ideal S16384x128 .f32) (ix2 r j)))
    (fun e => (m ((c : Thread nD τ).loc main_arg9) : Vec Ideal S16384x2048 .f32) (ix2 e n))
    (fun e k => (m ((c : Thread nD τ).loc main_arg8) : Vec Ideal S16384x2048 .f32) (ix2 e k)) _ _
    (x_apply m c r) (gate_apply m c r) (u_apply m c) (fun e => v_apply m c e n) (res_apply m c r n) (mod_apply m c r n)

end Cert.Peer.Ideal

end
-- ==== Proof.Expert.Ref.lean ====
/- The reference's experts, read at an index: where the chosen experts exist, the rows taken are theirs. -/
module

public import proofs.«01_k».proof.Proof.Expert.Math
public import proofs.«01_k».proof.Proof.Gen.ExpertRefIdeal.Run
public import proofs.«01_k».proof.Proof.Gen.ExpertRefIdeal.Read
public import Idealize.ShloMosaic.Lib.ValueIdxCore
public import Idealize.ShloMosaic.Lib.Pointwise

@[expose] public section

set_option maxRecDepth 16384

noncomputable section

namespace Cert.PeerMath.Ref

open Idealize.ShloMosaic Idealize.ShloMosaic.TcCoe Cert.ExpertRefIdeal Cert.ExpertRefIdeal.Read
open scoped BigOperators

/-- A gather of whole rows: the row is the start index, read signed and held within the array. -/
theorem gather_apply {α : Type} (x : S16384x2048.Idx → α) (idx : IVec S8192x128x1 32) (t : Fin 8192) (j : Fin 128) (n : Fin 2048) :
    Host.gather gather_S16384x2048_S8192x128x1_S8192x128x2048_2_0_n_n_0_2_12048 x idx (ix3 t j n)
      = x (ix2 ⟨min (idx (ix3 t j 0)).toInt.toNat 16383, by omega⟩ n) := by
  unfold Host.gather
  congr 1
  funext a
  refine Fin.ext ?_
  generalize hd : gather_S16384x2048_S8192x128x1_S8192x128x2048_2_0_n_n_0_2_12048 = d
  show d.start (ix3 t j n) idx a + d.batchCoord (ix3 t j n) a + d.offCoord (ix3 t j n) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x2048_S8192x128x1_S8192x128x2048_2_0_n_n_0_2_12048.startIndexMap from List.mem_singleton.mpr rfl)]
    have hsi : gather_S16384x2048_S8192x128x1_S8192x128x2048_2_0_n_n_0_2_12048.siIdx (ix3 t j n)
        ⟨List.idxOf (0 : Fin 2) gather_S16384x2048_S8192x128x1_S8192x128x2048_2_0_n_n_0_2_12048.startIndexMap,
        List.idxOf_lt_length_iff.2 (List.mem_singleton.mpr rfl)⟩ = ix3 t j 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ gather_S16384x2048_S8192x128x1_S8192x128x2048_2_0_n_n_0_2_12048.startIndexMap by decide)]
    simp only [Nat.zero_add, Nat.add_zero]
    unfold GatherDims.offCoord
    rw [dif_pos (show (1 : Fin 2) ∈ gather_S16384x2048_S8192x128x1_S8192x128x2048_2_0_n_n_0_2_12048.sKept by decide)]
    rfl

theorem signed {a : BitVec 32} (h : a.toNat < 16384) : a.toInt = a.toNat := by
  rw [BitVec.toInt_eq_toNat_cond, if_pos (by omega)]

theorem not_neg {a : BitVec 32} (h : a.toNat < 16384) : IntOp.cmpi .slt a 0#32 = 0#1 := by
  have e := signed h
  have h2 : ¬ (a.toNat : ℤ) < 0 := by omega
  simp only [IntOp.cmpi, BitVec.slt, e, BitVec.toInt_zero, decide_eq_false h2]
  rfl

theorem in_range {a : BitVec 32} (h : a.toNat < 16384) : IntOp.andi (IntOp.cmpi .sge a 0#32) (IntOp.cmpi .sle a 16383#32) = 1#1 := by
  have e := signed h
  have h2 : (a.toNat : ℤ) ≤ 16383 := by omega
  simp [IntOp.cmpi, IntOp.andi, BitVec.sle, e, h2]

/-- A conjunction of ones is one. -/
theorem fold_one {ι : Type} (f : ι → BitVec 1) (l : List ι) (h : ∀ i ∈ l, f i = 1#1) : l.foldl (fun r i => IntOp.andi r (f i)) 1#1 = 1#1 := by
  induction l with
  | nil => rfl
  | cons a l ih =>
    rw [List.foldl_cons, h a List.mem_cons_self]
    exact ih fun i hi => h i (List.mem_cons_of_mem a hi)

/-- The word of a choice, unchanged where it isn't negative. -/
theorem index_apply (ids : IVec S16384x128 32) (t : Fin 8192) (j : Fin 128) (h : (ids (ix2 ⟨t.val, by omega⟩ j)).toNat < 16384) :
    val_main_call0_v5 (F := Ideal) ids (ix3 t j 0) = ids (ix2 ⟨t.val, by omega⟩ j) := by
  pointwise [val_main_call0_v5, val_main_call0_v4, val_main_call0_v3, val_main_call0_v1, val_main_v1, val_main_call0_v0, val_main_call0_c]
  rw [not_neg h]
  rfl

theorem select_one {α : Type} (a b : α) : Scalar.select 1#1 a b = a := rfl

section Choices
variable (ids : IVec S16384x128 32) (hid : ∀ i, (ids i).toNat < 16384)
include hid

theorem mask_apply (i : S8192x128x1.Idx) : val_main_call0_v11 (F := Ideal) ids i = 1#1 := by
  obtain ⟨t, j, rfl⟩ : ∃ (t : Fin 8192) (j : Fin 128), i = ix3 t j 0 :=
    ⟨i 0, i 1, funext fun (a : Fin 3) => match a with | 0 => rfl | 1 => rfl | 2 => Subsingleton.elim (α := Fin 1) _ _⟩
  pointwise [val_main_call0_v11, val_main_call0_v7, val_main_call0_v10, val_main_call0_v6, val_main_call0_v9, val_main_call0_v8,
    val_main_call0_c_1, val_main_call0_c_2]
  rw [index_apply ids t j (hid _)]
  exact in_range (hid _)

theorem mask_row (i : S8192x128.Idx) : val_main_call0_v12 (F := Ideal) ids i = 1#1 := by
  unfold val_main_call0_v12 Host.reduce
  exact fold_one _ _ fun n _ => mask_apply ids hid _

/-- The row taken for a choice is the chosen expert's. -/
theorem row_u (u : Vec Ideal S16384x2048 .f32) (t : Fin 8192) (j : Fin 128) (n : Fin 2048) :
    (val_main_v3 (F := Ideal) ids u (ix3 t j n) : EReal) = u (ix2 ⟨(ids (ix2 ⟨t.val, by omega⟩ j)).toNat, hid _⟩ n) := by
  have e : val_main_call0_v14 (F := Ideal) ids (ix3 t j n) = 1#1 := (val_main_call0_v14_apply (F := Ideal) ids (ix3 t j n)).trans (mask_row ids hid _)
  have e2 : (val_main_v3 (F := Ideal) ids u (ix3 t j n) : EReal) = val_main_call0_v13 (F := Ideal) ids u (ix3 t j n) := by
    rw [val_main_v3_apply, e]
    exact select_one _ _
  rw [e2]
  refine (gather_apply u (val_main_call0_v5 (F := Ideal) ids) t j n).trans (congrArg u (congrArg₂ ix2 (Fin.ext ?_) rfl))
  show min (val_main_call0_v5 (F := Ideal) ids (ix3 t j 0)).toInt.toNat 16383 = _
  rw [index_apply ids t j (hid _), signed (hid _)]
  have := hid (ix2 ⟨t.val, by omega⟩ j)
  show min ((ids (ix2 ⟨t.val, by omega⟩ j)).toNat : ℤ).toNat 16383 = (ids (ix2 ⟨t.val, by omega⟩ j)).toNat
  omega

theorem row_v (v : Vec Ideal S16384x2048 .f32) (t : Fin 8192) (j : Fin 128) (n : Fin 2048) :
    (val_main_v12 (F := Ideal) ids v (ix3 t j n) : EReal) = v (ix2 ⟨(ids (ix2 ⟨t.val, by omega⟩ j)).toNat, hid _⟩ n) := by
  have e : val_main_v12 (F := Ideal) ids v = val_main_v3 (F := Ideal) ids v := rfl
  rw [e]
  exact row_u ids hid v t j n

/-- The score of a choice: the product of the token with the chosen expert's row. -/
theorem score_apply (hp : Vec Ideal S32x256x2048 .f32) (u : Vec Ideal S16384x2048 .f32) (t : Fin 8192) (j : Fin 128) :
    (val_main_v4 (F := Ideal) hp ids u (ix2 t j) : EReal)
      = ∑ k : Fin 2048, hp (ix3 ⟨t.val / 256, by omega⟩ ⟨t.val % 256, by omega⟩ k) * u (ix2 ⟨(ids (ix2 ⟨t.val, by omega⟩ j)).toNat, hid _⟩ k) := by
  have e : (val_main_v4 (F := Ideal) hp ids u (ix2 t j) : EReal)
      = ∑ k : Fin 2048, val_main_v3 (F := Ideal) ids u (ix3 t j k) * val_main_v0 (F := Ideal) hp (ix2 t k) := by
    pointwise [val_main_v4]
  rw [e]
  refine Finset.sum_congr rfl fun k _ => ?_
  rw [row_u ids hid, mul_comm]
  refine congrArg (· * _) ?_
  pointwise [val_main_v0]

theorem act_apply (hp : Vec Ideal S32x256x2048 .f32) (u : Vec Ideal S16384x2048 .f32) (i : S8192x128.Idx) :
    (val_main_v11 (F := Ideal) hp ids u i : EReal) = act (val_main_v4 (F := Ideal) hp ids u i) := by
  pointwise [val_main_v11, val_main_v10, val_main_v9, val_main_v8, val_main_v7, val_main_v6, val_main_v5, val_main_cst, val_main_cst_0]
  unfold act
  simp only [Ideal.erfc_neg, neg_mul]

end Choices

end Cert.PeerMath.Ref

end
-- ==== Proof.Expert.Value.lean ====
/- The reference's experts give what the kernel gives, where the chosen experts exist and no gate is negative. -/
module

public import proofs.«01_k».proof.Proof.Expert.Args
public import proofs.«01_k».proof.Proof.Expert.Ref

@[expose] public section

set_option maxRecDepth 16384

noncomputable section

namespace Cert.PeerMath.Ref

open Idealize.ShloMosaic Idealize.ShloMosaic.TcCoe Cert.ExpertRefIdeal Cert.ExpertRefIdeal.Read Cert.Tok
open scoped BigOperators

theorem token (a b : Vec Ideal SP .f32) (c : Vec Ideal SS .f32) (t : Fin 8192) (n : Fin 2048) (h : a = b) :
    a (ix3 ⟨t.val / 256, by omega⟩ ⟨t.val % 256, by omega⟩ n) = tok b c (Cert.Peer.Ideal.up t) n := by
  subst h
  unfold tok
  rw [dif_pos (show (Cert.Peer.Ideal.up t).val < 8192 from t.isLt)]
  rfl

theorem sum_apply (hp : Vec Ideal SP .f32) (hs : Vec Ideal SS .f32) (ids : IVec S16384x128 32) (g : Vec Ideal S16384x128 .f32)
    (u v : Vec Ideal S16384x2048 .f32) (hid : ∀ i, (ids i).toNat < 16384) (t : Fin 8192) (n : Fin 2048) :
    (val_main_v14 (F := Ideal) hp ids g u v (ix2 t n) : EReal)
      = ∑ j : Fin 128, g (ix2 (Cert.Peer.Ideal.up t) j)
        * act (∑ k : Fin 2048, tok hp hs (Cert.Peer.Ideal.up t) k * u (ix2 ⟨(ids (ix2 (Cert.Peer.Ideal.up t) j)).toNat, hid _⟩ k))
        * v (ix2 ⟨(ids (ix2 (Cert.Peer.Ideal.up t) j)).toNat, hid _⟩ n) := by
  have e : (val_main_v14 (F := Ideal) hp ids g u v (ix2 t n) : EReal)
      = ∑ j : Fin 128, val_main_v13 (F := Ideal) hp ids g u (ix2 t j) * val_main_v12 (F := Ideal) ids v (ix3 t j n) := by
    pointwise [val_main_v14]
  have e2 : ∀ j : Fin 128, (val_main_v2 (F := Ideal) g (ix2 t j) : EReal) = g (ix2 (Cert.Peer.Ideal.up t) j) := fun j => by
    pointwise [val_main_v2]
    rfl
  rw [e]
  refine Finset.sum_congr rfl fun j _ => ?_
  rw [row_v ids hid, val_main_v13_apply, act_apply ids hid, score_apply ids hid, e2]
  simp only [token hp hp hs t _ rfl]
  rfl

theorem ref_eq_spec (hp : Vec Ideal SP .f32) (hs : Vec Ideal SS .f32) (ids : IVec S16384x128 32) (g : Vec Ideal S16384x128 .f32)
    (xp : Vec Ideal SP .f32) (xs : Vec Ideal SS .f32) (mc : Vec Ideal SM1 .f32) (ms : Vec Ideal SM2 .f32)
    (u v : Vec Ideal S16384x2048 .f32) (hid : ∀ i, (ids i).toNat < 16384) (hg : ∀ i, (0 : EReal) ≤ g i) (t : Fin 8192) (n : Fin 2048) :
    (val_main_v25 (F := Ideal) hp ids g xp mc u v (ix2 t n) : EReal)
      = Cert.Peer.Ideal.spec hp hs ids g xp xs mc ms u v (Cert.Peer.Ideal.up t) n := by
  have e15 : (val_main_v15 (F := Ideal) xp (ix2 t n) : EReal) = tok xp xs (Cert.Peer.Ideal.up t) n := by
    refine Eq.trans ?_ (token xp xp xs t n rfl)
    pointwise [val_main_v15]
  have e23 : (val_main_v23 (F := Ideal) mc (ix2 t n) : EReal) = modAt mc ms 5 (Cert.Peer.Ideal.up t) n := by
    unfold modAt
    rw [dif_pos (show (Cert.Peer.Ideal.up t).val < 8192 from t.isLt)]
    pointwise [val_main_v23, val_main_v22, val_main_v21]
  have e : (val_main_v25 (F := Ideal) hp ids g xp mc u v (ix2 t n) : EReal)
      = val_main_v15 (F := Ideal) xp (ix2 t n) + val_main_v23 (F := Ideal) mc (ix2 t n) * val_main_v14 (F := Ideal) hp ids g u v (ix2 t n) := by
    rw [val_main_v25_apply, val_main_v24_apply]
    rfl
  rw [e, e15, e23, sum_apply hp hs ids g u v hid t n]
  unfold Cert.Peer.Ideal.spec
  refine congrArg (fun s => tok xp xs (Cert.Peer.Ideal.up t) n + modAt mc ms 5 (Cert.Peer.Ideal.up t) n * s) ?_
  exact (gated (fun j => ids (ix2 (Cert.Peer.Ideal.up t) j)) (fun j => g (ix2 (Cert.Peer.Ideal.up t) j))
    (fun e => act (∑ k : Fin 2048, tok hp hs (Cert.Peer.Ideal.up t) k * u (ix2 e k))) (fun e => v (ix2 e n)) (fun j => hid _) (fun j => hg _)).symm

end Cert.PeerMath.Ref

end
-- ==== Proof.Expert.Claims.lean ====
/- The claims about the expert call: its frames, and its value against the reference's experts over the extended reals. -/
module

public import proofs.«01_k».proof.Defs
public import proofs.«01_k».proof.Proof.Gen.Pre_routed
public import proofs.«01_k».proof.Proof.Expert.Table
public import proofs.«01_k».proof.Proof.Expert.Value
public import Idealize.ShloMosaic.Lib.Quiescent

@[expose] public section

noncomputable section

namespace Cert.Peer

open Idealize.ShloMosaic Idealize.ShloMosaic.TcCoe Idealize.SL.Sem

attribute [local instance] Cert.Pre_routed.Gen.facts

theorem frame_kernel : Cert.quiescent_Expert := fun m ρ _ => Cert.PeerCall.frame m ρ (Bits.ok m)
theorem frame_ideal : Cert.quiescent_ExpertIdeal := fun m ρ _ => Cert.PeerCallIdeal.frame m ρ (Ideal.ok m)
theorem frame_ideal_pre : Cert.quiescent_ExpertIdeal_pre_routed := fun m ρ _ => Cert.PeerCallIdeal.frame m ρ (Ideal.ok m)
theorem frame_ref : Cert.quiescent_ExpertRefIdeal := fun m ρ _ =>
  (θ_run Cert.ExpertRefIdeal.defs _ _).mono (fun r h => ⟨fun c => (h c).2, Idealize.ShloMosaic.sem_eq_zero_of_no_sems (by decide) r.2⟩)
    (Cert.ExpertRefIdeal.Value.run (F := Idealize.ShloMosaic.Ideal) m ρ)
theorem frame_ref_pre : Cert.quiescent_ExpertRefIdeal_pre_routed := fun m ρ _ => frame_ref m ρ trivial

/-- An index that compares as no less than zero and below the count of experts names one of them. -/
theorem index_lt {a : BitVec 32} (h0 : IntOp.cmpi .sge a 0#32 = 1#1) (h1 : IntOp.cmpi .slt a 16384#32 = 1#1) : a.toNat < 16384 := by
  have e0 : (0 : ℤ) ≤ a.toInt := by
    by_contra hc
    have hd : decide ((0 : ℤ) ≤ a.toInt) = false := decide_eq_false hc
    simp [IntOp.cmpi, BitVec.sle, hd] at h0
  have e1 : a.toInt < 16384 := by
    by_contra hc
    have hd : decide (a.toInt < (16384 : ℤ)) = false := decide_eq_false hc
    have he : (16384#32 : BitVec 32).toInt = 16384 := by decide
    simp [IntOp.cmpi, BitVec.slt, he, hd] at h1
  have := a.isLt
  rw [BitVec.toInt_eq_toNat_cond] at e0 e1
  split at e0 <;> split at e1 <;> omega

/-- A gate that compares as no less than zero isn't negative. -/
theorem gate_nonneg {x : EReal} (h : Idealize.ShloMosaic.Ideal.cmp .oge x (Idealize.ShloMosaic.Ideal.ofBits .f32 0x00000000#32) = 1#1) : 0 ≤ x := by
  have e : Idealize.ShloMosaic.Ideal.ofBits .f32 0x00000000#32 = 0 := by simp
  rw [e] at h
  by_contra hc
  simp [Idealize.ShloMosaic.Ideal.cmp, hc] at h

/-- What the kernel's result array is shown to hold. -/
def result (m : (ℓ : Loc Cert.ExpertIdeal.nD Cert.ExpertIdeal.τ Cert.ExpertIdeal.sig) → Buf (Elt Idealize.ShloMosaic.Ideal) ℓ) (c : Dev Cert.ExpertIdeal.nD) :
    Cert.ExpertIdeal.S8192x2048.Idx → EReal := fun y =>
  Ideal.spec (m ((c.tc : Thread Cert.ExpertIdeal.nD Cert.ExpertIdeal.τ).loc Cert.ExpertIdeal.main_arg0))
    (m ((c.tc : Thread Cert.ExpertIdeal.nD Cert.ExpertIdeal.τ).loc Cert.ExpertIdeal.main_arg1))
    (m ((c.tc : Thread Cert.ExpertIdeal.nD Cert.ExpertIdeal.τ).loc Cert.ExpertIdeal.main_arg2))
    (m ((c.tc : Thread Cert.ExpertIdeal.nD Cert.ExpertIdeal.τ).loc Cert.ExpertIdeal.main_arg3))
    (m ((c.tc : Thread Cert.ExpertIdeal.nD Cert.ExpertIdeal.τ).loc Cert.ExpertIdeal.main_arg4))
    (m ((c.tc : Thread Cert.ExpertIdeal.nD Cert.ExpertIdeal.τ).loc Cert.ExpertIdeal.main_arg5))
    (m ((c.tc : Thread Cert.ExpertIdeal.nD Cert.ExpertIdeal.τ).loc Cert.ExpertIdeal.main_arg6))
    (m ((c.tc : Thread Cert.ExpertIdeal.nD Cert.ExpertIdeal.τ).loc Cert.ExpertIdeal.main_arg7))
    (m ((c.tc : Thread Cert.ExpertIdeal.nD Cert.ExpertIdeal.τ).loc Cert.ExpertIdeal.main_arg8))
    (m ((c.tc : Thread Cert.ExpertIdeal.nD Cert.ExpertIdeal.τ).loc Cert.ExpertIdeal.main_arg9)) (Ideal.up (y 0)) (y 1)

theorem algebraic : Cert.algebraic_ExpertIdeal_ExpertRefIdeal_pre_routed := by
  intro m ρ m' ρ' hpre hagree
  refine ⟨fun c => result m c, ?_, ?_⟩
  · refine (θ_run Cert.ExpertIdeal.defs _ _).mono (fun _ h c => ⟨((h.1.out_eq c 6).trans (Ideal.final m c)).trans ?_, h.2 c⟩)
      (θ_run_and (Cert.PeerCallIdeal.run_main m ρ (Ideal.ok m)) (Cert.PeerCallIdeal.unchanged m ρ (Ideal.ok m)))
    exact funext fun y => Ideal.final_apply m c (Ideal.up (y 0)) (y 1)
  · refine (θ_run Cert.ExpertRefIdeal.defs _ _).mono (fun _ h c => ⟨(h c).1.trans ?_, (h c).2⟩)
      (Cert.ExpertRefIdeal.Value.run (F := Idealize.ShloMosaic.Ideal) m' ρ')
    refine (Cert.ExpertRefIdeal.Read.val_main_v25_eq m' c).trans ?_
    obtain ⟨e0, e1, e2, e3, e4, e5, e6, e7, e8, e9⟩ := hagree c
    rw [e0, e2, e3, e4, e6, e8, e9]
    obtain ⟨p0, p1, p2⟩ := hpre c
    refine funext fun y : Cert.ExpertIdeal.S8192x2048.Idx => ?_
    obtain ⟨r, n, rfl⟩ : ∃ (r : Fin 8192) (n : Fin 2048), y = ix2 r n := ⟨y 0, y 1, eq_ix2 y⟩
    refine PeerMath.Ref.ref_eq_spec _ _ _ _ _ _ _ _ _ _ (fun i => ?_) (fun i => ?_) r n
    · exact index_lt (congrFun p0 i) (congrFun p1 i)
    · exact gate_nonneg (congrFun p2 i)

end Cert.Peer

end
-- ==== Proof.lean ====
/- The proof of the claims, put together from the claims about each call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.QueryRefIdeal.Run
public import proofs.«01_k».proof.Proof.Gen.QueryRefIdeal.Read
public import proofs.«01_k».proof.Proof.Gen.Odd
public import proofs.«01_k».proof.Proof.Gen.Odd.Skeleton
public import proofs.«01_k».proof.Proof.Gen.Odd.Launch
public import proofs.«01_k».proof.Proof.Gen.OddIdeal
public import proofs.«01_k».proof.Proof.Gen.OddIdeal.Skeleton
public import proofs.«01_k».proof.Proof.Gen.OddIdeal.Launch
public import proofs.«01_k».proof.Proof.Gen.OddRefIdeal
public import proofs.«01_k».proof.Proof.Gen.OddRefIdeal.Run
public import proofs.«01_k».proof.Proof.Gen.OddRefIdeal.Read
public import proofs.«01_k».proof.Proof.Gen.Even
public import proofs.«01_k».proof.Proof.Gen.Even.Skeleton
public import proofs.«01_k».proof.Proof.Gen.Even.Launch
public import proofs.«01_k».proof.Proof.Gen.EvenIdeal
public import proofs.«01_k».proof.Proof.Gen.EvenIdeal.Skeleton
public import proofs.«01_k».proof.Proof.Gen.EvenIdeal.Launch
public import proofs.«01_k».proof.Proof.Gen.EvenRefIdeal
public import proofs.«01_k».proof.Proof.Gen.EvenRefIdeal.Run
public import proofs.«01_k».proof.Proof.Gen.EvenRefIdeal.Read
public import proofs.«01_k».proof.Proof.Gen.Expert
public import proofs.«01_k».proof.Proof.Gen.Expert.Skeleton
public import proofs.«01_k».proof.Proof.Gen.Expert.Launch
public import proofs.«01_k».proof.Proof.Gen.Expert.Points
public import proofs.«01_k».proof.Proof.Gen.Expert.Frame.RunC
public import proofs.«01_k».proof.Proof.Gen.ExpertIdeal
public import proofs.«01_k».proof.Proof.Gen.ExpertIdeal.Skeleton
public import proofs.«01_k».proof.Proof.Gen.ExpertIdeal.Launch
public import proofs.«01_k».proof.Proof.Gen.ExpertIdeal.Points
public import proofs.«01_k».proof.Proof.Gen.ExpertIdeal.Frame.RunC
public import proofs.«01_k».proof.Proof.Gen.Pre_routed
public import proofs.«01_k».proof.Proof.Gen.ExpertRefIdeal
public import proofs.«01_k».proof.Proof.Gen.ExpertRefIdeal.Run
public import proofs.«01_k».proof.Proof.Gen.ExpertRefIdeal.Read
public import proofs.«01_k».proof.Proof.Attn.Claims
public import proofs.«01_k».proof.Proof.Out.Claims
public import proofs.«01_k».proof.Proof.Query.Claims
public import proofs.«01_k».proof.Proof.Odd.Claims
public import proofs.«01_k».proof.Proof.Even.Claims
public import proofs.«01_k».proof.Proof.Expert.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Out.Gen.facts, Cert.OutIdeal.Gen.facts, Cert.OutRefIdeal.Gen.facts,
    Cert.Query.Gen.facts, Cert.QueryIdeal.Gen.facts, Cert.QueryRefIdeal.Gen.facts,
    Cert.Odd.Gen.facts, Cert.OddIdeal.Gen.facts, Cert.OddRefIdeal.Gen.facts,
    Cert.Even.Gen.facts, Cert.EvenIdeal.Gen.facts, Cert.EvenRefIdeal.Gen.facts,
    Cert.Expert.Gen.facts, Cert.ExpertIdeal.Gen.facts, Cert.ExpertRefIdeal.Gen.facts,
    Cert.Pre_finite_scores.Gen.facts, Cert.Pre_routed.Gen.facts,
    Cert.Attn.frame_kernel, Cert.Attn.frame_ideal, Cert.Attn.frame_ideal_pre, Cert.Attn.frame_ref, Cert.Attn.frame_ref_pre,
    Cert.OutProj.frame_kernel, Cert.OutProj.frame_ideal, Cert.OutProj.frame_ref,
    Cert.QueryProj.frame_kernel, Cert.QueryProj.frame_ideal, Cert.QueryProj.frame_ref,
    Cert.OddProj.frame_kernel, Cert.OddProj.frame_ideal, Cert.OddProj.frame_ref,
    Cert.EvenProj.frame_kernel, Cert.EvenProj.frame_ideal, Cert.EvenProj.frame_ref,
    Cert.Peer.frame_kernel, Cert.Peer.frame_ideal, Cert.Peer.frame_ideal_pre, Cert.Peer.frame_ref, Cert.Peer.frame_ref_pre,
    trivial, Cert.Attn.algebraic, trivial, Cert.OutProj.algebraic, trivial, Cert.QueryProj.algebraic,
    trivial, Cert.OddProj.algebraic, trivial, Cert.EvenProj.algebraic, trivial, Cert.Peer.algebraic⟩

end Cert.Proof

end
